-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_v74) = v1 c
          ∧ r.2.mem ((c.tc : Thread Cert.ReferenceIdeal.nD Cert.ReferenceIdeal.τ).loc Cert.ReferenceIdeal.main_v76) = v2 c
          ∧ r.2.mem ((c.tc : Thread Cert.ReferenceIdeal.nD Cert.ReferenceIdeal.τ).loc Cert.ReferenceIdeal.main_v77) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v5) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v25) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v2) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v2) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v2) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_finite.lean ====
abbrev S8448x2048 : Shape := ⟨2, ![8448, 2048]⟩
abbrev S4096x17024 : Shape := ⟨2, ![4096, 17024]⟩
abbrev S4096x16384 : Shape := ⟨2, ![4096, 16384]⟩
abbrev S_ : Shape := ⟨0, ![]⟩

class Facts : Prop where
  bcast_S_S8448x2048 : S_.BroadcastsInDim S8448x2048 (![] : Fin 0 → Fin S8448x2048.rank)
  reducesTo_S8448x2048_S_d0_1 : S8448x2048.ReducesTo [0, 1] S_
  h_S_ : 0 < S_.numel

variable [Facts]

def fn_part2 {F : FTy → Type} [FloatOps F] (main_arg7 : FVec F S8448x2048 .f32) (main_arg8 : FVec F S8448x2048 .f32) (main_v33 : IVec S_ 1) : IVec S_ 1 :=
  let main_v34 : FVec F S8448x2048 .f32 := Host.absf main_arg7
  let main_cst_12 : FVec F S_ .f32 := constant S_ .f32 0x7F800000#32
  let main_v35 : FVec F S8448x2048 .f32 := broadcastInDim S8448x2048 ![] bcast_S_S8448x2048 main_cst_12
  let main_v36 : IVec S8448x2048 1 := cmpf .olt main_v34 main_v35
  let main_c_13 : IVec S_ 1 := constantI S_ 1 1#1
  let main_v37 : IVec S_ 1 := (fun x v => Host.reduce IntOp.andi x v reducesTo_S8448x2048_S_d0_1 h_S_) main_v36 main_c_13
  let main_v38 : IVec S_ 1 := andi main_v33 main_v37
  let main_v39 : FVec F S8448x2048 .f32 := Host.absf main_arg8
  let main_cst_14 : FVec F S_ .f32 := constant S_ .f32 0x7F800000#32
  let main_v40 : FVec F S8448x2048 .f32 := broadcastInDim S8448x2048 ![] bcast_S_S8448x2048 main_cst_14
  let main_v41 : IVec S8448x2048 1 := cmpf .olt main_v39 main_v40
  let main_c_15 : IVec S_ 1 := constantI S_ 1 1#1
  let main_v42 : IVec S_ 1 := (fun x v => Host.reduce IntOp.andi x v reducesTo_S8448x2048_S_d0_1 h_S_) main_v41 main_c_15
  let main_v43 : IVec S_ 1 := andi main_v38 main_v42
  main_v43

def fn_part1 {F : FTy → Type} [FloatOps F] (main_arg4 : FVec F S8448x2048 .f32) (main_arg5 : FVec F S8448x2048 .f32) (main_arg6 : FVec F S8448x2048 .f32) (main_arg7 : FVec F S8448x2048 .f32) (main_arg8 : FVec F S8448x2048 .f32) (main_v13 : IVec S_ 1) (main_v16 : IVec S8448x2048 1) : IVec S_ 1 :=
  let main_c_5 : IVec S_ 1 := constantI S_ 1 1#1
  let main_v17 : IVec S_ 1 := (fun x v => Host.reduce IntOp.andi x v reducesTo_S8448x2048_S_d0_1 h_S_) main_v16 main_c_5
  let main_v18 : IVec S_ 1 := andi main_v13 main_v17
  let main_v19 : FVec F S8448x2048 .f32 := Host.absf main_arg4
  let main_cst_6 : FVec F S_ .f32 := constant S_ .f32 0x7F800000#32
  let main_v20 : FVec F S8448x2048 .f32 := broadcastInDim S8448x2048 ![] bcast_S_S8448x2048 main_cst_6
  let main_v21 : IVec S8448x2048 1 := cmpf .olt main_v19 main_v20
  let main_c_7 : IVec S_ 1 := constantI S_ 1 1#1
  let main_v22 : IVec S_ 1 := (fun x v => Host.reduce IntOp.andi x v reducesTo_S8448x2048_S_d0_1 h_S_) main_v21 main_c_7
  let main_v23 : IVec S_ 1 := andi main_v18 main_v22
  let main_v24 : FVec F S8448x2048 .f32 := Host.absf main_arg5
  let main_cst_8 : FVec F S_ .f32 := constant S_ .f32 0x7F800000#32
  let main_v25 : FVec F S8448x2048 .f32 := broadcastInDim S8448x2048 ![] bcast_S_S8448x2048 main_cst_8
  let main_v26 : IVec S8448x2048 1 := cmpf .olt main_v24 main_v25
  let main_c_9 : IVec S_ 1 := constantI S_ 1 1#1
  let main_v27 : IVec S_ 1 := (fun x v => Host.reduce IntOp.andi x v reducesTo_S8448x2048_S_d0_1 h_S_) main_v26 main_c_9
  let main_v28 : IVec S_ 1 := andi main_v23 main_v27
  let main_v29 : FVec F S8448x2048 .f32 := Host.absf main_arg6
  let main_cst_10 : FVec F S_ .f32 := constant S_ .f32 0x7F800000#32
  let main_v30 : FVec F S8448x2048 .f32 := broadcastInDim S8448x2048 ![] bcast_S_S8448x2048 main_cst_10
  let main_v31 : IVec S8448x2048 1 := cmpf .olt main_v29 main_v30
  let main_c_11 : IVec S_ 1 := constantI S_ 1 1#1
  let main_v32 : IVec S_ 1 := (fun x v => Host.reduce IntOp.andi x v reducesTo_S8448x2048_S_d0_1 h_S_) main_v31 main_c_11
  let main_v33 : IVec S_ 1 := andi main_v28 main_v32
  fn_part2 (F := F) main_arg7 main_arg8 main_v33

def fn {F : FTy → Type} [FloatOps F] (main_arg0 : FVec F S8448x2048 .f32) (main_arg1 : FVec F S8448x2048 .f32) (main_arg2 : FVec F S8448x2048 .f32) (main_arg3 : FVec F S8448x2048 .f32) (main_arg4 : FVec F S8448x2048 .f32) (main_arg5 : FVec F S8448x2048 .f32) (main_arg6 : FVec F S8448x2048 .f32) (main_arg7 : FVec F S8448x2048 .f32) (main_arg8 : FVec F S8448x2048 .f32) (main_arg9 : FVec F S4096x17024 .f32) (main_arg10 : FVec F S4096x16384 .f32) : IVec S_ 1 :=
  let main_v0 : FVec F S8448x2048 .f32 := Host.absf main_arg0
  let main_cst : FVec F S_ .f32 := constant S_ .f32 0x7F800000#32
  let main_v1 : FVec F S8448x2048 .f32 := broadcastInDim S8448x2048 ![] bcast_S_S8448x2048 main_cst
  let main_v2 : IVec S8448x2048 1 := cmpf .olt main_v0 main_v1
  let main_c : IVec S_ 1 := constantI S_ 1 1#1
  let main_v3 : IVec S_ 1 := (fun x v => Host.reduce IntOp.andi x v reducesTo_S8448x2048_S_d0_1 h_S_) main_v2 main_c
  let main_v4 : FVec F S8448x2048 .f32 := Host.absf main_arg1
  let main_cst_0 : FVec F S_ .f32 := constant S_ .f32 0x7F800000#32
  let main_v5 : FVec F S8448x2048 .f32 := broadcastInDim S8448x2048 ![] bcast_S_S8448x2048 main_cst_0
  let main_v6 : IVec S8448x2048 1 := cmpf .olt main_v4 main_v5
  let main_c_1 : IVec S_ 1 := constantI S_ 1 1#1
  let main_v7 : IVec S_ 1 := (fun x v => Host.reduce IntOp.andi x v reducesTo_S8448x2048_S_d0_1 h_S_) main_v6 main_c_1
  let main_v8 : IVec S_ 1 := andi main_v3 main_v7
  let main_v9 : FVec F S8448x2048 .f32 := Host.absf main_arg2
  let main_cst_2 : FVec F S_ .f32 := constant S_ .f32 0x7F800000#32
  let main_v10 : FVec F S8448x2048 .f32 := broadcastInDim S8448x2048 ![] bcast_S_S8448x2048 main_cst_2
  let main_v11 : IVec S8448x2048 1 := cmpf .olt main_v9 main_v10
  let main_c_3 : IVec S_ 1 := constantI S_ 1 1#1
  let main_v12 : IVec S_ 1 := (fun x v => Host.reduce IntOp.andi x v reducesTo_S8448x2048_S_d0_1 h_S_) main_v11 main_c_3
  let main_v13 : IVec S_ 1 := andi main_v8 main_v12
  let main_v14 : FVec F S8448x2048 .f32 := Host.absf main_arg3
  let main_cst_4 : FVec F S_ .f32 := constant S_ .f32 0x7F800000#32
  let main_v15 : FVec F S8448x2048 .f32 := broadcastInDim S8448x2048 ![] bcast_S_S8448x2048 main_cst_4
  let main_v16 : IVec S8448x2048 1 := cmpf .olt main_v14 main_v15
  fn_part1 (F := F) main_arg4 main_arg5 main_arg6 main_arg7 main_arg8 main_v13 main_v16
-- ==== Kernel.lean ====
abbrev S8448x2048 : Shape := ⟨2, ![8448, 2048]⟩
abbrev S4096x17024 : Shape := ⟨2, ![4096, 17024]⟩
abbrev S4096x16384 : Shape := ⟨2, ![4096, 16384]⟩
abbrev S4096x10240 : Shape := ⟨2, ![4096, 10240]⟩
abbrev S64x2048 : Shape := ⟨2, ![64, 2048]⟩
abbrev S32x10240 : Shape := ⟨2, ![32, 10240]⟩
abbrev S32x16384 : Shape := ⟨2, ![32, 16384]⟩
abbrev S2x8x256x256 : Shape := ⟨4, ![2, 8, 256, 256]⟩
abbrev S64x256 : Shape := ⟨2, ![64, 256]⟩
abbrev S1x1x256x256 : Shape := ⟨4, ![1, 1, 256, 256]⟩
abbrev S256x256 : Shape := ⟨2, ![256, 256]⟩
abbrev S64x64 : Shape := ⟨2, ![64, 64]⟩
abbrev S128x256 : Shape := ⟨2, ![128, 256]⟩
abbrev S1x256 : Shape := ⟨2, ![1, 256]⟩

abbrev nBuf : Space → Nat
  | .hbm => 15
  | .vmem => 37
  | .smem => 0
  | _ => 0

abbrev bufTy : (tb : Table) → Fin (tcTables nBuf tb) → BufTy
  | .hbm, ⟨0, _⟩ => ⟨S8448x2048, .f32⟩
  | .hbm, ⟨1, _⟩ => ⟨S8448x2048, .f32⟩
  | .hbm, ⟨2, _⟩ => ⟨S8448x2048, .f32⟩
  | .hbm, ⟨3, _⟩ => ⟨S8448x2048, .f32⟩
  | .hbm, ⟨4, _⟩ => ⟨S8448x2048, .f32⟩
  | .hbm, ⟨5, _⟩ => ⟨S8448x2048, .f32⟩
  | .hbm, ⟨6, _⟩ => ⟨S8448x2048, .f32⟩
  | .hbm, ⟨7, _⟩ => ⟨S8448x2048, .f32⟩
  | .hbm, ⟨8, _⟩ => ⟨S8448x2048, .f32⟩
  | .hbm, ⟨9, _⟩ => ⟨S4096x17024, .f32⟩
  | .hbm, ⟨10, _⟩ => ⟨S4096x16384, .f32⟩
  | .hbm, ⟨11, _⟩ => ⟨S8448x2048, .f32⟩
  | .hbm, ⟨12, _⟩ => ⟨S8448x2048, .f32⟩
  | .hbm, ⟨13, _⟩ => ⟨S4096x10240, .bf16⟩
  | .hbm, ⟨14, _⟩ => ⟨S4096x16384, .bf16⟩
  | .local _ .vmem, ⟨0, _⟩ => ⟨S64x2048, .f32⟩
  | .local _ .vmem, ⟨1, _⟩ => ⟨S64x2048, .f32⟩
  | .local _ .vmem, ⟨2, _⟩ => ⟨S64x2048, .f32⟩
  | .local _ .vmem, ⟨3, _⟩ => ⟨S64x2048, .f32⟩
  | .local _ .vmem, ⟨4, _⟩ => ⟨S64x2048, .f32⟩
  | .local _ .vmem, ⟨5, _⟩ => ⟨S64x2048, .f32⟩
  | .local _ .vmem, ⟨6, _⟩ => ⟨S64x2048, .f32⟩
  | .local _ .vmem, ⟨7, _⟩ => ⟨S64x2048, .f32⟩
  | .local _ .vmem, ⟨8, _⟩ => ⟨S64x2048, .f32⟩
  | .local _ .vmem, ⟨9, _⟩ => ⟨S64x2048, .f32⟩
  | .local _ .vmem, ⟨10, _⟩ => ⟨S64x2048, .f32⟩
  | .local _ .vmem, ⟨11, _⟩ => ⟨S64x2048, .f32⟩
  | .local _ .vmem, ⟨12, _⟩ => ⟨S64x2048, .f32⟩
  | .local _ .vmem, ⟨13, _⟩ => ⟨S64x2048, .f32⟩
  | .local _ .vmem, ⟨14, _⟩ => ⟨S64x2048, .f32⟩
  | .local _ .vmem, ⟨15, _⟩ => ⟨S64x2048, .f32⟩
  | .local _ .vmem, ⟨16, _⟩ => ⟨S64x2048, .f32⟩
  | .local _ .vmem, ⟨17, _⟩ => ⟨S64x2048, .f32⟩
  | .local _ .vmem, ⟨18, _⟩ => ⟨S64x2048, .f32⟩
  | .local _ .vmem, ⟨19, _⟩ => ⟨S64x2048, .f32⟩
  | .local _ .vmem, ⟨20, _⟩ => ⟨S64x2048, .f32⟩
  | .local _ .vmem, ⟨21, _⟩ => ⟨S64x2048, .f32⟩
  | .local _ .vmem, ⟨22, _⟩ => ⟨S64x2048, .f32⟩
  | .local _ .vmem, ⟨23, _⟩ => ⟨S64x2048, .f32⟩
  | .local _ .vmem, ⟨24, _⟩ => ⟨S32x10240, .f32⟩
  | .local _ .vmem, ⟨25, _⟩ => ⟨S32x10240, .f32⟩
  | .local _ .vmem, ⟨26, _⟩ => ⟨S32x16384, .f32⟩
  | .local _ .vmem, ⟨27, _⟩ => ⟨S32x16384, .f32⟩
  | .local _ .vmem, ⟨28, _⟩ => ⟨S64x2048, .f32⟩
  | .local _ .vmem, ⟨29, _⟩ => ⟨S64x2048, .f32⟩
  | .local _ .vmem, ⟨30, _⟩ => ⟨S64x2048, .f32⟩
  | .local _ .vmem, ⟨31, _⟩ => ⟨S64x2048, .f32⟩
  | .local _ .vmem, ⟨32, _⟩ => ⟨S32x10240, .bf16⟩
  | .local _ .vmem, ⟨33, _⟩ => ⟨S32x10240, .bf16⟩
  | .local _ .vmem, ⟨34, _⟩ => ⟨S32x16384, .bf16⟩
  | .local _ .vmem, ⟨35, _⟩ => ⟨S32x16384, .bf16⟩
  | .local _ .vmem, ⟨36, _⟩ => ⟨S2x8x256x256, .f32⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev main_v0_2 : Ref sig .tc := ⟨.hbm, 13, rfl⟩
abbrev main_v0_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_scratch0 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35

abbrev nD : Nat := 1
abbrev τ : Topo := Topo.v7x

variable {F : FTy → Type} [FloatOps F]

abbrev grid0 : Pipeline.Grid := ⟨2, ![1, 132], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 1 := Scalar.cmpi .slt arg1 c4_i32
  let c3_i32 : BitVec 32 := 3#32
  let v1 : BitVec 32 := Scalar.subi c3_i32 arg1
  let c4_i32_0 : BitVec 32 := 4#32
  let v2 : BitVec 32 := Scalar.subi arg1 c4_i32_0
  let c131_i32 : BitVec 32 := 131#32
  let v3 : BitVec 32 := Scalar.subi c131_i32 v2
  let v4 : BitVec 32 := Scalar.select v0 v1 v3
  let c0_i32 : BitVec 32 := 0#32
  ![v4.toNat, arg0.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 1 := Scalar.cmpi .slt arg1 c4_i32
  let c3_i32 : BitVec 32 := 3#32
  let v1 : BitVec 32 := Scalar.subi c3_i32 arg1
  let c4_i32_0 : BitVec 32 := 4#32
  let v2 : BitVec 32 := Scalar.subi arg1 c4_i32_0
  let c131_i32 : BitVec 32 := 131#32
  let v3 : BitVec 32 := Scalar.subi c131_i32 v2
  let v4 : BitVec 32 := Scalar.select v0 v1 v3
  let c0_i32 : BitVec 32 := 0#32
  ![v4.toNat, arg0.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 1 := Scalar.cmpi .slt arg1 c4_i32
  let c3_i32 : BitVec 32 := 3#32
  let v1 : BitVec 32 := Scalar.subi c3_i32 arg1
  let c4_i32_0 : BitVec 32 := 4#32
  let v2 : BitVec 32 := Scalar.subi arg1 c4_i32_0
  let c131_i32 : BitVec 32 := 131#32
  let v3 : BitVec 32 := Scalar.subi c131_i32 v2
  let v4 : BitVec 32 := Scalar.select v0 v1 v3
  let c0_i32 : BitVec 32 := 0#32
  ![v4.toNat, arg0.toNat]

def cc0_transform_9 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 1 := Scalar.cmpi .slt arg1 c4_i32
  let c3_i32 : BitVec 32 := 3#32
  let v1 : BitVec 32 := Scalar.subi c3_i32 arg1
  let c4_i32_0 : BitVec 32 := 4#32
  let v2 : BitVec 32 := Scalar.subi arg1 c4_i32_0
  let c131_i32 : BitVec 32 := 131#32
  let v3 : BitVec 32 := Scalar.subi c131_i32 v2
  let v4 : BitVec 32 := Scalar.select v0 v1 v3
  let c0_i32 : BitVec 32 := 0#32
  ![v4.toNat, arg0.toNat]

def cc0_transform_10 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 1 := Scalar.cmpi .slt arg1 c4_i32
  let c3_i32 : BitVec 32 := 3#32
  let v1 : BitVec 32 := Scalar.subi c3_i32 arg1
  let c4_i32_0 : BitVec 32 := 4#32
  let v2 : BitVec 32 := Scalar.subi arg1 c4_i32_0
  let c131_i32 : BitVec 32 := 131#32
  let v3 : BitVec 32 := Scalar.subi c131_i32 v2
  let v4 : BitVec 32 := Scalar.select v0 v1 v3
  let c0_i32 : BitVec 32 := 0#32
  ![v4.toNat, arg0.toNat]

def cc0_transform_11 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 1 := Scalar.cmpi .slt arg1 c4_i32
  let c3_i32 : BitVec 32 := 3#32
  let v1 : BitVec 32 := Scalar.subi c3_i32 arg1
  let c4_i32_0 : BitVec 32 := 4#32
  let v2 : BitVec 32 := Scalar.subi arg1 c4_i32_0
  let c131_i32 : BitVec 32 := 131#32
  let v3 : BitVec 32 := Scalar.subi c131_i32 v2
  let v4 : BitVec 32 := Scalar.select v0 v1 v3
  let c0_i32 : BitVec 32 := 0#32
  ![v4.toNat, arg0.toNat]

def cc0_transform_12 (i : grid0.Coords) : Fin 2 → Nat :=
  let arg0 : BitVec 32 := BitVec.ofNat 32 (i 0).val
  let arg1 : BitVec 32 := BitVec.ofNat 32 (i 1).val
  let c132_i32 : BitVec 32 := 132#32
  let v0 : BitVec 32 := Scalar.muli arg0 c132_i32
  let v1 : BitVec 32 := Scalar.addi v0 arg1
  let c127_i32 : BitVec 32 := 127#32
  let v2 : BitVec 32 := Scalar.minsi v1 c127_i32
  let c32_i32 : BitVec 32 := 32#32
  let v3 : BitVec 32 := Scalar.muli v2 c32_i32
  let c6784_i32 : BitVec 32 := 6784#32
  let c0_i32 : BitVec 32 := 0#32
  ![v3.toNat, c6784_i32.toNat]

def cc0_transform_13 (i : grid0.Coords) : Fin 2 → Nat :=
  let arg0 : BitVec 32 := BitVec.ofNat 32 (i 0).val
  let arg1 : BitVec 32 := BitVec.ofNat 32 (i 1).val
  let c132_i32 : BitVec 32 := 132#32
  let v0 : BitVec 32 := Scalar.muli arg0 c132_i32
  let v1 : BitVec 32 := Scalar.addi v0 arg1
  let c127_i32 : BitVec 32 := 127#32
  let v2 : BitVec 32 := Scalar.minsi v1 c127_i32
  let c32_i32 : BitVec 32 := 32#32
  let v3 : BitVec 32 := Scalar.muli v2 c32_i32
  let c0_i32 : BitVec 32 := 0#32
  let c0_i32_0 : BitVec 32 := 0#32
  ![v3.toNat, c0_i32.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_15 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 1 := Scalar.cmpi .slt arg1 c4_i32
  let c3_i32 : BitVec 32 := 3#32
  let v1 : BitVec 32 := Scalar.subi c3_i32 arg1
  let c4_i32_0 : BitVec 32 := 4#32
  let v2 : BitVec 32 := Scalar.subi arg1 c4_i32_0
  let c131_i32 : BitVec 32 := 131#32
  let v3 : BitVec 32 := Scalar.subi c131_i32 v2
  let v4 : BitVec 32 := Scalar.select v0 v1 v3
  let c0_i32 : BitVec 32 := 0#32
  ![v4.toNat, arg0.toNat]

def cc0_transform_16 (i : grid0.Coords) : Fin 2 → Nat :=
  let arg0 : BitVec 32 := BitVec.ofNat 32 (i 0).val
  let arg1 : BitVec 32 := BitVec.ofNat 32 (i 1).val
  let c132_i32 : BitVec 32 := 132#32
  let v0 : BitVec 32 := Scalar.muli arg0 c132_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_17 (i : grid0.Coords) : Fin 2 → Nat :=
  let arg0 : BitVec 32 := BitVec.ofNat 32 (i 0).val
  let arg1 : BitVec 32 := BitVec.ofNat 32 (i 1).val
  let c132_i32 : BitVec 32 := 132#32
  let v0 : BitVec 32 := Scalar.muli arg0 c132_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  ![v2.toNat, c0_i32.toNat]

abbrev stage0_0 : Fin 2 → Memref sig .tc .vmem S64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S64x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S64x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S64x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S64x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S64x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S32x10240 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S32x16384 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S64x2048 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S64x2048 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S32x10240 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S32x16384 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]
-- ==== ReferenceIdeal.lean ====
abbrev S8448x2048 : Shape := ⟨2, ![8448, 2048]⟩
abbrev S4096x17024 : Shape := ⟨2, ![4096, 17024]⟩
abbrev S4096x16384 : Shape := ⟨2, ![4096, 16384]⟩
abbrev S_ : Shape := ⟨0, ![]⟩
abbrev S2x32x64x64 : Shape := ⟨4, ![2, 32, 64, 64]⟩
abbrev S256x2048 : Shape := ⟨2, ![256, 2048]⟩
abbrev S8192x2048 : Shape := ⟨2, ![8192, 2048]⟩
abbrev S1x8448x2048 : Shape := ⟨3, ![1, 8448, 2048]⟩
abbrev S2x8448x2048 : Shape := ⟨3, ![2, 8448, 2048]⟩
abbrev S2x8448x32x64 : Shape := ⟨4, ![2, 8448, 32, 64]⟩
abbrev S8448x2x32x64 : Shape := ⟨4, ![8448, 2, 32, 64]⟩
abbrev S1x2x32x64 : Shape := ⟨4, ![1, 2, 32, 64]⟩
abbrev S2x32x64 : Shape := ⟨3, ![2, 32, 64]⟩
abbrev S2x32x1x64 : Shape := ⟨4, ![2, 32, 1, 64]⟩
abbrev S2x32x64x1 : Shape := ⟨4, ![2, 32, 64, 1]⟩
abbrev S4096x10240 : Shape := ⟨2, ![4096, 10240]⟩

abbrev nBuf : Space → Nat
  | .hbm => 156
  | .vmem => 0
  | .smem => 0
  | _ => 0

abbrev hbmTy0_0 (i : Nat) : BufTy := match i % 128 with
  | 0 => ⟨S8448x2048, .f32⟩
  | 1 => ⟨S8448x2048, .f32⟩
  | 2 => ⟨S8448x2048, .f32⟩
  | 3 => ⟨S8448x2048, .f32⟩
  | 4 => ⟨S8448x2048, .f32⟩
  | 5 => ⟨S8448x2048, .f32⟩
  | 6 => ⟨S8448x2048, .f32⟩
  | 7 => ⟨S8448x2048, .f32⟩
  | 8 => ⟨S8448x2048, .f32⟩
  | 9 => ⟨S4096x17024, .f32⟩
  | 10 => ⟨S4096x16384, .f32⟩
  | 11 => ⟨S_, .f32⟩
  | 12 => ⟨S2x32x64x64, .f32⟩
  | 13 => ⟨S256x2048, .f32⟩
  | 14 => ⟨S256x2048, .f32⟩
  | 15 => ⟨S8192x2048, .f32⟩
  | 16 => ⟨S8192x2048, .f32⟩
  | 17 => ⟨S8448x2048, .f32⟩
  | 18 => ⟨S1x8448x2048, .f32⟩
  | 19 => ⟨S1x8448x2048, .f32⟩
  | 20 => ⟨S2x8448x2048, .f32⟩
  | 21 => ⟨S2x8448x32x64, .f32⟩
  | 22 => ⟨S256x2048, .f32⟩
  | 23 => ⟨S256x2048, .f32⟩
  | 24 => ⟨S8192x2048, .f32⟩
  | 25 => ⟨S8192x2048, .f32⟩
  | 26 => ⟨S8448x2048, .f32⟩
  | 27 => ⟨S1x8448x2048, .f32⟩
  | 28 => ⟨S1x8448x2048, .f32⟩
  | 29 => ⟨S2x8448x2048, .f32⟩
  | 30 => ⟨S2x8448x32x64, .f32⟩
  | 31 => ⟨S2x8448x32x64, .f32⟩
  | 32 => ⟨S256x2048, .f32⟩
  | 33 => ⟨S256x2048, .f32⟩
  | 34 => ⟨S8192x2048, .f32⟩
  | 35 => ⟨S8192x2048, .f32⟩
  | 36 => ⟨S8448x2048, .f32⟩
  | 37 => ⟨S1x8448x2048, .f32⟩
  | 38 => ⟨S1x8448x2048, .f32⟩
  | 39 => ⟨S2x8448x2048, .f32⟩
  | 40 => ⟨S2x8448x32x64, .f32⟩
  | 41 => ⟨S256x2048, .f32⟩
  | 42 => ⟨S256x2048, .f32⟩
  | 43 => ⟨S8192x2048, .f32⟩
  | 44 => ⟨S8192x2048, .f32⟩
  | 45 => ⟨S8448x2048, .f32⟩
  | 46 => ⟨S1x8448x2048, .f32⟩
  | 47 => ⟨S1x8448x2048, .f32⟩
  | 48 => ⟨S2x8448x2048, .f32⟩
  | 49 => ⟨S2x8448x32x64, .f32⟩
  | 50 => ⟨S256x2048, .f32⟩
  | 51 => ⟨S256x2048, .f32⟩
  | 52 => ⟨S8192x2048, .f32⟩
  | 53 => ⟨S8192x2048, .f32⟩
  | 54 => ⟨S8448x2048, .f32⟩
  | 55 => ⟨S1x8448x2048, .f32⟩
  | 56 => ⟨S1x8448x2048, .f32⟩
  | 57 => ⟨S2x8448x2048, .f32⟩
  | 58 => ⟨S2x8448x32x64, .f32⟩
  | 59 => ⟨S256x2048, .f32⟩
  | 60 => ⟨S256x2048, .f32⟩
  | 61 => ⟨S8192x2048, .f32⟩
  | 62 => ⟨S8192x2048, .f32⟩
  | 63 => ⟨S8448x2048, .f32⟩
  | 64 => ⟨S1x8448x2048, .f32⟩
  | 65 => ⟨S1x8448x2048, .f32⟩
  | 66 => ⟨S2x8448x2048, .f32⟩
  | 67 => ⟨S2x8448x32x64, .f32⟩
  | 68 => ⟨S8448x2x32x64, .f32⟩
  | 69 => ⟨S8448x2x32x64, .f32⟩
  | 70 => ⟨S8448x2x32x64, .f32⟩
  | 71 => ⟨S8448x2x32x64, .f32⟩
  | 72 => ⟨S8448x2x32x64, .f32⟩
  | 73 => ⟨S8448x2x32x64, .f32⟩
  | 74 => ⟨S_, .f32⟩
  | 75 => ⟨S8448x2x32x64, .f32⟩
  | 76 => ⟨S_, .i32⟩
  | 77 => ⟨S8448x2x32x64, .f32⟩
  | 78 => ⟨S8448x2x32x64, .f32⟩
  | 79 => ⟨S8448x2x32x64, .f32⟩
  | 80 => ⟨S8448x2x32x64, .f32⟩
  | 81 => ⟨S8448x2x32x64, .f32⟩
  | 82 => ⟨S8448x2x32x64, .f32⟩
  | 83 => ⟨S_, .i32⟩
  | 84 => ⟨S2x32x64x64, .f32⟩
  | 85 => ⟨S8448x2x32x64, .f32⟩
  | 86 => ⟨S_, .i32⟩
  | 87 => ⟨S_, .i1⟩
  | 88 => ⟨S_, .i32⟩
  | 89 => ⟨S_, .i32⟩
  | 90 => ⟨S_, .i32⟩
  | 91 => ⟨S1x2x32x64, .f32⟩
  | 92 => ⟨S2x32x64, .f32⟩
  | 93 => ⟨S_, .i32⟩
  | 94 => ⟨S_, .i32⟩
  | 95 => ⟨S_, .i32⟩
  | 96 => ⟨S1x2x32x64, .f32⟩
  | 97 => ⟨S2x32x64, .f32⟩
  | 98 => ⟨S_, .i32⟩
  | 99 => ⟨S_, .i32⟩
  | 100 => ⟨S_, .i32⟩
  | 101 => ⟨S1x2x32x64, .f32⟩
  | 102 => ⟨S2x32x64, .f32⟩
  | 103 => ⟨S_, .i32⟩
  | 104 => ⟨S_, .i32⟩
  | 105 => ⟨S_, .i32⟩
  | 106 => ⟨S1x2x32x64, .f32⟩
  | 107 => ⟨S2x32x64, .f32⟩
  | 108 => ⟨S_, .i32⟩
  | 109 => ⟨S_, .i32⟩
  | 110 => ⟨S_, .i32⟩
  | 111 => ⟨S1x2x32x64, .f32⟩
  | 112 => ⟨S2x32x64, .f32⟩
  | 113 => ⟨S_, .i32⟩
  | 114 => ⟨S_, .i32⟩
  | 115 => ⟨S_, .i32⟩
  | 116 => ⟨S1x2x32x64, .f32⟩
  | 117 => ⟨S2x32x64, .f32⟩
  | 118 => ⟨S2x32x64, .f32⟩
  | 119 => ⟨S2x32x1x64, .f32⟩
  | 120 => ⟨S2x32x64x64, .f32⟩
  | 121 => ⟨S2x32x64x64, .f32⟩
  | 122 => ⟨S2x32x64x1, .f32⟩
  | 123 => ⟨S2x32x1x64, .f32⟩
  | 124 => ⟨S2x32x64x64, .f32⟩
  | 125 => ⟨S2x32x64x64, .f32⟩
  | 126 => ⟨S2x32x64x64, .f32⟩
  | 127 => ⟨S2x32x64x64, .f32⟩
  | _ => ⟨S8448x2048, .f32⟩

abbrev hbmTy0_1 (i : Nat) : BufTy := match i % 128 with
  | 0 => ⟨S2x32x64x1, .f32⟩
  | 1 => ⟨S2x32x1x64, .f32⟩
  | 2 => ⟨S2x32x64x64, .f32⟩
  | 3 => ⟨S2x32x64x64, .f32⟩
  | 4 => ⟨S2x32x64x64, .f32⟩
  | 5 => ⟨S2x32x64x64, .f32⟩
  | 6 => ⟨S2x32x64, .f32⟩
  | 7 => ⟨S1x2x32x64, .f32⟩
  | 8 => ⟨S_, .i32⟩
  | 9 => ⟨S_, .i32⟩
  | 10 => ⟨S_, .i32⟩
  | 11 => ⟨S8448x2x32x64, .f32⟩
  | 12 => ⟨S_, .i32⟩
  | 13 => ⟨S_, .i32⟩
  | 14 => ⟨S2x8448x32x64, .f32⟩
  | 15 => ⟨S2x8448x2048, .f32⟩
  | 16 => ⟨S1x8448x2048, .f32⟩
  | 17 => ⟨S8448x2048, .f32⟩
  | 18 => ⟨S1x8448x2048, .f32⟩
  | 19 => ⟨S8448x2048, .f32⟩
  | 20 => ⟨S256x2048, .f32⟩
  | 21 => ⟨S256x2048, .f32⟩
  | 22 => ⟨S8192x2048, .f32⟩
  | 23 => ⟨S8192x2048, .f32⟩
  | 24 => ⟨S8448x2048, .f32⟩
  | 25 => ⟨S4096x10240, .f32⟩
  | 26 => ⟨S4096x10240, .bf16⟩
  | 27 => ⟨S4096x16384, .bf16⟩
  | _ => ⟨S8448x2048, .f32⟩

abbrev hbmTy (i : Nat) : BufTy := match i / 128 with
  | 0 => hbmTy0_0 i
  | 1 => hbmTy0_1 i
  | _ => ⟨S8448x2048, .f32⟩

abbrev bufTy : (tb : Table) → Fin (tcTables nBuf tb) → BufTy
  | .hbm, ⟨i, _⟩ => hbmTy i
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_cst_0 : Ref sig .tc := ⟨.hbm, 74, rfl⟩
abbrev main_v62 : Ref sig .tc := ⟨.hbm, 75, rfl⟩
abbrev main_c : Ref sig .tc := ⟨.hbm, 76, rfl⟩
abbrev main_v63_0 : Ref sig .tc := ⟨.hbm, 77, rfl⟩
abbrev main_v63_1 : Ref sig .tc := ⟨.hbm, 78, rfl⟩
abbrev main_v63_2 : Ref sig .tc := ⟨.hbm, 79, rfl⟩
abbrev main_v63_3 : Ref sig .tc := ⟨.hbm, 80, rfl⟩
abbrev main_v63_4 : Ref sig .tc := ⟨.hbm, 81, rfl⟩
abbrev main_v63_5 : Ref sig .tc := ⟨.hbm, 82, rfl⟩
abbrev main_v63_6 : Ref sig .tc := ⟨.hbm, 83, rfl⟩
abbrev main_v63_7 : Ref sig .tc := ⟨.hbm, 84, rfl⟩
abbrev main_v63_8 : Ref sig .tc := ⟨.hbm, 85, rfl⟩
abbrev main_while0c_c_9 : Ref sig .tc := ⟨.hbm, 86, rfl⟩
abbrev main_while0c_v78 : Ref sig .tc := ⟨.hbm, 87, rfl⟩
abbrev main_while0b_call12_c : Ref sig .tc := ⟨.hbm, 88, rfl⟩
abbrev main_while0b_call12_c_0 : Ref sig .tc := ⟨.hbm, 89, rfl⟩
abbrev main_while0b_call12_c_1 : Ref sig .tc := ⟨.hbm, 90, rfl⟩
abbrev main_while0b_call12_v0 : Ref sig .tc := ⟨.hbm, 91, rfl⟩
abbrev main_while0b_v78 : Ref sig .tc := ⟨.hbm, 92, rfl⟩
abbrev main_while0b_call13_c : Ref sig .tc := ⟨.hbm, 93, rfl⟩
abbrev main_while0b_call13_c_0 : Ref sig .tc := ⟨.hbm, 94, rfl⟩
abbrev main_while0b_call13_c_1 : Ref sig .tc := ⟨.hbm, 95, rfl⟩
abbrev main_while0b_call13_v0 : Ref sig .tc := ⟨.hbm, 96, rfl⟩
abbrev main_while0b_v79 : Ref sig .tc := ⟨.hbm, 97, rfl⟩
abbrev main_while0b_call14_c : Ref sig .tc := ⟨.hbm, 98, rfl⟩
abbrev main_while0b_call14_c_0 : Ref sig .tc := ⟨.hbm, 99, rfl⟩
abbrev main_while0b_call14_c_1 : Ref sig .tc := ⟨.hbm, 100, rfl⟩
abbrev main_while0b_call14_v0 : Ref sig .tc := ⟨.hbm, 101, rfl⟩
abbrev main_while0b_v80 : Ref sig .tc := ⟨.hbm, 102, rfl⟩
abbrev main_while0b_call15_c : Ref sig .tc := ⟨.hbm, 103, rfl⟩
abbrev main_while0b_call15_c_0 : Ref sig .tc := ⟨.hbm, 104, rfl⟩
abbrev main_while0b_call15_c_1 : Ref sig .tc := ⟨.hbm, 105, rfl⟩
abbrev main_while0b_call15_v0 : Ref sig .tc := ⟨.hbm, 106, rfl⟩
abbrev main_while0b_v81 : Ref sig .tc := ⟨.hbm, 107, rfl⟩
abbrev main_while0b_call16_c : Ref sig .tc := ⟨.hbm, 108, rfl⟩
abbrev main_while0b_call16_c_0 : Ref sig .tc := ⟨.hbm, 109, rfl⟩
abbrev main_while0b_call16_c_1 : Ref sig .tc := ⟨.hbm, 110, rfl⟩
abbrev main_while0b_call16_v0 : Ref sig .tc := ⟨.hbm, 111, rfl⟩
abbrev main_while0b_v82 : Ref sig .tc := ⟨.hbm, 112, rfl⟩
abbrev main_while0b_call17_c : Ref sig .tc := ⟨.hbm, 113, rfl⟩
abbrev main_while0b_call17_c_0 : Ref sig .tc := ⟨.hbm, 114, rfl⟩
abbrev main_while0b_call17_c_1 : Ref sig .tc := ⟨.hbm, 115, rfl⟩
abbrev main_while0b_call17_v0 : Ref sig .tc := ⟨.hbm, 116, rfl⟩
abbrev main_while0b_v83 : Ref sig .tc := ⟨.hbm, 117, rfl⟩
abbrev main_while0b_v84 : Ref sig .tc := ⟨.hbm, 118, rfl⟩
abbrev main_while0b_v85 : Ref sig .tc := ⟨.hbm, 119, rfl⟩
abbrev main_while0b_v86 : Ref sig .tc := ⟨.hbm, 120, rfl⟩
abbrev main_while0b_v87 : Ref sig .tc := ⟨.hbm, 121, rfl⟩
abbrev main_while0b_v88 : Ref sig .tc := ⟨.hbm, 122, rfl⟩
abbrev main_while0b_v89 : Ref sig .tc := ⟨.hbm, 123, rfl⟩
abbrev main_while0b_v90 : Ref sig .tc := ⟨.hbm, 124, rfl⟩
abbrev main_while0b_v91 : Ref sig .tc := ⟨.hbm, 125, rfl⟩
abbrev main_while0b_v92 : Ref sig .tc := ⟨.hbm, 126, rfl⟩
abbrev main_while0b_v93 : Ref sig .tc := ⟨.hbm, 127, rfl⟩
abbrev main_while0b_v94 : Ref sig .tc := ⟨.hbm, 128, rfl⟩
abbrev main_while0b_v95 : Ref sig .tc := ⟨.hbm, 129, rfl⟩
abbrev main_while0b_v96 : Ref sig .tc := ⟨.hbm, 130, rfl⟩
abbrev main_while0b_v97 : Ref sig .tc := ⟨.hbm, 131, rfl⟩
abbrev main_while0b_v98 : Ref sig .tc := ⟨.hbm, 132, rfl⟩
abbrev main_while0b_v99 : Ref sig .tc := ⟨.hbm, 133, rfl⟩
abbrev main_while0b_v100 : Ref sig .tc := ⟨.hbm, 134, rfl⟩
abbrev main_while0b_call18_v0 : Ref sig .tc := ⟨.hbm, 135, rfl⟩
abbrev main_while0b_call18_c : Ref sig .tc := ⟨.hbm, 136, rfl⟩
abbrev main_while0b_call18_c_0 : Ref sig .tc := ⟨.hbm, 137, rfl⟩
abbrev main_while0b_call18_c_1 : Ref sig .tc := ⟨.hbm, 138, rfl⟩
abbrev main_while0b_v101 : Ref sig .tc := ⟨.hbm, 139, rfl⟩
abbrev main_while0b_c_9 : Ref sig .tc := ⟨.hbm, 140, rfl⟩
abbrev main_while0b_v102 : Ref sig .tc := ⟨.hbm, 141, rfl⟩
abbrev main_v64 : Ref sig .tc := ⟨.hbm, 142, rfl⟩
abbrev main_v65 : Ref sig .tc := ⟨.hbm, 143, rfl⟩
abbrev main_v66 : Ref sig .tc := ⟨.hbm, 144, rfl⟩
abbrev main_v67 : Ref sig .tc := ⟨.hbm, 145, rfl⟩
abbrev main_v68 : Ref sig .tc := ⟨.hbm, 146, rfl⟩
abbrev main_v69 : Ref sig .tc := ⟨.hbm, 147, rfl⟩
abbrev main_v70 : Ref sig .tc := ⟨.hbm, 148, rfl⟩
abbrev main_v71 : Ref sig .tc := ⟨.hbm, 149, rfl⟩
abbrev main_v72 : Ref sig .tc := ⟨.hbm, 150, rfl⟩
abbrev main_v73 : Ref sig .tc := ⟨.hbm, 151, rfl⟩
abbrev main_v74 : Ref sig .tc := ⟨.hbm, 152, rfl⟩
abbrev main_v75 : Ref sig .tc := ⟨.hbm, 153, rfl⟩
abbrev main_v76 : Ref sig .tc := ⟨.hbm, 154, rfl⟩
abbrev main_v77 : Ref sig .tc := ⟨.hbm, 155, rfl⟩

abbrev nD : Nat := 1
abbrev τ : Topo := Topo.v7x

variable {F : FTy → Type} [FloatOps F]

abbrev main_while0_count : Scf.Loop 32 := ⟨0#32, 8448#32, 1#32⟩
-- ==== Kernel2.lean ====
abbrev S8192x4096 : Shape := ⟨2, ![8192, 4096]⟩
abbrev S4096x16384 : Shape := ⟨2, ![4096, 16384]⟩
abbrev S8192x16384 : Shape := ⟨2, ![8192, 16384]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S4096x16384, .bf16⟩
  | .hbm, ⟨2, _⟩ => ⟨S8192x16384, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference2Ideal.lean ====
abbrev S8192x4096 : Shape := ⟨2, ![8192, 4096]⟩
abbrev S4096x16384 : Shape := ⟨2, ![4096, 16384]⟩
abbrev S8192x16384 : Shape := ⟨2, ![8192, 16384]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x16384, .bf16⟩
  | .hbm, ⟨2, _⟩ => ⟨S8192x4096, .f32⟩
  | .hbm, ⟨3, _⟩ => ⟨S4096x16384, .f32⟩
  | .hbm, ⟨4, _⟩ => ⟨S8192x16384, .f32⟩
  | .hbm, ⟨5, _⟩ => ⟨S_, .f32⟩
  | .hbm, ⟨6, _⟩ => ⟨S8192x16384, .f32⟩
  | .hbm, ⟨7, _⟩ => ⟨S8192x16384, .f32⟩
  | .hbm, ⟨8, _⟩ => ⟨S8192x16384, .f32⟩
  | .hbm, ⟨9, _⟩ => ⟨S8192x16384, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_cst : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel3.lean ====
abbrev S8192x16384 : Shape := ⟨2, ![8192, 16384]⟩
abbrev S16384x4096 : Shape := ⟨2, ![16384, 4096]⟩
abbrev S8192x4096 : Shape := ⟨2, ![8192, 4096]⟩
abbrev S8x24576 : Shape := ⟨2, ![8, 24576]⟩
abbrev S4096 : Shape := ⟨1, ![4096]⟩
abbrev S1x4096 : Shape := ⟨2, ![1, 4096]⟩
abbrev S512x1024 : Shape := ⟨2, ![512, 1024]⟩
abbrev S1024x4096 : Shape := ⟨2, ![1024, 4096]⟩
abbrev S512x4096 : Shape := ⟨2, ![512, 4096]⟩
abbrev S_ : Shape := ⟨0, ![]⟩
abbrev S128x4096 : Shape := ⟨2, ![128, 4096]⟩
abbrev S128 : Shape := ⟨1, ![128]⟩
abbrev S128x1 : Shape := ⟨2, ![128, 1]⟩

abbrev nBuf : Space → Nat
  | .hbm => 7
  | .vmem => 9
  | .smem => 0
  | _ => 0

abbrev bufTy : (tb : Table) → Fin (tcTables nBuf tb) → BufTy
  | .hbm, ⟨0, _⟩ => ⟨S8192x16384, .bf16⟩
  | .hbm, ⟨1, _⟩ => ⟨S16384x4096, .bf16⟩
  | .hbm, ⟨2, _⟩ => ⟨S8192x4096, .f32⟩
  | .hbm, ⟨3, _⟩ => ⟨S8x24576, .f32⟩
  | .hbm, ⟨4, _⟩ => ⟨S4096, .f32⟩
  | .hbm, ⟨5, _⟩ => ⟨S1x4096, .f32⟩
  | .hbm, ⟨6, _⟩ => ⟨S8192x4096, .f32⟩
  | .local _ .vmem, ⟨0, _⟩ => ⟨S512x1024, .bf16⟩
  | .local _ .vmem, ⟨1, _⟩ => ⟨S512x1024, .bf16⟩
  | .local _ .vmem, ⟨2, _⟩ => ⟨S1024x4096, .bf16⟩
  | .local _ .vmem, ⟨3, _⟩ => ⟨S1024x4096, .bf16⟩
  | .local _ .vmem, ⟨4, _⟩ => ⟨S8x24576, .f32⟩
  | .local _ .vmem, ⟨5, _⟩ => ⟨S1x4096, .f32⟩
  | .local _ .vmem, ⟨6, _⟩ => ⟨S512x4096, .f32⟩
  | .local _ .vmem, ⟨7, _⟩ => ⟨S512x4096, .f32⟩
  | .local _ .vmem, ⟨8, _⟩ => ⟨S512x4096, .f32⟩
  | _, _ => ⟨S8192x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![16, 16], ![false, false]⟩

def k0_mult1 (i : grid0.Coords) : BitVec 32 :=
  let arg0 : BitVec 32 := BitVec.ofNat 32 (i 0).val
  let c512_i32 : BitVec 32 := 512#32
  let v0 : BitVec 32 := Scalar.muli arg0 c512_i32
  v0
def k0_cond1 (i : grid0.Coords) : BitVec 1 :=
  let arg1 : BitVec 32 := BitVec.ofNat 32 (i 1).val
  let c0_i32 : BitVec 32 := 0#32
  let v2 : BitVec 1 := Scalar.cmpi .eq arg1 c0_i32
  let v3 : BitVec 32 := Scalar.extui v2
  let c0_i32_0 : BitVec 32 := 0#32
  let v4 : BitVec 1 := Scalar.cmpi .ne v3 c0_i32_0
  v4

def k0_off1 (i : grid0.Coords) : Fin 2 → Nat :=
  let arg0 : BitVec 32 := BitVec.ofNat 32 (i 0).val
  let c512_i32 : BitVec 32 := 512#32
  let v0 : BitVec 32 := Scalar.muli arg0 c512_i32
  let v1 : BitVec 32 := v0
  let c0_i32_9 : BitVec 32 := 0#32
  ![v1.toNat, 0]
def k0_cond2 (i : grid0.Coords) : BitVec 1 :=
  let arg1 : BitVec 32 := BitVec.ofNat 32 (i 1).val
  let c15_i32 : BitVec 32 := 15#32
  let v12 : BitVec 1 := Scalar.cmpi .eq arg1 c15_i32
  let v13 : BitVec 32 := Scalar.extui v12
  let c0_i32_8 : BitVec 32 := 0#32
  let v14 : BitVec 1 := Scalar.cmpi .ne v13 c0_i32_8
  v14

def k0_off2 (i : grid0.Coords) : Fin 2 → Nat :=
  let arg0 : BitVec 32 := BitVec.ofNat 32 (i 0).val
  let c512_i32 : BitVec 32 := 512#32
  let v0 : BitVec 32 := Scalar.muli arg0 c512_i32
  let v1 : BitVec 32 := v0
  let c0_i32_9 : BitVec 32 := 0#32
  ![v1.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S8x24576 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference3Ideal.lean ====
abbrev S8192x16384 : Shape := ⟨2, ![8192, 16384]⟩
abbrev S16384x4096 : Shape := ⟨2, ![16384, 4096]⟩
abbrev S8192x4096 : Shape := ⟨2, ![8192, 4096]⟩
abbrev S8x24576 : Shape := ⟨2, ![8, 24576]⟩
abbrev S4096 : Shape := ⟨1, ![4096]⟩
abbrev S1x24576 : Shape := ⟨2, ![1, 24576]⟩
abbrev S1x4096 : Shape := ⟨2, ![1, 4096]⟩
abbrev S_ : Shape := ⟨0, ![]⟩
abbrev S8192 : Shape := ⟨1, ![8192]⟩
abbrev S8192x1 : Shape := ⟨2, ![8192, 1]⟩

abbrev nBuf : Space → Nat
  | .hbm => 34
  | .vmem => 0
  | .smem => 0
  | _ => 0

abbrev bufTy : (tb : Table) → Fin (tcTables nBuf tb) → BufTy
  | .hbm, ⟨0, _⟩ => ⟨S8192x16384, .bf16⟩
  | .hbm, ⟨1, _⟩ => ⟨S16384x4096, .bf16⟩
  | .hbm, ⟨2, _⟩ => ⟨S8192x4096, .f32⟩
  | .hbm, ⟨3, _⟩ => ⟨S8x24576, .f32⟩
  | .hbm, ⟨4, _⟩ => ⟨S4096, .f32⟩
  | .hbm, ⟨5, _⟩ => ⟨S1x24576, .f32⟩
  | .hbm, ⟨6, _⟩ => ⟨S1x4096, .f32⟩
  | .hbm, ⟨7, _⟩ => ⟨S1x4096, .f32⟩
  | .hbm, ⟨8, _⟩ => ⟨S1x4096, .f32⟩
  | .hbm, ⟨9, _⟩ => ⟨S1x4096, .f32⟩
  | .hbm, ⟨10, _⟩ => ⟨S1x4096, .f32⟩
  | .hbm, ⟨11, _⟩ => ⟨S1x4096, .f32⟩
  | .hbm, ⟨12, _⟩ => ⟨S8192x16384, .f32⟩
  | .hbm, ⟨13, _⟩ => ⟨S16384x4096, .f32⟩
  | .hbm, ⟨14, _⟩ => ⟨S8192x4096, .f32⟩
  | .hbm, ⟨15, _⟩ => ⟨S8192x4096, .f32⟩
  | .hbm, ⟨16, _⟩ => ⟨S_, .f32⟩
  | .hbm, ⟨17, _⟩ => ⟨S8192, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x1, .f32⟩
  | .hbm, ⟨26, _⟩ => ⟨S8192x4096, .f32⟩
  | .hbm, ⟨27, _⟩ => ⟨S8192x4096, .f32⟩
  | .hbm, ⟨28, _⟩ => ⟨S1x4096, .f32⟩
  | .hbm, ⟨29, _⟩ => ⟨S8192x4096, .f32⟩
  | .hbm, ⟨30, _⟩ => ⟨S8192x4096, .f32⟩
  | .hbm, ⟨31, _⟩ => ⟨S8192x4096, .f32⟩
  | .hbm, ⟨32, _⟩ => ⟨S8192x4096, .f32⟩
  | .hbm, ⟨33, _⟩ => ⟨S8192x4096, .f32⟩
  | _, _ => ⟨S8192x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩

abbrev nD : Nat := 1
abbrev τ : Topo := Topo.v7x

variable {F : FTy → Type} [FloatOps F]
-- ==== Kernel4.lean ====
abbrev S8448x4096 : Shape := ⟨2, ![8448, 4096]⟩
abbrev S4096x10240 : Shape := ⟨2, ![4096, 10240]⟩
abbrev S8448x10240 : Shape := ⟨2, ![8448, 10240]⟩
abbrev S768x4096 : Shape := ⟨2, ![768, 4096]⟩
abbrev S4096x1024 : Shape := ⟨2, ![4096, 1024]⟩
abbrev S768x1024 : Shape := ⟨2, ![768, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8448x4096, .bf16⟩
  | .hbm, ⟨1, _⟩ => ⟨S4096x10240, .bf16⟩
  | .hbm, ⟨2, _⟩ => ⟨S8448x10240, .f32⟩
  | .local _ .vmem, ⟨0, _⟩ => ⟨S768x4096, .bf16⟩
  | .local _ .vmem, ⟨1, _⟩ => ⟨S768x4096, .bf16⟩
  | .local _ .vmem, ⟨2, _⟩ => ⟨S4096x1024, .bf16⟩
  | .local _ .vmem, ⟨3, _⟩ => ⟨S4096x1024, .bf16⟩
  | .local _ .vmem, ⟨4, _⟩ => ⟨S768x1024, .f32⟩
  | .local _ .vmem, ⟨5, _⟩ => ⟨S768x1024, .f32⟩
  | _, _ => ⟨S8448x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![11, 10], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S768x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S8448x4096 : Shape := ⟨2, ![8448, 4096]⟩
abbrev S4096x10240 : Shape := ⟨2, ![4096, 10240]⟩
abbrev S8448x10240 : Shape := ⟨2, ![8448, 10240]⟩

abbrev nBuf : Space → Nat
  | .hbm => 5
  | .vmem => 0
  | .smem => 0
  | _ => 0

abbrev bufTy : (tb : Table) → Fin (tcTables nBuf tb) → BufTy
  | .hbm, ⟨0, _⟩ => ⟨S8448x4096, .bf16⟩
  | .hbm, ⟨1, _⟩ => ⟨S4096x10240, .bf16⟩
  | .hbm, ⟨2, _⟩ => ⟨S8448x4096, .f32⟩
  | .hbm, ⟨3, _⟩ => ⟨S4096x10240, .f32⟩
  | .hbm, ⟨4, _⟩ => ⟨S8448x10240, .f32⟩
  | _, _ => ⟨S8448x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel5.lean ====
abbrev S8192x4096 : Shape := ⟨2, ![8192, 4096]⟩
abbrev S4096x4096 : Shape := ⟨2, ![4096, 4096]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S4096x4096, .bf16⟩
  | .hbm, ⟨2, _⟩ => ⟨S8192x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S8192x4096 : Shape := ⟨2, ![8192, 4096]⟩
abbrev S4096x4096 : Shape := ⟨2, ![4096, 4096]⟩

abbrev nBuf : Space → Nat
  | .hbm => 5
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x4096, .bf16⟩
  | .hbm, ⟨2, _⟩ => ⟨S8192x4096, .f32⟩
  | .hbm, ⟨3, _⟩ => ⟨S4096x4096, .f32⟩
  | .hbm, ⟨4, _⟩ => ⟨S8192x4096, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel6.lean ====
abbrev S8448x4096 : Shape := ⟨2, ![8448, 4096]⟩
abbrev S4096x17024 : Shape := ⟨2, ![4096, 17024]⟩
abbrev S8448x6144 : Shape := ⟨2, ![8448, 6144]⟩
abbrev S768x4096 : Shape := ⟨2, ![768, 4096]⟩
abbrev S4096x768 : Shape := ⟨2, ![4096, 768]⟩
abbrev S768x768 : Shape := ⟨2, ![768, 768]⟩

abbrev nBuf : Space → Nat
  | .hbm => 3
  | .vmem => 7
  | .smem => 0
  | _ => 0

abbrev bufTy : (tb : Table) → Fin (tcTables nBuf tb) → BufTy
  | .hbm, ⟨0, _⟩ => ⟨S8448x4096, .bf16⟩
  | .hbm, ⟨1, _⟩ => ⟨S4096x17024, .f32⟩
  | .hbm, ⟨2, _⟩ => ⟨S8448x6144, .f32⟩
  | .local _ .vmem, ⟨0, _⟩ => ⟨S768x4096, .bf16⟩
  | .local _ .vmem, ⟨1, _⟩ => ⟨S768x4096, .bf16⟩
  | .local _ .vmem, ⟨2, _⟩ => ⟨S4096x768, .f32⟩
  | .local _ .vmem, ⟨3, _⟩ => ⟨S4096x768, .f32⟩
  | .local _ .vmem, ⟨4, _⟩ => ⟨S768x768, .f32⟩
  | .local _ .vmem, ⟨5, _⟩ => ⟨S768x768, .f32⟩
  | .local _ .vmem, ⟨6, _⟩ => ⟨S4096x768, .bf16⟩
  | _, _ => ⟨S8448x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S768x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S768x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S8448x4096 : Shape := ⟨2, ![8448, 4096]⟩
abbrev S4096x17024 : Shape := ⟨2, ![4096, 17024]⟩
abbrev S4096x6144 : Shape := ⟨2, ![4096, 6144]⟩
abbrev S8448x6144 : Shape := ⟨2, ![8448, 6144]⟩

abbrev nBuf : Space → Nat
  | .hbm => 5
  | .vmem => 0
  | .smem => 0
  | _ => 0

abbrev bufTy : (tb : Table) → Fin (tcTables nBuf tb) → BufTy
  | .hbm, ⟨0, _⟩ => ⟨S8448x4096, .bf16⟩
  | .hbm, ⟨1, _⟩ => ⟨S4096x17024, .f32⟩
  | .hbm, ⟨2, _⟩ => ⟨S8448x4096, .f32⟩
  | .hbm, ⟨3, _⟩ => ⟨S4096x6144, .f32⟩
  | .hbm, ⟨4, _⟩ => ⟨S8448x6144, .f32⟩
  | _, _ => ⟨S8448x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.Spec.lean ====
/-
  The RWKV-7 recurrence over the real numbers, one head at a time, and the theorem that a chunk of 64 rows of it is the
  closed form a chunked kernel computes: two triangular systems, one inverse by doubling, and one rank-128 update.
-/
module

public import Mathlib.Analysis.SpecialFunctions.Exp
public import Mathlib.LinearAlgebra.Matrix.Notation
public import Mathlib.Data.Matrix.Mul

@[expose] public section

noncomputable section

namespace Cert.Rwkv

open Matrix

/-- A 64 × 64 matrix of reals: a head's state (value × key), or a chunk's rows (row × lane). -/
abbrev M : Type := Matrix (Fin 64) (Fin 64) ℝ

/-- One step of the recurrence: decay the state's key lanes by `exp lw`, add the rank-one update of `S a` along `b`, and
    the rank-one update of `v` along `k`. -/
def stepS (S : M) (lw a b k v : Fin 64 → ℝ) : M :=
  fun i j => S i j * Real.exp (lw j) + (∑ l, S i l * a l) * b j + v i * k j

/-- What a state reads out for a receptance row. -/
def outY (S : M) (r : Fin 64 → ℝ) : Fin 64 → ℝ := fun i => ∑ j, S i j * r j

/-- The state before row `n`, from zero. -/
def stAt (lw a b k v : ℕ → Fin 64 → ℝ) : ℕ → M
  | 0 => 0
  | n + 1 => stepS (stAt lw a b k v n) (lw n) (a n) (b n) (k n) (v n)

/-- The output at row `n`: the state after the row, read by the row's receptance. -/
def yAt (r lw a b k v : ℕ → Fin 64 → ℝ) (n : ℕ) : Fin 64 → ℝ := outY (stAt lw a b k v (n + 1)) (r n)

/-! ## The chunk's closed form. `pos t` is the time of row `t` within the chunk. -/

variable (pos : Fin 64 ≃ Fin 64)

/-- The running sum of the log decays, the row itself included. -/
def bcum (lw : M) : M := fun t j => ∑ s, if pos s ≤ pos t then lw s j else 0

/-- The entries whose column comes strictly before their row. -/
def strictPart (X : M) : M := fun t s => if pos s < pos t then X t s else 0

/-- The entries whose column comes no later than their row. -/
def inclPart (X : M) : M := fun t s => if pos s ≤ pos t then X t s else 0

def aHat (a lw : M) : M := fun t j => a t j * Real.exp (bcum pos lw t j - lw t j)

def rHat (r lw : M) : M := fun t j => r t j * Real.exp (bcum pos lw t j)

def bHat (b lw : M) : M := fun t j => b t j * Real.exp (-bcum pos lw t j)

/-- One doubling: `(T, P) ↦ (T + T P, P P)`. -/
def dbl (x : M × M) : M × M := (x.1 + x.1 * x.2, x.2 * x.2)

/-- `1 + L + L² + … + L⁶³` by doubling. -/
def geo (L : M) : M :=
  let x := dbl (dbl (dbl (dbl (1 + L, L * L))))
  x.1 + x.1 * x.2

/-- The rows `u`: the solution of the strictly triangular system. -/
def uOf (lw k v a b S : M) : M :=
  geo (strictPart pos (aHat pos a lw * (bHat pos b lw)ᵀ))
    * (aHat pos a lw * Sᵀ + strictPart pos (aHat pos a lw * (bHat pos k lw)ᵀ) * v)

/-- The chunk's outputs. -/
def yOf (r lw k v a b S : M) : M :=
  rHat pos r lw * Sᵀ + inclPart pos (rHat pos r lw * (bHat pos b lw)ᵀ) * uOf pos lw k v a b S
    + inclPart pos (rHat pos r lw * (bHat pos k lw)ᵀ) * v

/-- The chunk's final state. -/
def sOf (lw k v a b S : M) : M :=
  fun i j => (S i j + ((uOf pos lw k v a b S)ᵀ * bHat pos b lw + vᵀ * bHat pos k lw) i j) * Real.exp (∑ s, lw s j)

/-! ## The inverse by doubling -/

theorem geo_eq (L : M) : geo L * (1 - L) = 1 - L ^ 64 := by
  have h : geo L = (1 + L) * (1 + L ^ 2) * (1 + L ^ 4) * (1 + L ^ 8) * (1 + L ^ 16) * (1 + L ^ 32) := by
    simp only [geo, dbl]; noncomm_ring
  rw [h]; noncomm_ring

/-- A power of a strictly triangular matrix moves at least its exponent. -/
theorem strictPart_pow (X : M) (n : ℕ) : ∀ t s, (strictPart pos X ^ n) t s ≠ 0 → (pos s).val + n ≤ (pos t).val := by
  induction n with
  | zero =>
    intro t s h
    rw [pow_zero] at h
    have : t = s := by by_contra hne; exact h (Matrix.one_apply_ne hne)
    rw [this]; simp
  | succ n ih =>
    intro t s h
    rw [pow_succ, Matrix.mul_apply] at h
    obtain ⟨l, -, hl⟩ := Finset.exists_ne_zero_of_sum_ne_zero h
    have h1 := ih t l (left_ne_zero_of_mul hl)
    have h2 : pos s < pos l := by
      by_contra hn; exact (right_ne_zero_of_mul hl) (by simp [strictPart, hn])
    have := Fin.lt_def.mp h2
    omega

theorem strictPart_pow_64 (X : M) : strictPart pos X ^ 64 = 0 := by
  ext t s
  by_contra h
  have := strictPart_pow pos X 64 t s h
  have := (pos t).isLt
  omega

theorem geo_strict (X : M) : geo (strictPart pos X) * (1 - strictPart pos X) = 1 := by
  rw [geo_eq, strictPart_pow_64, sub_zero]

/-! ## The chunk against the recurrence -/

/-- Raising the bound of a masked sum by one adds the term at that time. -/
theorem sum_lt_succ (f : Fin 64 → ℝ) (q : ℕ) (hq : q < 64) :
    (∑ s, if (pos s).val < q + 1 then f s else 0) = (∑ s, if (pos s).val < q then f s else 0) + f (pos.symm ⟨q, hq⟩) := by
  have h : ∀ s, (if (pos s).val < q + 1 then f s else 0)
      = (if (pos s).val < q then f s else 0) + (if s = pos.symm ⟨q, hq⟩ then f s else 0) := by
    intro s
    have e : s = pos.symm ⟨q, hq⟩ ↔ (pos s).val = q := by
      rw [Equiv.eq_symm_apply, Fin.ext_iff]
    by_cases h1 : (pos s).val < q
    · have h2 : ¬ s = pos.symm ⟨q, hq⟩ := by rw [e]; omega
      simp [h1, h2, Nat.lt_succ_of_lt h1]
    · by_cases h2 : (pos s).val = q
      · have h3 : s = pos.symm ⟨q, hq⟩ := e.mpr h2
        simp only [h1, h2, h3, if_true, if_false, lt_irrefl, Nat.lt_succ_self, zero_add]
        simp
      · have h3 : ¬ s = pos.symm ⟨q, hq⟩ := by rw [e]; exact h2
        have h4 : ¬ (pos s).val < q + 1 := by omega
        simp [h1, h3, h4]
  rw [Finset.sum_congr rfl (fun s _ => h s), Finset.sum_add_distrib]
  simp

variable (R LW A B K V : ℕ → Fin 64 → ℝ) (n₀ : ℕ) (r lw a b k v : M)

/-- The rows of a chunk that starts at time `n₀` are the sequence's rows at their times. -/
def Rows (X : ℕ → Fin 64 → ℝ) (x : M) : Prop := ∀ t, x t = X (n₀ + (pos t).val)

/-- The row `S a` of the sequential recurrence, at row `t`'s time. -/
def uSeq : M := fun t i => ∑ l, stAt LW A B K V (n₀ + (pos t).val) i l * a t l

/-- The masked running sum up to a time. -/
def cAt (q : ℕ) (j : Fin 64) : ℝ := ∑ s, if (pos s).val < q then lw s j else 0

theorem bcum_eq (t j : Fin 64) : bcum pos lw t j = cAt pos lw ((pos t).val + 1) j := by
  unfold bcum cAt
  refine Finset.sum_congr rfl fun s _ => ?_
  simp only [Fin.le_def, Nat.lt_succ_iff]

theorem cAt_succ (t j : Fin 64) : cAt pos lw ((pos t).val + 1) j = cAt pos lw (pos t).val j + lw t j := by
  unfold cAt
  rw [sum_lt_succ pos (fun s => lw s j) _ (pos t).isLt]
  simp

theorem cAt_all (j : Fin 64) : cAt pos lw 64 j = ∑ s, lw s j := by
  unfold cAt
  exact Finset.sum_congr rfl fun s _ => if_pos (pos s).isLt

/-- The state at time `n₀ + q`, its decay undone, is the state at `n₀` plus the updates so far. -/
theorem state_eq (hlw : Rows pos n₀ LW lw) (ha : Rows pos n₀ A a) (hb : Rows pos n₀ B b) (hk : Rows pos n₀ K k)
    (hv : Rows pos n₀ V v) (q : ℕ) (hq : q ≤ 64) (i j : Fin 64) :
    stAt LW A B K V (n₀ + q) i j * Real.exp (-cAt pos lw q j)
      = stAt LW A B K V n₀ i j
        + ∑ s, if (pos s).val < q then uSeq pos LW A B K V n₀ a s i * bHat pos b lw s j + v s i * bHat pos k lw s j else 0 := by
  induction q with
  | zero => simp [cAt]
  | succ q ih =>
    have hq' : q < 64 := hq
    rw [sum_lt_succ pos _ q hq', ← add_assoc (stAt LW A B K V n₀ i j), ← ih (by omega)]
    set t := pos.symm ⟨q, hq'⟩ with ht
    have hpt : (pos t).val = q := by rw [ht]; simp
    have hc := cAt_succ pos lw t j
    rw [hpt] at hc
    have e1 : ∀ (X : ℕ → Fin 64 → ℝ) (x : M), Rows pos n₀ X x → X (n₀ + q) = x t := by
      intro X x h; rw [h t, hpt]
    rw [show n₀ + (q + 1) = (n₀ + q) + 1 by omega]
    simp only [stAt, stepS, uSeq, bHat, hpt, e1 _ _ hlw, e1 _ _ ha, e1 _ _ hb, e1 _ _ hk, e1 _ _ hv, bcum_eq, hc]
    rw [neg_add, Real.exp_add, Real.exp_neg (lw t j)]
    have := Real.exp_ne_zero (lw t j)
    field_simp
    ring

/-- The state at time `n₀ + q` in closed form. -/
theorem state_eq' (hlw : Rows pos n₀ LW lw) (ha : Rows pos n₀ A a) (hb : Rows pos n₀ B b) (hk : Rows pos n₀ K k)
    (hv : Rows pos n₀ V v) (q : ℕ) (hq : q ≤ 64) (i j : Fin 64) :
    stAt LW A B K V (n₀ + q) i j
      = (stAt LW A B K V n₀ i j
        + ∑ s, if (pos s).val < q then uSeq pos LW A B K V n₀ a s i * bHat pos b lw s j + v s i * bHat pos k lw s j else 0)
        * Real.exp (cAt pos lw q j) := by
  rw [← state_eq pos LW A B K V n₀ lw a b k v hlw ha hb hk hv q hq i j, mul_assoc, ← Real.exp_add]
  simp

/-- A state read by a row scaled by its decay: the start state's share, the `u` rows' and the `v` rows'. -/
theorem read_eq (hlw : Rows pos n₀ LW lw) (ha : Rows pos n₀ A a) (hb : Rows pos n₀ B b) (hk : Rows pos n₀ K k)
    (hv : Rows pos n₀ V v) (q : ℕ) (hq : q ≤ 64) (x xh : Fin 64 → ℝ) (hx : ∀ j, xh j = x j * Real.exp (cAt pos lw q j))
    (i : Fin 64) :
    ∑ l, stAt LW A B K V (n₀ + q) i l * x l
      = ∑ l, xh l * stAt LW A B K V n₀ i l
        + ∑ s, (if (pos s).val < q then ∑ l, xh l * bHat pos b lw s l else 0) * uSeq pos LW A B K V n₀ a s i
        + ∑ s, (if (pos s).val < q then ∑ l, xh l * bHat pos k lw s l else 0) * v s i := by
  have h1 : ∀ l, stAt LW A B K V (n₀ + q) i l * x l
      = xh l * stAt LW A B K V n₀ i l
        + ∑ s, (if (pos s).val < q then xh l * bHat pos b lw s l else 0) * uSeq pos LW A B K V n₀ a s i
        + ∑ s, (if (pos s).val < q then xh l * bHat pos k lw s l else 0) * v s i := by
    intro l
    rw [state_eq' pos LW A B K V n₀ lw a b k v hlw ha hb hk hv q hq i l, hx l, add_assoc, ← Finset.sum_add_distrib,
      mul_assoc, mul_comm (Real.exp _) (x l), add_mul, Finset.sum_mul, mul_comm (stAt LW A B K V n₀ i l)]
    congr 1
    refine Finset.sum_congr rfl fun s _ => ?_
    split_ifs <;> ring
  rw [Finset.sum_congr rfl (fun l _ => h1 l), Finset.sum_add_distrib, Finset.sum_add_distrib]
  congr 1
  · congr 1
    rw [Finset.sum_comm]
    refine Finset.sum_congr rfl fun s _ => ?_
    rw [← Finset.sum_mul]
    split_ifs <;> simp
  · rw [Finset.sum_comm]
    refine Finset.sum_congr rfl fun s _ => ?_
    rw [← Finset.sum_mul]
    split_ifs <;> simp

/-- The `u` rows solve the triangular system, so they are the closed form's. -/
theorem uOf_eq (hlw : Rows pos n₀ LW lw) (ha : Rows pos n₀ A a) (hb : Rows pos n₀ B b) (hk : Rows pos n₀ K k)
    (hv : Rows pos n₀ V v) : uOf pos lw k v a b (stAt LW A B K V n₀) = uSeq pos LW A B K V n₀ a := by
  set U : M := uSeq pos LW A B K V n₀ a with hU
  set L : M := strictPart pos (aHat pos a lw * (bHat pos b lw)ᵀ) with hL
  have key : U = (aHat pos a lw * (stAt LW A B K V n₀)ᵀ
      + strictPart pos (aHat pos a lw * (bHat pos k lw)ᵀ) * v) + L * U := by
    ext t i
    have h := read_eq pos LW A B K V n₀ lw a b k v hlw ha hb hk hv (pos t).val (le_of_lt (pos t).isLt) (a t)
      (aHat pos a lw t) (fun j => by unfold aHat; rw [bcum_eq, cAt_succ]; ring_nf) i
    rw [show U t i = ∑ l, stAt LW A B K V (n₀ + (pos t).val) i l * a t l from rfl, h]
    simp only [Matrix.add_apply, Matrix.mul_apply, Matrix.transpose_apply, hL, strictPart, Fin.lt_def]
    rw [← hU]; ring
  have h2 : (1 - L) * U = aHat pos a lw * (stAt LW A B K V n₀)ᵀ
      + strictPart pos (aHat pos a lw * (bHat pos k lw)ᵀ) * v := by
    rw [Matrix.sub_mul, Matrix.one_mul]
    nth_rewrite 1 [key]
    rw [add_sub_cancel_right]
  unfold uOf
  rw [← h2, ← hL, ← Matrix.mul_assoc, hL, geo_strict, Matrix.one_mul]

/-- The chunk's outputs are the recurrence's. -/
theorem yOf_eq (hr : Rows pos n₀ R r) (hlw : Rows pos n₀ LW lw) (ha : Rows pos n₀ A a) (hb : Rows pos n₀ B b)
    (hk : Rows pos n₀ K k) (hv : Rows pos n₀ V v) (t i : Fin 64) :
    yOf pos r lw k v a b (stAt LW A B K V n₀) t i = yAt R LW A B K V (n₀ + (pos t).val) i := by
  have h := read_eq pos LW A B K V n₀ lw a b k v hlw ha hb hk hv ((pos t).val + 1) (pos t).isLt (r t)
      (rHat pos r lw t) (fun j => by unfold rHat; rw [bcum_eq]) i
  unfold yAt outY
  rw [← hr t, add_assoc n₀, h]
  unfold yOf
  rw [uOf_eq pos LW A B K V n₀ lw a b k v hlw ha hb hk hv]
  simp only [Matrix.add_apply, Matrix.mul_apply, Matrix.transpose_apply, inclPart, Fin.le_def, Nat.lt_succ_iff]

/-- The chunk's final state is the recurrence's after 64 rows. -/
theorem sOf_eq (hlw : Rows pos n₀ LW lw) (ha : Rows pos n₀ A a) (hb : Rows pos n₀ B b) (hk : Rows pos n₀ K k)
    (hv : Rows pos n₀ V v) : sOf pos lw k v a b (stAt LW A B K V n₀) = stAt LW A B K V (n₀ + 64) := by
  ext i j
  rw [state_eq' pos LW A B K V n₀ lw a b k v hlw ha hb hk hv 64 le_rfl i j, cAt_all]
  unfold sOf
  rw [uOf_eq pos LW A B K V n₀ lw a b k v hlw ha hb hk hv]
  congr 2
  simp only [Matrix.add_apply, Matrix.mul_apply, Matrix.transpose_apply, ← Finset.sum_add_distrib]
  exact Finset.sum_congr rfl fun s _ => (if_pos (pos s).isLt).symm

end Cert.Rwkv
-- ==== Proof.Chunk.lean ====
/-
  One chunk of the kernel's scan, four heads packed side by side in 256 lanes: the operations the kernel runs for it, as
  functions of the chunk's rows and the packed state (`chunkY`, `chunkS`), and what they are over the extended reals: on
  rows and a state that are real, head by head the closed form of `Spec.lean` (`chunkY_pk`, `chunkS_pk`).
-/
module

public import proofs.«01_k».proof.Proof.Spec
public import proofs.«01_k».proof.Proof.Gen.KernelIdeal.Skeleton
public import Idealize.ShloMosaic.Lib.Pointwise
public import Idealize.ShloMosaic.Lib.IdealHost

@[expose] public section

noncomputable section

namespace Cert.KernelIdeal.Chunk

open Idealize.ShloMosaic Idealize.SL.Sem Cert.KernelIdeal Cert.KernelIdeal.Gen Cert.Rwkv

/-! ## The operations -/

section Ops
variable {F : FTy → Type} [FloatOps F]

/-- The mask of the four diagonal 64 × 64 blocks of a 256 × 256 array. -/
def bd : IVec S256x256 1 :=
  k0_pay22 (iota .tc S256x256 32 [1] iota_S256x256_d1_w32) k0_pay19 k0_pay20 k0_pay21

/-- A packed array's row number. -/
def rowI : IVec S64x256 32 := iota .tc S64x256 32 [0] iota_S64x256_d0_w32

/-- The four heads of a packed array, spread over the diagonal blocks. -/
def expand (z : FVec F S64x256 .bf16) : FVec F S256x256 .bf16 :=
  select bd (concatenate S256x256 0 [⟨S64x256, z⟩, ⟨S64x256, z⟩, ⟨S64x256, z⟩, ⟨S64x256, z⟩]
    concatenates_S64x256_S64x256_S64x256_S64x256_S256x256_d0) (broadcast S256x256 (Scalar.ofBits .bf16 0x0000#16))

def hi (z : FVec F S64x256 .f32) : FVec F S64x256 .bf16 := truncf .bf16 z bitsLt_bf16_f32

def hi2 (z : FVec F S128x256 .f32) : FVec F S128x256 .bf16 := truncf .bf16 z bitsLt_bf16_f32

def cat (x y : FVec F S64x256 .f32) : FVec F S128x256 .f32 :=
  concatenate S128x256 0 [⟨S64x256, x⟩, ⟨S64x256, y⟩] concatenates_S64x256_S64x256_S128x256_d0

def catB (x y : FVec F S64x256 .bf16) : FVec F S128x256 .bf16 :=
  concatenate S128x256 0 [⟨S64x256, x⟩, ⟨S64x256, y⟩] concatenates_S64x256_S64x256_S128x256_d0

def top (z : FVec F S128x256 .f32) : FVec F S64x256 .f32 :=
  extractStridedSlice S64x256 ![0, 0] z slices_S128x256_o0_0_S64x256

def bot (z : FVec F S128x256 .f32) : FVec F S64x256 .f32 :=
  extractStridedSlice S64x256 ![64, 0] z slices_S128x256_o64_0_S64x256

def zero : FVec F S64x256 .f32 := broadcast S64x256 (Scalar.ofBits .f32 0x00000000#32)

/-- The entries a mask keeps. -/
def mask (c : IVec S64x256 1) (x : FVec F S64x256 .f32) : FVec F S64x256 .f32 := select c x zero

/-- Head by head, `l z`. -/
def mm (l : FVec F S64x256 .bf16) (z : FVec F S64x256 .bf16) : FVec F S64x256 .f32 :=
  matmul dot_S64x256_S256x256_S64x256_1_0_0_1_n_n none l (expand z) (constant S64x256 .f32 0x00000000#32)

/-- The same for two stacked left factors. -/
def mm2 (l : FVec F S128x256 .bf16) (z : FVec F S64x256 .bf16) : FVec F S128x256 .f32 :=
  matmul dot_S128x256_S256x256_S128x256_1_0_0_1_n_n none l (expand z) (constant S128x256 .f32 0x00000000#32)

/-- Two stacked left factors against a block-diagonal right factor, transposed. -/
def nt2 (l : FVec F S128x256 .bf16) (z : FVec F S256x256 .bf16) : FVec F S128x256 .f32 :=
  matmul dot_S128x256_S256x256_S128x256_1_1_0_0_n_n none l z (constant S128x256 .f32 0x00000000#32)

/-- The running sum down (or up) the chunk: the triangle `c` against the three parts of the rows. -/
def cum (c : IVec S64x64 1) (x : FVec F S64x256 .f32) : FVec F S64x256 .f32 :=
  let t : FVec F S64x64 .bf16 := truncf .bf16 (sitofp (F := F) .f32 (extui 32 c natLt_1_32)) bitsLt_bf16_f32
  let x1 := subf x (extf .f32 (hi x) bitsLt_bf16_f32)
  let x2 := subf x1 (extf .f32 (hi x1) bitsLt_bf16_f32)
  let d (y : FVec F S64x256 .bf16) : FVec F S64x256 .f32 :=
    matmul dot_S64x64_S64x256_S64x256_1_0_0_1_n_n none t y (constant S64x256 .f32 0x00000000#32)
  addf (addf (d (hi x)) (d (hi x1))) (d (hi x2))

/-- What a direction fixes: the triangle of its running sum, the masks of earlier rows (the row itself left out, and
    counted), and where the whole chunk's sum stands. -/
structure Dir (F : FTy → Type) where
  tri : IVec S64x64 1
  strict : IVec S64x256 1
  incl : IVec S64x256 1
  last : FVec F S64x256 .f32 → FVec F S1x256 .f32

def fwd : Dir F where
  tri := cmpi .sle (iota .tc S64x64 32 [1] iota_S64x64_d1_w32) (iota .tc S64x64 32 [0] iota_S64x64_d0_w32)
  strict := k0_pay28 rowI k0_pay23 k0_pay24 k0_pay25
  incl := k0_pay30 rowI k0_pay23 k0_pay24 k0_pay25
  last z := extractStridedSlice S1x256 ![63, 0] z slices_S64x256_o63_0_S1x256

def rev : Dir F where
  tri := cmpi .sge (iota .tc S64x64 32 [1] iota_S64x64_d1_w32) (iota .tc S64x64 32 [0] iota_S64x64_d0_w32)
  strict := k0_pay29 rowI k0_pay23 k0_pay24 k0_pay25
  incl := k0_pay31 rowI k0_pay23 k0_pay24 k0_pay25
  last z := extractStridedSlice S1x256 ![0, 0] z slices_S64x256_o0_0_S1x256

/-- The identity, packed. -/
def eye : FVec F S64x256 .f32 := k0_pay27 rowI k0_pay23 k0_pay24 k0_pay25

/-- The queries of the two systems, stacked: the removal keys and the receptances, both decayed. -/
def arOf (r lw a bc : FVec F S64x256 .f32) : FVec F S128x256 .bf16 :=
  hi2 (cat (mulf a (exp (subf bc lw))) (mulf r (exp bc)))

/-- One of the two kinds of keys, the decay undone. -/
def keyOf (b bc : FVec F S64x256 .f32) : FVec F S64x256 .f32 := mulf b (exp (subf zero bc))

def bkOf (k b bc : FVec F S64x256 .f32) : FVec F S128x256 .bf16 := hi2 (cat (keyOf b bc) (keyOf k bc))

def topB (z : FVec F S128x256 .bf16) : FVec F S64x256 .bf16 :=
  extractStridedSlice S64x256 ![0, 0] z slices_S128x256_o0_0_S64x256

def botB (z : FVec F S128x256 .bf16) : FVec F S64x256 .bf16 :=
  extractStridedSlice S64x256 ![64, 0] z slices_S128x256_o64_0_S64x256

/-- One doubling of the inverse and its power. -/
def dblP (x : FVec F S64x256 .f32 × FVec F S64x256 .f32) : FVec F S64x256 .f32 × FVec F S64x256 .f32 :=
  let tp := mm2 (hi2 (cat x.1 x.2)) (hi x.2)
  (addf x.1 (top tp), bot tp)

/-- The unit triangular inverse: five doublings of `1 + l`. -/
def invP (l : FVec F S64x256 .f32) : FVec F S64x256 .f32 :=
  let x := dblP (dblP (dblP (dblP (addf eye l, mm (hi l) (hi l)))))
  addf x.1 (mm (hi x.1) (hi x.2))

variable (D : Dir F) (r lw k v a b : FVec F S64x256 .f32) (S : FVec F S256x256 .f32)

/-- The two stacked scores against one kind of keys, masked. -/
def gB : FVec F S128x256 .f32 := nt2 (arOf r lw a (cum D.tri lw)) (expand (topB (bkOf k b (cum D.tri lw))))

def gK : FVec F S128x256 .f32 := nt2 (arOf r lw a (cum D.tri lw)) (expand (botB (bkOf k b (cum D.tri lw))))

/-- What the state gives the two stacked queries. -/
def arS : FVec F S128x256 .f32 :=
  nt2 (arOf r lw a (cum D.tri lw)) (truncf .bf16 S bitsLt_bf16_f32)

/-- What the values give them through the other keys. -/
def lmV : FVec F S128x256 .f32 :=
  mm2 (hi2 (cat (mask D.strict (top (gK D r lw k a b))) (mask D.incl (bot (gK D r lw k a b))))) (hi v)

/-- The corrections `u`. -/
def chunkU : FVec F S64x256 .bf16 :=
  hi (mm (hi (invP (mask D.strict (top (gB D r lw k a b)))))
    (hi (addf (top (arS D r lw a S)) (top (lmV D r lw k v a b)))))

/-- The chunk's output rows. -/
def chunkY : FVec F S64x256 .f32 :=
  addf (addf (bot (arS D r lw a S))
    (mm (hi (mask D.incl (bot (gB D r lw k a b)))) (chunkU D r lw k v a b S))) (bot (lmV D r lw k v a b))

/-- The state after the chunk. -/
def chunkS : FVec F S256x256 .f32 :=
  mulf (addf S (select bd
      (matmul dot_S128x256_S128x256_S256x256_0_0_1_1_n_n none
        (catB (chunkU D r lw k v a b S) (hi v))
        (bkOf k b (cum D.tri lw)) (constant S256x256 .f32 0x00000000#32))
      (broadcast S256x256 (Scalar.ofBits .f32 0x00000000#32))))
    (broadcastTo S256x256 (exp (D.last (cum D.tri lw))) broadcasts_S1x256_S256x256)

end Ops

/-! ## Packed arrays over the extended reals -/

/-- The head and the lane within the head of one of the 256 packed lanes. -/
def hd (c : Fin 256) : Fin 4 := ⟨c.val / 64, by omega⟩
def ln (c : Fin 256) : Fin 64 := ⟨c.val % 64, by omega⟩
def at4 (h : Fin 4) (j : Fin 64) : Fin 256 := ⟨64 * h.val + j.val, by omega⟩

@[simp] theorem hd_at (h : Fin 4) (j : Fin 64) : hd (at4 h j) = h := by
  apply Fin.ext; simp only [hd, at4]; omega
@[simp] theorem ln_at (h : Fin 4) (j : Fin 64) : ln (at4 h j) = j := by
  apply Fin.ext; simp only [ln, at4]; omega
theorem at_hd_ln (c : Fin 256) : at4 (hd c) (ln c) = c := by
  apply Fin.ext; simp only [hd, ln, at4]; omega

/-- Four heads' matrices, side by side. -/
def pk (X : Fin 4 → M) : S64x256.Idx → EReal :=
  fun i => ((X (hd (i 1)) (i 0) (ln (i 1)) : ℝ) : EReal)

/-- Two packed arrays, one above the other. -/
def pk2 (X Y : Fin 4 → M) : S128x256.Idx → EReal :=
  fun i => if h : (i 0).val < 64 then ((X (hd (i 1)) ⟨(i 0).val, h⟩ (ln (i 1)) : ℝ) : EReal)
    else ((Y (hd (i 1)) ⟨(i 0).val - 64, by have := (i 0).isLt; change (i 0).val < 128 at this; omega⟩ (ln (i 1)) : ℝ) : EReal)

/-- Four heads' matrices on the diagonal. -/
def pkS (X : Fin 4 → M) : S256x256.Idx → EReal :=
  fun i => if hd (i 0) = hd (i 1) then ((X (hd (i 1)) (ln (i 0)) (ln (i 1)) : ℝ) : EReal) else 0

/-- A sum over the packed lanes that only one head's lanes contribute to. -/
theorem sum_head (h : Fin 4) (f : Fin 256 → EReal) (hf : ∀ x, hd x ≠ h → f x = 0) :
    ∑ x, f x = ∑ j : Fin 64, f (at4 h j) := by
  let e : Fin 64 ↪ Fin 256 := ⟨at4 h, fun a b hab => by have := congrArg ln hab; simpa using this⟩
  rw [show ∑ j : Fin 64, f (at4 h j) = ∑ x ∈ Finset.univ.map e, f x from (Finset.sum_map _ e f).symm]
  refine (Finset.sum_subset (Finset.subset_univ _) fun x _ hx => hf x fun hh => hx ?_).symm
  rw [Finset.mem_map]
  exact ⟨ln x, Finset.mem_univ _, by show at4 h (ln x) = x; rw [← hh, at_hd_ln]⟩

theorem coe_sum {ι : Type} (s : Finset ι) (f : ι → ℝ) : ((∑ x ∈ s, f x : ℝ) : EReal) = ∑ x ∈ s, (f x : EReal) := by
  classical
  induction s using Finset.induction_on with
  | empty => simp
  | insert a s ha ih => rw [Finset.sum_insert ha, Finset.sum_insert ha, EReal.coe_add, ih]

theorem ext2 {n m : ℕ} {f g : (⟨2, ![n, m]⟩ : Shape).Idx → EReal}
    (h : ∀ (t : Fin n) (c : Fin m), f (ix2 t c) = g (ix2 t c)) : f = g :=
  funext fun i => by rw [eq_ix2 i]; exact h _ _

theorem pk_row (X : Fin 4 → M) (t : Fin 64) (c : Fin 256) : pk X (ix2 t c) = ((X (hd c) t (ln c) : ℝ) : EReal) := rfl

/-- A row of one of two stacked packed arrays. -/
theorem pk2_row (X Y : Fin 4 → M) (t : Fin 128) (c : Fin 256) : pk2 X Y (ix2 t c)
    = if h : t.val < 64 then ((X (hd c) ⟨t.val, h⟩ (ln c) : ℝ) : EReal)
      else ((Y (hd c) ⟨t.val - 64, by omega⟩ (ln c) : ℝ) : EReal) := rfl

theorem pk2_top (X Y : Fin 4 → M) (t : Fin 64) (c : Fin 256) :
    pk2 X Y (ix2 (Fin.castAdd 64 t) c) = ((X (hd c) t (ln c) : ℝ) : EReal) := by
  have h : (Fin.castAdd 64 t).val < 64 := t.isLt
  exact (pk2_row X Y _ c).trans (dif_pos h)

theorem pk2_bot (X Y : Fin 4 → M) (t : Fin 64) (c : Fin 256) :
    pk2 X Y (ix2 (Fin.natAdd 64 t) c) = ((Y (hd c) t (ln c) : ℝ) : EReal) := by
  have h : ¬(Fin.natAdd 64 t).val < 64 := by simp
  refine ((pk2_row X Y _ c).trans (dif_neg h)).trans ?_
  congr 2
  apply Fin.ext
  simp

theorem pkS_row (X : Fin 4 → M) (t c : Fin 256) : pkS X (ix2 t c)
    = if hd t = hd c then ((X (hd c) (ln t) (ln c) : ℝ) : EReal) else 0 := rfl

/-! ## The masks -/

/-- The quotient by 64 the masks compute, at a number below 256. -/
theorem quot_word (n : Fin 256) : Scalar.select
        (IntOp.andi
          (IntOp.cmpi CmpIPredicate.ne
            (IntOp.subi (BitVec.setWidth 32 (IntOp.cmpi CmpIPredicate.sgt (BitVec.ofNat 32 n.val) 0#32))
              (BitVec.setWidth 32 (IntOp.cmpi CmpIPredicate.slt (BitVec.ofNat 32 n.val) 0#32)))
            (Scalar.subi (Scalar.extui (Scalar.cmpi CmpIPredicate.sgt 64#32 0#32))
              (Scalar.extui (Scalar.cmpi CmpIPredicate.slt 64#32 0#32))))
          (IntOp.cmpi CmpIPredicate.ne (IntOp.remsi ArithUnit.vector (BitVec.ofNat 32 n.val) 64#32) 0#32))
        (IntOp.subi (IntOp.divsi ArithUnit.vector (BitVec.ofNat 32 n.val) 64#32) 1#32)
        (IntOp.divsi ArithUnit.vector (BitVec.ofNat 32 n.val) 64#32) = BitVec.ofNat 32 (n.val / 64) := by
  revert n; decide +kernel

/-- The remainder by 64 the masks compute, at a number below 256. -/
theorem rem_word (n : Fin 256) : Scalar.select
        (IntOp.andi
          (IntOp.xori
            (IntOp.cmpi CmpIPredicate.slt
              (IntOp.remsi ArithUnit.vector (BitVec.ofNat 32 n.val)
                (Scalar.select (Scalar.cmpi CmpIPredicate.eq 64#32 0#32) 1#32 64#32))
              0#32)
            (Scalar.cmpi CmpIPredicate.slt (Scalar.select (Scalar.cmpi CmpIPredicate.eq 64#32 0#32) 1#32 64#32) 0#32))
          (IntOp.cmpi CmpIPredicate.ne
            (IntOp.remsi ArithUnit.vector (BitVec.ofNat 32 n.val)
              (Scalar.select (Scalar.cmpi CmpIPredicate.eq 64#32 0#32) 1#32 64#32))
            0#32))
        (IntOp.addi
          (IntOp.remsi ArithUnit.vector (BitVec.ofNat 32 n.val)
            (Scalar.select (Scalar.cmpi CmpIPredicate.eq 64#32 0#32) 1#32 64#32))
          (Scalar.select (Scalar.cmpi CmpIPredicate.eq 64#32 0#32) 1#32 64#32))
        (IntOp.remsi ArithUnit.vector (BitVec.ofNat 32 n.val)
          (Scalar.select (Scalar.cmpi CmpIPredicate.eq 64#32 0#32) 1#32 64#32)) = BitVec.ofNat 32 (ln n).val := by
  revert n; decide +kernel

theorem eq4_word (p q : Fin 4) : IntOp.cmpi CmpIPredicate.eq (BitVec.ofNat 32 p.val) (BitVec.ofNat 32 q.val)
    = if p = q then 1#1 else 0#1 := by
  revert p q; decide +kernel

theorem eq_word (p q : Fin 64) : IntOp.cmpi CmpIPredicate.eq (BitVec.ofNat 32 p.val) (BitVec.ofNat 32 q.val)
    = if p = q then 1#1 else 0#1 := by
  revert p q; decide +kernel

theorem slt_word (p q : Fin 64) : IntOp.cmpi CmpIPredicate.slt (BitVec.ofNat 32 p.val) (BitVec.ofNat 32 q.val)
    = if p < q then 1#1 else 0#1 := by
  revert p q; decide +kernel

theorem sle_word (p q : Fin 64) : IntOp.cmpi CmpIPredicate.sle (BitVec.ofNat 32 p.val) (BitVec.ofNat 32 q.val)
    = if p ≤ q then 1#1 else 0#1 := by
  revert p q; decide +kernel

theorem sgt_word (p q : Fin 64) : IntOp.cmpi CmpIPredicate.sgt (BitVec.ofNat 32 p.val) (BitVec.ofNat 32 q.val)
    = if q < p then 1#1 else 0#1 := by
  revert p q; decide +kernel

theorem sge_word (p q : Fin 64) : IntOp.cmpi CmpIPredicate.sge (BitVec.ofNat 32 p.val) (BitVec.ofNat 32 q.val)
    = if q ≤ p then 1#1 else 0#1 := by
  revert p q; decide +kernel

theorem select_ite {α : Type} (p : Prop) [Decidable p] (x y : α) :
    Scalar.select (if p then 1#1 else 0#1) x y = if p then x else y := by
  by_cases h : p <;> simp [h, Scalar.select]

/-- A condition turned into a number. -/
theorem cond_ite (p : Prop) [Decidable p] :
    FloatOps.sitofp (F := Ideal) FTy.f32 (BitVec.setWidth 32 (if p then 1#1 else 0#1 : BitVec 1)) = (((if p then 1 else 0 : ℝ)) : EReal) := by
  show (((BitVec.setWidth 32 (if p then 1#1 else 0#1 : BitVec 1)).toInt : ℝ) : EReal) = _
  by_cases h : p <;> simp [h]

theorem bd_apply (p c : Fin 256) : bd (ix2 p c) = if hd p = hd c then 1#1 else 0#1 := by
  pointwise [bd, k0_pay22, k0_pay19, k0_pay20, k0_pay21]
  rw [quot_word p, quot_word c]
  exact eq4_word (hd p) (hd c)

/-- What a direction's masks say, when `pos` is the time of a row within its chunk. -/
structure Reads (D : Dir Ideal) (pos : Fin 64 ≃ Fin 64) : Prop where
  tri : ∀ t s : Fin 64, D.tri (ix2 t s) = if pos s ≤ pos t then 1#1 else 0#1
  strict : ∀ (t : Fin 64) (c : Fin 256), D.strict (ix2 t c) = if pos (ln c) < pos t then 1#1 else 0#1
  incl : ∀ (t : Fin 64) (c : Fin 256), D.incl (ix2 t c) = if pos (ln c) ≤ pos t then 1#1 else 0#1
  last : ∀ (X : Fin 4 → M) (c : Fin 256), D.last (pk X) (ix2 0 c) = ((X (hd c) (pos.symm 63) (ln c) : ℝ) : EReal)

theorem reads_fwd : Reads fwd (Equiv.refl _) where
  tri t s := by
    pointwise [fwd]
    exact sle_word s t
  strict t c := by
    pointwise [fwd, k0_pay28, k0_pay23, k0_pay24, k0_pay25, k0_pay26, rowI]
    rw [rem_word c]
    exact slt_word (ln c) t
  incl t c := by
    pointwise [fwd, k0_pay30, k0_pay23, k0_pay24, k0_pay25, k0_pay26, rowI]
    rw [rem_word c]
    exact sle_word (ln c) t
  last X c := by
    pointwise [fwd]
    rfl

theorem reads_rev : Reads rev Fin.revPerm where
  tri t s := by
    pointwise [rev]
    refine (sge_word s t).trans (if_congr ?_ rfl rfl)
    exact Fin.rev_le_rev.symm
  strict t c := by
    pointwise [rev, k0_pay29, k0_pay23, k0_pay24, k0_pay25, k0_pay26, rowI]
    rw [rem_word c]
    refine (sgt_word (ln c) t).trans (if_congr ?_ rfl rfl)
    exact Fin.rev_lt_rev.symm
  incl t c := by
    pointwise [rev, k0_pay31, k0_pay23, k0_pay24, k0_pay25, k0_pay26, rowI]
    rw [rem_word c]
    refine (sge_word (ln c) t).trans (if_congr ?_ rfl rfl)
    exact Fin.rev_le_rev.symm
  last X c := by
    pointwise [rev]
    rfl

/-! ## The stages -/

theorem eye_pk : eye (F := Ideal) = pk (fun _ => 1) := by
  refine ext2 fun t c => ?_
  pointwise [eye, k0_pay27, k0_pay23, k0_pay24, k0_pay25, k0_pay26, rowI]
  rw [rem_word c, eq_word (ln c) t, cond_ite, pk_row, Matrix.one_apply]
  congr 1
  simp only [eq_comm]

theorem hi_pk (X : Fin 4 → M) : hi (F := Ideal) (pk X) = pk X := rfl

theorem hi2_pk (X Y : Fin 4 → M) : hi2 (F := Ideal) (pk2 X Y) = pk2 X Y := rfl

theorem cum_pk {D : Dir Ideal} {pos : Fin 64 ≃ Fin 64} (hD : Reads D pos) (X : Fin 4 → M) :
    cum (F := Ideal) D.tri (pk X) = pk (fun h => bcum pos (X h)) := by
  refine ext2 fun t c => ?_
  pointwise [cum, hi]
  simp only [hD.tri, cond_ite, pk_row, ← EReal.coe_sub, ← EReal.coe_mul, ← coe_sum, ← EReal.coe_add]
  congr 1
  simp [bcum]

theorem expand_pk (Z : Fin 4 → M) : expand (F := Ideal) (pk Z) = pkS Z := by
  refine ext2 fun t c => ?_
  pointwise [expand]
  rw [bd_apply, select_ite, pkS_row]
  simp only [pk_row]
  refine if_congr Iff.rfl ?_ rfl
  split_ifs with h1 h2 h3
  all_goals
    congr 2
    apply Fin.ext
    simp only [ln]
    omega

theorem mm_pk (X Z : Fin 4 → M) : mm (F := Ideal) (pk X) (pk Z) = pk (fun h => X h * Z h) := by
  unfold mm
  rw [expand_pk]
  refine ext2 fun t c => ?_
  pointwise []
  rw [sum_head (hd c)]
  · simp only [pk_row, pkS_row, hd_at, ln_at, if_true, ← EReal.coe_mul, ← coe_sum]
    rfl
  · intro x hx
    rw [pkS_row, if_neg hx, mul_zero]

theorem mm2_pk (X Y Z : Fin 4 → M) : mm2 (F := Ideal) (pk2 X Y) (pk Z) = pk2 (fun h => X h * Z h) (fun h => Y h * Z h) := by
  unfold mm2
  rw [expand_pk]
  refine ext2 fun t c => ?_
  pointwise []
  rw [sum_head (hd c)]
  · simp only [pk2_row, pkS_row, hd_at, ln_at, if_true]
    split_ifs with h
    all_goals
      simp only [← EReal.coe_mul, ← coe_sum]
      rfl
  · intro x hx
    rw [pkS_row, if_neg hx, mul_zero]

theorem nt2_pk (X Y Z : Fin 4 → M) : nt2 (F := Ideal) (pk2 X Y) (pkS Z)
    = pk2 (fun h => X h * (Z h).transpose) (fun h => Y h * (Z h).transpose) := by
  unfold nt2
  refine ext2 fun t c => ?_
  pointwise []
  rw [sum_head (hd c)]
  · simp only [pk2_row, pkS_row, hd_at, ln_at, if_true]
    split_ifs with h
    all_goals
      simp only [← EReal.coe_mul, ← coe_sum]
      rfl
  · intro x hx
    rw [pkS_row, if_neg (Ne.symm hx), mul_zero]

theorem cat_pk (X Y : Fin 4 → M) : cat (F := Ideal) (pk X) (pk Y) = pk2 X Y := by
  refine ext2 fun t c => ?_
  pointwise [cat]
  rfl

theorem catB_pk (X Y : Fin 4 → M) : catB (F := Ideal) (pk X) (pk Y) = pk2 X Y := cat_pk X Y

theorem top_pk (X Y : Fin 4 → M) : top (F := Ideal) (pk2 X Y) = pk X := by
  refine ext2 fun t c => ?_
  pointwise [top]
  rw [pk2_row, dif_pos t.isLt]
  rfl

theorem bot_pk (X Y : Fin 4 → M) : bot (F := Ideal) (pk2 X Y) = pk Y := by
  refine ext2 fun t c => ?_
  pointwise [bot]
  rw [pk2_row, dif_neg (by simp), pk_row]
  congr 2
  apply Fin.ext
  simp

theorem topB_pk (X Y : Fin 4 → M) : topB (F := Ideal) (pk2 X Y) = pk X := top_pk X Y

theorem botB_pk (X Y : Fin 4 → M) : botB (F := Ideal) (pk2 X Y) = pk Y := bot_pk X Y

theorem add_pk (X Y : Fin 4 → M) : addf (F := Ideal) (φ := .f32) (pk X) (pk Y) = pk (fun h => X h + Y h) := by
  refine ext2 fun t c => ?_
  pointwise []
  exact (EReal.coe_add _ _).symm

theorem strict_pk {D : Dir Ideal} {pos : Fin 64 ≃ Fin 64} (hD : Reads D pos) (X : Fin 4 → M) :
    mask (F := Ideal) D.strict (pk X) = pk (fun h => strictPart pos (X h)) := by
  refine ext2 fun t c => ?_
  pointwise [mask, zero]
  rw [hD.strict, select_ite, pk_row, pk_row]
  unfold strictPart
  split_ifs <;> rfl

theorem incl_pk {D : Dir Ideal} {pos : Fin 64 ≃ Fin 64} (hD : Reads D pos) (X : Fin 4 → M) :
    mask (F := Ideal) D.incl (pk X) = pk (fun h => inclPart pos (X h)) := by
  refine ext2 fun t c => ?_
  pointwise [mask, zero]
  rw [hD.incl, select_ite, pk_row, pk_row]
  unfold inclPart
  split_ifs <;> rfl

theorem arOf_pk (pos : Fin 64 ≃ Fin 64) (r lw a : Fin 4 → M) :
    arOf (F := Ideal) (pk r) (pk lw) (pk a) (pk fun h => bcum pos (lw h))
      = pk2 (fun h => aHat pos (a h) (lw h)) (fun h => rHat pos (r h) (lw h)) := by
  have ha : mulf (F := Ideal) (φ := .f32) (pk a) (exp (subf (pk fun h => bcum pos (lw h)) (pk lw)))
      = pk (fun h => aHat pos (a h) (lw h)) := by
    refine ext2 fun t c => ?_
    pointwise []
    simp only [pk_row, ← EReal.coe_sub, Ideal.exp_coe, ← EReal.coe_mul]
    rfl
  have hr : mulf (F := Ideal) (φ := .f32) (pk r) (exp (pk fun h => bcum pos (lw h)))
      = pk (fun h => rHat pos (r h) (lw h)) := by
    refine ext2 fun t c => ?_
    pointwise []
    simp only [pk_row, Ideal.exp_coe, ← EReal.coe_mul]
    rfl
  unfold arOf
  rw [ha, hr, cat_pk, hi2_pk]

theorem keyOf_pk (pos : Fin 64 ≃ Fin 64) (b lw : Fin 4 → M) :
    keyOf (F := Ideal) (pk b) (pk fun h => bcum pos (lw h)) = pk (fun h => bHat pos (b h) (lw h)) := by
  refine ext2 fun t c => ?_
  pointwise [keyOf, zero]
  simp only [pk_row, zero_sub, ← EReal.coe_neg, Ideal.exp_coe, ← EReal.coe_mul]
  rfl

theorem bkOf_pk (pos : Fin 64 ≃ Fin 64) (k b lw : Fin 4 → M) :
    bkOf (F := Ideal) (pk k) (pk b) (pk fun h => bcum pos (lw h))
      = pk2 (fun h => bHat pos (b h) (lw h)) (fun h => bHat pos (k h) (lw h)) := by
  unfold bkOf
  rw [keyOf_pk, keyOf_pk, cat_pk, hi2_pk]

theorem dblP_pk (T P : Fin 4 → M) : dblP (F := Ideal) (pk T, pk P)
    = (pk (fun h => (dbl (T h, P h)).1), pk (fun h => (dbl (T h, P h)).2)) := by
  unfold dblP
  dsimp only
  rw [cat_pk, hi2_pk, hi_pk, mm2_pk, top_pk, bot_pk, add_pk]
  rfl

theorem invP_pk (L : Fin 4 → M) : invP (F := Ideal) (pk L) = pk (fun h => geo (L h)) := by
  unfold invP
  dsimp only
  rw [eye_pk, add_pk, hi_pk, mm_pk]
  rw [dblP_pk, dblP_pk, dblP_pk, dblP_pk]
  dsimp only
  rw [hi_pk, hi_pk, mm_pk, add_pk]
  rfl

/-! ## The chunk -/

section Chunk
variable {D : Dir Ideal} {pos : Fin 64 ≃ Fin 64} (hD : Reads D pos) (r lw k v a b S : Fin 4 → M)

include hD

theorem gB_pk : gB D (pk r) (pk lw) (pk k) (pk a) (pk b)
    = pk2 (fun h => aHat pos (a h) (lw h) * (bHat pos (b h) (lw h)).transpose)
        (fun h => rHat pos (r h) (lw h) * (bHat pos (b h) (lw h)).transpose) := by
  unfold gB
  rw [cum_pk hD, arOf_pk, bkOf_pk, topB_pk, expand_pk, nt2_pk]

theorem gK_pk : gK D (pk r) (pk lw) (pk k) (pk a) (pk b)
    = pk2 (fun h => aHat pos (a h) (lw h) * (bHat pos (k h) (lw h)).transpose)
        (fun h => rHat pos (r h) (lw h) * (bHat pos (k h) (lw h)).transpose) := by
  unfold gK
  rw [cum_pk hD, arOf_pk, bkOf_pk, botB_pk, expand_pk, nt2_pk]

theorem arS_pk : arS D (pk r) (pk lw) (pk a) (pkS S)
    = pk2 (fun h => aHat pos (a h) (lw h) * (S h).transpose) (fun h => rHat pos (r h) (lw h) * (S h).transpose) := by
  unfold arS
  rw [cum_pk hD, arOf_pk, show truncf (F := Ideal) .bf16 (pkS S) bitsLt_bf16_f32 = pkS S from rfl, nt2_pk]

theorem lmV_pk : lmV D (pk r) (pk lw) (pk k) (pk v) (pk a) (pk b)
    = pk2 (fun h => strictPart pos (aHat pos (a h) (lw h) * (bHat pos (k h) (lw h)).transpose) * v h)
        (fun h => inclPart pos (rHat pos (r h) (lw h) * (bHat pos (k h) (lw h)).transpose) * v h) := by
  unfold lmV
  rw [gK_pk hD, top_pk, bot_pk, strict_pk hD, incl_pk hD, cat_pk, hi2_pk, hi_pk, mm2_pk]

theorem chunkU_pk : chunkU D (pk r) (pk lw) (pk k) (pk v) (pk a) (pk b) (pkS S)
    = pk (fun h => uOf pos (lw h) (k h) (v h) (a h) (b h) (S h)) := by
  unfold chunkU
  rw [gB_pk hD, top_pk, strict_pk hD, invP_pk, arS_pk hD, lmV_pk hD, top_pk, top_pk, add_pk, hi_pk, hi_pk, mm_pk, hi_pk]
  rfl

/-- The chunk's output rows are, head by head, the closed form's. -/
theorem chunkY_pk : chunkY D (pk r) (pk lw) (pk k) (pk v) (pk a) (pk b) (pkS S)
    = pk (fun h => yOf pos (r h) (lw h) (k h) (v h) (a h) (b h) (S h)) := by
  unfold chunkY
  rw [chunkU_pk hD, arS_pk hD, lmV_pk hD, gB_pk hD, bot_pk, bot_pk, bot_pk, incl_pk hD, hi_pk, mm_pk, add_pk, add_pk]
  rfl

/-- The state after the chunk is, head by head, the closed form's. -/
theorem chunkS_pk : chunkS D (pk r) (pk lw) (pk k) (pk v) (pk a) (pk b) (pkS S)
    = pkS (fun h => sOf pos (lw h) (k h) (v h) (a h) (b h) (S h)) := by
  unfold chunkS
  rw [chunkU_pk hD, cum_pk hD, bkOf_pk, hi_pk, catB_pk]
  refine ext2 fun p c => ?_
  pointwise []
  have hl : bcum pos (lw (hd c)) (pos.symm 63) (ln c) = ∑ s, lw (hd c) s (ln c) :=
    Finset.sum_congr rfl fun s _ => by rw [Equiv.apply_symm_apply, if_pos (show pos s ≤ 63 from Fin.le_last (pos s))]
  rw [hD.last, bd_apply, select_ite, hl, pkS_row, pkS_row]
  split_ifs with h
  · rw [Fin.sum_univ_add (a := 64) (b := 64)]
    simp only [pk2_top, pk2_bot, h, ← EReal.coe_mul, Ideal.exp_coe, ← coe_sum, ← EReal.coe_add]
    rfl
  · simp
end Chunk

end Cert.KernelIdeal.Chunk
-- ==== Proof.KRun.lean ====
module

public import proofs.«01_k».proof.Proof.Gen.KernelIdeal.Value
public import proofs.«01_k».proof.Proof.Chunk

/-!
# What one grid point leaves in its buffers

The body loads eight groups of 256 lanes of each input and the eight groups' states for both directions, and stores the
chunk function of `Chunk.lean` in the same places.
-/

@[expose] public section

set_option maxRecDepth 16384

noncomputable section

open Idealize.ShloMosaic Idealize.ShloMosaic.TcCoe Idealize.SL.Sem

namespace Cert.KernelIdeal.Chunk

open Cert.KernelIdeal Cert.KernelIdeal.Gen

section Pieces

variable {F : FTy → Type} [FloatOps F]

theorem inbR (q : Fin 8) : ∀ a, (![0, 256 * q.val] : Fin 2 → ℕ) a + S64x256.size a ≤ S64x2048.size a := by
  intro a
  have := q.isLt
  fin_cases a
  · show 0 + 64 ≤ 64
    omega
  · show 256 * q.val + 256 ≤ 2048
    omega

theorem inbS (d : Fin 2) (q : Fin 8) :
    ∀ a, (![d.val, q.val, 0, 0] : Fin 4 → ℕ) a + S1x1x256x256.size a ≤ S2x8x256x256.size a := by
  intro a
  have := q.isLt
  have := d.isLt
  fin_cases a
  · show d.val + 1 ≤ 2
    omega
  · show q.val + 1 ≤ 8
    omega
  · show 0 + 256 ≤ 256
    omega
  · show 0 + 256 ≤ 256
    omega

/-- The lanes of group `q` in a block of rows. -/
abbrev rectR (q : Fin 8) : Rect S64x2048 := Rect.unit (s := S64x2048) ![0, 256 * q.val] S64x256.size (inbR q)

/-- The state of direction `d` and group `q`. -/
abbrev rectS (d : Fin 2) (q : Fin 8) : Rect S2x8x256x256 :=
  Rect.unit (s := S2x8x256x256) ![d.val, q.val, 0, 0] S1x1x256x256.size (inbS d q)

/-- Group `q`'s lanes loaded from a buffer of rows. -/
def ldR (A : Memref sig .tc .vmem S64x2048 .f32) (h : A.IsWhole) (x : Vec F S64x2048 .f32) (q : Fin 8) : FVec F S64x256 .f32 :=
  View.readAt (Elt F) A.view (rectR q).toLoadRect (h.unread x)

/-- A state loaded from the scratch. -/
def ldS (A : Memref sig .tc .vmem S2x8x256x256 .f32) (h : A.IsWhole) (x : Vec F S2x8x256x256 .f32) (d : Fin 2) (q : Fin 8) :
    FVec F S256x256 .f32 :=
  shapeCast S256x256 (View.readAt (Elt F) A.view (rectS d q).toLoadRect (h.unread x)) shapeCasts_S1x1x256x256_S256x256

/-- A state loaded from the scratch after the store that clears it. -/
def ldZ (A : Memref sig .tc .vmem S2x8x256x256 .f32) (d : Fin 2) (q : Fin 8) : FVec F S256x256 .f32 :=
  shapeCast S256x256 (A.view.readCov [(⟨Rect.unit (s := S2x8x256x256) ![0, 0, 0, 0] S2x8x256x256.size
    inb_S2x8x256x256_S2x8x256x256_0_0_0_0, k0_pay2⟩ : View.Piece (Elt F) S2x8x256x256 .f32)] (rectS d q).toLoadRect)
    shapeCasts_S1x1x256x256_S256x256

/-- The store of group `q`'s result rows. -/
def pcY (Y : Fin 8 → FVec F S64x256 .f32) (q : Fin 8) : View.Piece (Elt F) S64x2048 .f32 := ⟨rectR q, Y q⟩

/-- The stores of all groups' result rows, the last first. -/
def pcsY (Y : Fin 8 → FVec F S64x256 .f32) : List (View.Piece (Elt F) S64x2048 .f32) :=
  [pcY Y 7, pcY Y 6, pcY Y 5, pcY Y 4, pcY Y 3, pcY Y 2, pcY Y 1, pcY Y 0]

/-- The store of one new state. -/
def pcS (Z : Fin 2 → Fin 8 → FVec F S256x256 .f32) (d : Fin 2) (q : Fin 8) : View.Piece (Elt F) S2x8x256x256 .f32 :=
  ⟨rectS d q, shapeCast S1x1x256x256 (Z d q) shapeCasts_S256x256_S1x1x256x256⟩

/-- The stores of all new states over earlier stores, the last first. -/
def pcsS (Z : Fin 2 → Fin 8 → FVec F S256x256 .f32) (L : List (View.Piece (Elt F) S2x8x256x256 .f32)) :
    List (View.Piece (Elt F) S2x8x256x256 .f32) :=
  pcS Z 1 7 :: pcS Z 1 6 :: pcS Z 1 5 :: pcS Z 1 4 :: pcS Z 1 3 :: pcS Z 1 2 :: pcS Z 1 1 :: pcS Z 1 0 ::
  pcS Z 0 7 :: pcS Z 0 6 :: pcS Z 0 5 :: pcS Z 0 4 :: pcS Z 0 3 :: pcS Z 0 2 :: pcS Z 0 1 :: pcS Z 0 0 :: L

/-- The stores of the first point into the forward result's buffer. -/
theorem runA_y0
    (c : Dev nD) (i : grid0.Coords) (arg2 : Memref sig .tc .vmem S64x2048 .f32) (harg2 : arg2.IsWhole)
    (arg3 : Memref sig .tc .vmem S64x2048 .f32) (harg3 : arg3.IsWhole) (arg4 : Memref sig .tc .vmem S64x2048 .f32)
    (harg4 : arg4.IsWhole) (arg5 : Memref sig .tc .vmem S64x2048 .f32) (harg5 : arg5.IsWhole)
    (arg6 : Memref sig .tc .vmem S64x2048 .f32) (harg6 : arg6.IsWhole) (arg7 : Memref sig .tc .vmem S64x2048 .f32)
    (harg7 : arg7.IsWhole) (arg8 : Memref sig .tc .vmem S64x2048 .f32) (harg8 : arg8.IsWhole)
    (arg9 : Memref sig .tc .vmem S64x2048 .f32) (harg9 : arg9.IsWhole) (arg10 : Memref sig .tc .vmem S64x2048 .f32)
    (harg10 : arg10.IsWhole) (arg11 : Memref sig .tc .vmem S64x2048 .f32) (harg11 : arg11.IsWhole)
    (arg12 : Memref sig .tc .vmem S64x2048 .f32) (harg12 : arg12.IsWhole)
    (arg13 : Memref sig .tc .vmem S64x2048 .f32) (harg13 : arg13.IsWhole)
    (arg14 : Memref sig .tc .vmem S32x10240 .f32) (harg14 : arg14.IsWhole)
    (arg15 : Memref sig .tc .vmem S32x16384 .f32) (harg15 : arg15.IsWhole)
    (arg16 : Memref sig .tc .vmem S64x2048 .f32) (harg16 : arg16.IsWhole)
    (arg17 : Memref sig .tc .vmem S64x2048 .f32) (harg17 : arg17.IsWhole)
    (arg18 : Memref sig .tc .vmem S32x10240 .bf16) (harg18 : arg18.IsWhole)
    (arg19 : Memref sig .tc .vmem S32x16384 .bf16) (harg19 : arg19.IsWhole)
    (arg20 : Memref sig .tc .vmem S2x8x256x256 .f32) (harg20 : arg20.IsWhole) (hc0 : cond0_0 i)
    (x0 : Vec F S64x2048 .f32) (x1 : Vec F S64x2048 .f32) (x2 : Vec F S64x2048 .f32) (x3 : Vec F S64x2048 .f32)
    (x4 : Vec F S64x2048 .f32) (x5 : Vec F S64x2048 .f32) (x6 : Vec F S64x2048 .f32) (x7 : Vec F S64x2048 .f32)
    (x8 : Vec F S64x2048 .f32) (x9 : Vec F S64x2048 .f32) (x10 : Vec F S64x2048 .f32) (x11 : Vec F S64x2048 .f32)
    (x12 : Vec F S32x10240 .f32) (x13 : Vec F S32x16384 .f32) :
    (kernelRun0_A
      c i arg2 harg2 arg3 harg3 arg4 harg4 arg5 harg5 arg6 harg6 arg7 harg7 arg8 harg8 arg9 harg9 arg10 harg10 arg11
      harg11 arg12 harg12 arg13 harg13 arg14 harg14 arg15 harg15 arg16 harg16 arg17 harg17 arg18 harg18 arg19 harg19
      arg20 harg20 hc0 x0 x1 x2 x3 x4 x5 x6 x7 x8 x9 x10 x11 x12 x13).1
    = pcsY fun q => chunkY fwd (ldR arg2 harg2 x0 q) (ldR arg3 harg3 x1 q) (ldR arg4 harg4 x2 q) (ldR arg5 harg5 x3 q) (ldR arg6 harg6 x4 q) (ldR arg7 harg7 x5 q)
      (ldZ arg20 0 q) := by
  sl_kernel_rfl

/-- The stores of the first point into the reverse result's buffer. -/
theorem runA_y1
    (c : Dev nD) (i : grid0.Coords) (arg2 : Memref sig .tc .vmem S64x2048 .f32) (harg2 : arg2.IsWhole)
    (arg3 : Memref sig .tc .vmem S64x2048 .f32) (harg3 : arg3.IsWhole) (arg4 : Memref sig .tc .vmem S64x2048 .f32)
    (harg4 : arg4.IsWhole) (arg5 : Memref sig .tc .vmem S64x2048 .f32) (harg5 : arg5.IsWhole)
    (arg6 : Memref sig .tc .vmem S64x2048 .f32) (harg6 : arg6.IsWhole) (arg7 : Memref sig .tc .vmem S64x2048 .f32)
    (harg7 : arg7.IsWhole) (arg8 : Memref sig .tc .vmem S64x2048 .f32) (harg8 : arg8.IsWhole)
    (arg9 : Memref sig .tc .vmem S64x2048 .f32) (harg9 : arg9.IsWhole) (arg10 : Memref sig .tc .vmem S64x2048 .f32)
    (harg10 : arg10.IsWhole) (arg11 : Memref sig .tc .vmem S64x2048 .f32) (harg11 : arg11.IsWhole)
    (arg12 : Memref sig .tc .vmem S64x2048 .f32) (harg12 : arg12.IsWhole)
    (arg13 : Memref sig .tc .vmem S64x2048 .f32) (harg13 : arg13.IsWhole)
    (arg14 : Memref sig .tc .vmem S32x10240 .f32) (harg14 : arg14.IsWhole)
    (arg15 : Memref sig .tc .vmem S32x16384 .f32) (harg15 : arg15.IsWhole)
    (arg16 : Memref sig .tc .vmem S64x2048 .f32) (harg16 : arg16.IsWhole)
    (arg17 : Memref sig .tc .vmem S64x2048 .f32) (harg17 : arg17.IsWhole)
    (arg18 : Memref sig .tc .vmem S32x10240 .bf16) (harg18 : arg18.IsWhole)
    (arg19 : Memref sig .tc .vmem S32x16384 .bf16) (harg19 : arg19.IsWhole)
    (arg20 : Memref sig .tc .vmem S2x8x256x256 .f32) (harg20 : arg20.IsWhole) (hc0 : cond0_0 i)
    (x0 : Vec F S64x2048 .f32) (x1 : Vec F S64x2048 .f32) (x2 : Vec F S64x2048 .f32) (x3 : Vec F S64x2048 .f32)
    (x4 : Vec F S64x2048 .f32) (x5 : Vec F S64x2048 .f32) (x6 : Vec F S64x2048 .f32) (x7 : Vec F S64x2048 .f32)
    (x8 : Vec F S64x2048 .f32) (x9 : Vec F S64x2048 .f32) (x10 : Vec F S64x2048 .f32) (x11 : Vec F S64x2048 .f32)
    (x12 : Vec F S32x10240 .f32) (x13 : Vec F S32x16384 .f32) :
    (kernelRun0_A
      c i arg2 harg2 arg3 harg3 arg4 harg4 arg5 harg5 arg6 harg6 arg7 harg7 arg8 harg8 arg9 harg9 arg10 harg10 arg11
      harg11 arg12 harg12 arg13 harg13 arg14 harg14 arg15 harg15 arg16 harg16 arg17 harg17 arg18 harg18 arg19 harg19
      arg20 harg20 hc0 x0 x1 x2 x3 x4 x5 x6 x7 x8 x9 x10 x11 x12 x13).2.1
    = pcsY fun q => chunkY rev (ldR arg8 harg8 x6 q) (ldR arg9 harg9 x7 q) (ldR arg10 harg10 x8 q) (ldR arg11 harg11 x9 q) (ldR arg12 harg12 x10 q) (ldR arg13 harg13 x11 q)
      (ldZ arg20 1 q) := by
  sl_kernel_rfl

/-- The stores of the first point into the states' scratch. -/
theorem runA_s
    (c : Dev nD) (i : grid0.Coords) (arg2 : Memref sig .tc .vmem S64x2048 .f32) (harg2 : arg2.IsWhole)
    (arg3 : Memref sig .tc .vmem S64x2048 .f32) (harg3 : arg3.IsWhole) (arg4 : Memref sig .tc .vmem S64x2048 .f32)
    (harg4 : arg4.IsWhole) (arg5 : Memref sig .tc .vmem S64x2048 .f32) (harg5 : arg5.IsWhole)
    (arg6 : Memref sig .tc .vmem S64x2048 .f32) (harg6 : arg6.IsWhole) (arg7 : Memref sig .tc .vmem S64x2048 .f32)
    (harg7 : arg7.IsWhole) (arg8 : Memref sig .tc .vmem S64x2048 .f32) (harg8 : arg8.IsWhole)
    (arg9 : Memref sig .tc .vmem S64x2048 .f32) (harg9 : arg9.IsWhole) (arg10 : Memref sig .tc .vmem S64x2048 .f32)
    (harg10 : arg10.IsWhole) (arg11 : Memref sig .tc .vmem S64x2048 .f32) (harg11 : arg11.IsWhole)
    (arg12 : Memref sig .tc .vmem S64x2048 .f32) (harg12 : arg12.IsWhole)
    (arg13 : Memref sig .tc .vmem S64x2048 .f32) (harg13 : arg13.IsWhole)
    (arg14 : Memref sig .tc .vmem S32x10240 .f32) (harg14 : arg14.IsWhole)
    (arg15 : Memref sig .tc .vmem S32x16384 .f32) (harg15 : arg15.IsWhole)
    (arg16 : Memref sig .tc .vmem S64x2048 .f32) (harg16 : arg16.IsWhole)
    (arg17 : Memref sig .tc .vmem S64x2048 .f32) (harg17 : arg17.IsWhole)
    (arg18 : Memref sig .tc .vmem S32x10240 .bf16) (harg18 : arg18.IsWhole)
    (arg19 : Memref sig .tc .vmem S32x16384 .bf16) (harg19 : arg19.IsWhole)
    (arg20 : Memref sig .tc .vmem S2x8x256x256 .f32) (harg20 : arg20.IsWhole) (hc0 : cond0_0 i)
    (x0 : Vec F S64x2048 .f32) (x1 : Vec F S64x2048 .f32) (x2 : Vec F S64x2048 .f32) (x3 : Vec F S64x2048 .f32)
    (x4 : Vec F S64x2048 .f32) (x5 : Vec F S64x2048 .f32) (x6 : Vec F S64x2048 .f32) (x7 : Vec F S64x2048 .f32)
    (x8 : Vec F S64x2048 .f32) (x9 : Vec F S64x2048 .f32) (x10 : Vec F S64x2048 .f32) (x11 : Vec F S64x2048 .f32)
    (x12 : Vec F S32x10240 .f32) (x13 : Vec F S32x16384 .f32) :
    (kernelRun0_A
      c i arg2 harg2 arg3 harg3 arg4 harg4 arg5 harg5 arg6 harg6 arg7 harg7 arg8 harg8 arg9 harg9 arg10 harg10 arg11
      harg11 arg12 harg12 arg13 harg13 arg14 harg14 arg15 harg15 arg16 harg16 arg17 harg17 arg18 harg18 arg19 harg19
      arg20 harg20 hc0 x0 x1 x2 x3 x4 x5 x6 x7 x8 x9 x10 x11 x12 x13).2.2.2.2.1
    = pcsS (fun d q => if d = 0 then chunkS fwd (ldR arg2 harg2 x0 q) (ldR arg3 harg3 x1 q) (ldR arg4 harg4 x2 q) (ldR arg5 harg5 x3 q) (ldR arg6 harg6 x4 q) (ldR arg7 harg7 x5 q)
        (ldZ arg20 0 q)
      else chunkS rev (ldR arg8 harg8 x6 q) (ldR arg9 harg9 x7 q) (ldR arg10 harg10 x8 q) (ldR arg11 harg11 x9 q) (ldR arg12 harg12 x10 q) (ldR arg13 harg13 x11 q)
        (ldZ arg20 1 q)) [⟨Rect.unit (s := S2x8x256x256) ![0, 0, 0, 0] S2x8x256x256.size inb_S2x8x256x256_S2x8x256x256_0_0_0_0, k0_pay2⟩] := by
  sl_kernel_rfl

/-- The stores of a later point into the forward result's buffer. -/
theorem runB_y0
    (c : Dev nD) (i : grid0.Coords) (arg2 : Memref sig .tc .vmem S64x2048 .f32) (harg2 : arg2.IsWhole)
    (arg3 : Memref sig .tc .vmem S64x2048 .f32) (harg3 : arg3.IsWhole) (arg4 : Memref sig .tc .vmem S64x2048 .f32)
    (harg4 : arg4.IsWhole) (arg5 : Memref sig .tc .vmem S64x2048 .f32) (harg5 : arg5.IsWhole)
    (arg6 : Memref sig .tc .vmem S64x2048 .f32) (harg6 : arg6.IsWhole) (arg7 : Memref sig .tc .vmem S64x2048 .f32)
    (harg7 : arg7.IsWhole) (arg8 : Memref sig .tc .vmem S64x2048 .f32) (harg8 : arg8.IsWhole)
    (arg9 : Memref sig .tc .vmem S64x2048 .f32) (harg9 : arg9.IsWhole) (arg10 : Memref sig .tc .vmem S64x2048 .f32)
    (harg10 : arg10.IsWhole) (arg11 : Memref sig .tc .vmem S64x2048 .f32) (harg11 : arg11.IsWhole)
    (arg12 : Memref sig .tc .vmem S64x2048 .f32) (harg12 : arg12.IsWhole)
    (arg13 : Memref sig .tc .vmem S64x2048 .f32) (harg13 : arg13.IsWhole)
    (arg14 : Memref sig .tc .vmem S32x10240 .f32) (harg14 : arg14.IsWhole)
    (arg15 : Memref sig .tc .vmem S32x16384 .f32) (harg15 : arg15.IsWhole)
    (arg16 : Memref sig .tc .vmem S64x2048 .f32) (harg16 : arg16.IsWhole)
    (arg17 : Memref sig .tc .vmem S64x2048 .f32) (harg17 : arg17.IsWhole)
    (arg18 : Memref sig .tc .vmem S32x10240 .bf16) (harg18 : arg18.IsWhole)
    (arg19 : Memref sig .tc .vmem S32x16384 .bf16) (harg19 : arg19.IsWhole)
    (arg20 : Memref sig .tc .vmem S2x8x256x256 .f32) (harg20 : arg20.IsWhole) (hc0 : ¬cond0_0 i)
    (x0 : Vec F S64x2048 .f32) (x1 : Vec F S64x2048 .f32) (x2 : Vec F S64x2048 .f32) (x3 : Vec F S64x2048 .f32)
    (x4 : Vec F S64x2048 .f32) (x5 : Vec F S64x2048 .f32) (x6 : Vec F S64x2048 .f32) (x7 : Vec F S64x2048 .f32)
    (x8 : Vec F S64x2048 .f32) (x9 : Vec F S64x2048 .f32) (x10 : Vec F S64x2048 .f32) (x11 : Vec F S64x2048 .f32)
    (x12 : Vec F S32x10240 .f32) (x13 : Vec F S32x16384 .f32) (xs0 : Vec F S2x8x256x256 .f32) :
    (kernelRun0_B
      c i arg2 harg2 arg3 harg3 arg4 harg4 arg5 harg5 arg6 harg6 arg7 harg7 arg8 harg8 arg9 harg9 arg10 harg10 arg11
      harg11 arg12 harg12 arg13 harg13 arg14 harg14 arg15 harg15 arg16 harg16 arg17 harg17 arg18 harg18 arg19 harg19
      arg20 harg20 hc0 x0 x1 x2 x3 x4 x5 x6 x7 x8 x9 x10 x11 x12 x13 xs0).1
    = pcsY fun q => chunkY fwd (ldR arg2 harg2 x0 q) (ldR arg3 harg3 x1 q) (ldR arg4 harg4 x2 q) (ldR arg5 harg5 x3 q) (ldR arg6 harg6 x4 q) (ldR arg7 harg7 x5 q)
      (ldS arg20 harg20 xs0 0 q) := by
  sl_kernel_rfl

/-- The stores of a later point into the reverse result's buffer. -/
theorem runB_y1
    (c : Dev nD) (i : grid0.Coords) (arg2 : Memref sig .tc .vmem S64x2048 .f32) (harg2 : arg2.IsWhole)
    (arg3 : Memref sig .tc .vmem S64x2048 .f32) (harg3 : arg3.IsWhole) (arg4 : Memref sig .tc .vmem S64x2048 .f32)
    (harg4 : arg4.IsWhole) (arg5 : Memref sig .tc .vmem S64x2048 .f32) (harg5 : arg5.IsWhole)
    (arg6 : Memref sig .tc .vmem S64x2048 .f32) (harg6 : arg6.IsWhole) (arg7 : Memref sig .tc .vmem S64x2048 .f32)
    (harg7 : arg7.IsWhole) (arg8 : Memref sig .tc .vmem S64x2048 .f32) (harg8 : arg8.IsWhole)
    (arg9 : Memref sig .tc .vmem S64x2048 .f32) (harg9 : arg9.IsWhole) (arg10 : Memref sig .tc .vmem S64x2048 .f32)
    (harg10 : arg10.IsWhole) (arg11 : Memref sig .tc .vmem S64x2048 .f32) (harg11 : arg11.IsWhole)
    (arg12 : Memref sig .tc .vmem S64x2048 .f32) (harg12 : arg12.IsWhole)
    (arg13 : Memref sig .tc .vmem S64x2048 .f32) (harg13 : arg13.IsWhole)
    (arg14 : Memref sig .tc .vmem S32x10240 .f32) (harg14 : arg14.IsWhole)
    (arg15 : Memref sig .tc .vmem S32x16384 .f32) (harg15 : arg15.IsWhole)
    (arg16 : Memref sig .tc .vmem S64x2048 .f32) (harg16 : arg16.IsWhole)
    (arg17 : Memref sig .tc .vmem S64x2048 .f32) (harg17 : arg17.IsWhole)
    (arg18 : Memref sig .tc .vmem S32x10240 .bf16) (harg18 : arg18.IsWhole)
    (arg19 : Memref sig .tc .vmem S32x16384 .bf16) (harg19 : arg19.IsWhole)
    (arg20 : Memref sig .tc .vmem S2x8x256x256 .f32) (harg20 : arg20.IsWhole) (hc0 : ¬cond0_0 i)
    (x0 : Vec F S64x2048 .f32) (x1 : Vec F S64x2048 .f32) (x2 : Vec F S64x2048 .f32) (x3 : Vec F S64x2048 .f32)
    (x4 : Vec F S64x2048 .f32) (x5 : Vec F S64x2048 .f32) (x6 : Vec F S64x2048 .f32) (x7 : Vec F S64x2048 .f32)
    (x8 : Vec F S64x2048 .f32) (x9 : Vec F S64x2048 .f32) (x10 : Vec F S64x2048 .f32) (x11 : Vec F S64x2048 .f32)
    (x12 : Vec F S32x10240 .f32) (x13 : Vec F S32x16384 .f32) (xs0 : Vec F S2x8x256x256 .f32) :
    (kernelRun0_B
      c i arg2 harg2 arg3 harg3 arg4 harg4 arg5 harg5 arg6 harg6 arg7 harg7 arg8 harg8 arg9 harg9 arg10 harg10 arg11
      harg11 arg12 harg12 arg13 harg13 arg14 harg14 arg15 harg15 arg16 harg16 arg17 harg17 arg18 harg18 arg19 harg19
      arg20 harg20 hc0 x0 x1 x2 x3 x4 x5 x6 x7 x8 x9 x10 x11 x12 x13 xs0).2.1
    = pcsY fun q => chunkY rev (ldR arg8 harg8 x6 q) (ldR arg9 harg9 x7 q) (ldR arg10 harg10 x8 q) (ldR arg11 harg11 x9 q) (ldR arg12 harg12 x10 q) (ldR arg13 harg13 x11 q)
      (ldS arg20 harg20 xs0 1 q) := by
  sl_kernel_rfl

/-- The stores of a later point into the states' scratch. -/
theorem runB_s
    (c : Dev nD) (i : grid0.Coords) (arg2 : Memref sig .tc .vmem S64x2048 .f32) (harg2 : arg2.IsWhole)
    (arg3 : Memref sig .tc .vmem S64x2048 .f32) (harg3 : arg3.IsWhole) (arg4 : Memref sig .tc .vmem S64x2048 .f32)
    (harg4 : arg4.IsWhole) (arg5 : Memref sig .tc .vmem S64x2048 .f32) (harg5 : arg5.IsWhole)
    (arg6 : Memref sig .tc .vmem S64x2048 .f32) (harg6 : arg6.IsWhole) (arg7 : Memref sig .tc .vmem S64x2048 .f32)
    (harg7 : arg7.IsWhole) (arg8 : Memref sig .tc .vmem S64x2048 .f32) (harg8 : arg8.IsWhole)
    (arg9 : Memref sig .tc .vmem S64x2048 .f32) (harg9 : arg9.IsWhole) (arg10 : Memref sig .tc .vmem S64x2048 .f32)
    (harg10 : arg10.IsWhole) (arg11 : Memref sig .tc .vmem S64x2048 .f32) (harg11 : arg11.IsWhole)
    (arg12 : Memref sig .tc .vmem S64x2048 .f32) (harg12 : arg12.IsWhole)
    (arg13 : Memref sig .tc .vmem S64x2048 .f32) (harg13 : arg13.IsWhole)
    (arg14 : Memref sig .tc .vmem S32x10240 .f32) (harg14 : arg14.IsWhole)
    (arg15 : Memref sig .tc .vmem S32x16384 .f32) (harg15 : arg15.IsWhole)
    (arg16 : Memref sig .tc .vmem S64x2048 .f32) (harg16 : arg16.IsWhole)
    (arg17 : Memref sig .tc .vmem S64x2048 .f32) (harg17 : arg17.IsWhole)
    (arg18 : Memref sig .tc .vmem S32x10240 .bf16) (harg18 : arg18.IsWhole)
    (arg19 : Memref sig .tc .vmem S32x16384 .bf16) (harg19 : arg19.IsWhole)
    (arg20 : Memref sig .tc .vmem S2x8x256x256 .f32) (harg20 : arg20.IsWhole) (hc0 : ¬cond0_0 i)
    (x0 : Vec F S64x2048 .f32) (x1 : Vec F S64x2048 .f32) (x2 : Vec F S64x2048 .f32) (x3 : Vec F S64x2048 .f32)
    (x4 : Vec F S64x2048 .f32) (x5 : Vec F S64x2048 .f32) (x6 : Vec F S64x2048 .f32) (x7 : Vec F S64x2048 .f32)
    (x8 : Vec F S64x2048 .f32) (x9 : Vec F S64x2048 .f32) (x10 : Vec F S64x2048 .f32) (x11 : Vec F S64x2048 .f32)
    (x12 : Vec F S32x10240 .f32) (x13 : Vec F S32x16384 .f32) (xs0 : Vec F S2x8x256x256 .f32) :
    (kernelRun0_B
      c i arg2 harg2 arg3 harg3 arg4 harg4 arg5 harg5 arg6 harg6 arg7 harg7 arg8 harg8 arg9 harg9 arg10 harg10 arg11
      harg11 arg12 harg12 arg13 harg13 arg14 harg14 arg15 harg15 arg16 harg16 arg17 harg17 arg18 harg18 arg19 harg19
      arg20 harg20 hc0 x0 x1 x2 x3 x4 x5 x6 x7 x8 x9 x10 x11 x12 x13 xs0).2.2.2.2.1
    = pcsS (fun d q => if d = 0 then chunkS fwd (ldR arg2 harg2 x0 q) (ldR arg3 harg3 x1 q) (ldR arg4 harg4 x2 q) (ldR arg5 harg5 x3 q) (ldR arg6 harg6 x4 q) (ldR arg7 harg7 x5 q)
        (ldS arg20 harg20 xs0 0 q)
      else chunkS rev (ldR arg8 harg8 x6 q) (ldR arg9 harg9 x7 q) (ldR arg10 harg10 x8 q) (ldR arg11 harg11 x9 q) (ldR arg12 harg12 x10 q) (ldR arg13 harg13 x11 q)
        (ldS arg20 harg20 xs0 1 q)) [] := by
  sl_kernel_rfl

/-- The store of the first point into the buffer of cast rows, window 16. -/
theorem runA_c16
    (c : Dev nD) (i : grid0.Coords) (arg2 : Memref sig .tc .vmem S64x2048 .f32) (harg2 : arg2.IsWhole)
    (arg3 : Memref sig .tc .vmem S64x2048 .f32) (harg3 : arg3.IsWhole) (arg4 : Memref sig .tc .vmem S64x2048 .f32)
    (harg4 : arg4.IsWhole) (arg5 : Memref sig .tc .vmem S64x2048 .f32) (harg5 : arg5.IsWhole)
    (arg6 : Memref sig .tc .vmem S64x2048 .f32) (harg6 : arg6.IsWhole) (arg7 : Memref sig .tc .vmem S64x2048 .f32)
    (harg7 : arg7.IsWhole) (arg8 : Memref sig .tc .vmem S64x2048 .f32) (harg8 : arg8.IsWhole)
    (arg9 : Memref sig .tc .vmem S64x2048 .f32) (harg9 : arg9.IsWhole) (arg10 : Memref sig .tc .vmem S64x2048 .f32)
    (harg10 : arg10.IsWhole) (arg11 : Memref sig .tc .vmem S64x2048 .f32) (harg11 : arg11.IsWhole)
    (arg12 : Memref sig .tc .vmem S64x2048 .f32) (harg12 : arg12.IsWhole)
    (arg13 : Memref sig .tc .vmem S64x2048 .f32) (harg13 : arg13.IsWhole)
    (arg14 : Memref sig .tc .vmem S32x10240 .f32) (harg14 : arg14.IsWhole)
    (arg15 : Memref sig .tc .vmem S32x16384 .f32) (harg15 : arg15.IsWhole)
    (arg16 : Memref sig .tc .vmem S64x2048 .f32) (harg16 : arg16.IsWhole)
    (arg17 : Memref sig .tc .vmem S64x2048 .f32) (harg17 : arg17.IsWhole)
    (arg18 : Memref sig .tc .vmem S32x10240 .bf16) (harg18 : arg18.IsWhole)
    (arg19 : Memref sig .tc .vmem S32x16384 .bf16) (harg19 : arg19.IsWhole)
    (arg20 : Memref sig .tc .vmem S2x8x256x256 .f32) (harg20 : arg20.IsWhole) (hc0 : cond0_0 i)
    (x0 : Vec F S64x2048 .f32) (x1 : Vec F S64x2048 .f32) (x2 : Vec F S64x2048 .f32) (x3 : Vec F S64x2048 .f32)
    (x4 : Vec F S64x2048 .f32) (x5 : Vec F S64x2048 .f32) (x6 : Vec F S64x2048 .f32) (x7 : Vec F S64x2048 .f32)
    (x8 : Vec F S64x2048 .f32) (x9 : Vec F S64x2048 .f32) (x10 : Vec F S64x2048 .f32) (x11 : Vec F S64x2048 .f32)
    (x12 : Vec F S32x10240 .f32) (x13 : Vec F S32x16384 .f32) :
    (kernelRun0_A
      c i arg2 harg2 arg3 harg3 arg4 harg4 arg5 harg5 arg6 harg6 arg7 harg7 arg8 harg8 arg9 harg9 arg10 harg10 arg11
      harg11 arg12 harg12 arg13 harg13 arg14 harg14 arg15 harg15 arg16 harg16 arg17 harg17 arg18 harg18 arg19 harg19
      arg20 harg20 hc0 x0 x1 x2 x3 x4 x5 x6 x7 x8 x9 x10 x11 x12 x13).2.2.1
    = [⟨Rect.unit (s := S32x10240) ![0, 0] S32x10240.size inb_S32x10240_S32x10240_0_0,
        k0_pay580 (View.readAt (Elt F) arg14.view (Rect.unit (s := S32x10240) ![0, 0] S32x10240.size inb_S32x10240_S32x10240_0_0).toLoadRect
          (harg14.unread x12))⟩] := by
  sl_kernel_rfl

/-- The store of the first point into the buffer of cast rows, window 17. -/
theorem runA_c17
    (c : Dev nD) (i : grid0.Coords) (arg2 : Memref sig .tc .vmem S64x2048 .f32) (harg2 : arg2.IsWhole)
    (arg3 : Memref sig .tc .vmem S64x2048 .f32) (harg3 : arg3.IsWhole) (arg4 : Memref sig .tc .vmem S64x2048 .f32)
    (harg4 : arg4.IsWhole) (arg5 : Memref sig .tc .vmem S64x2048 .f32) (harg5 : arg5.IsWhole)
    (arg6 : Memref sig .tc .vmem S64x2048 .f32) (harg6 : arg6.IsWhole) (arg7 : Memref sig .tc .vmem S64x2048 .f32)
    (harg7 : arg7.IsWhole) (arg8 : Memref sig .tc .vmem S64x2048 .f32) (harg8 : arg8.IsWhole)
    (arg9 : Memref sig .tc .vmem S64x2048 .f32) (harg9 : arg9.IsWhole) (arg10 : Memref sig .tc .vmem S64x2048 .f32)
    (harg10 : arg10.IsWhole) (arg11 : Memref sig .tc .vmem S64x2048 .f32) (harg11 : arg11.IsWhole)
    (arg12 : Memref sig .tc .vmem S64x2048 .f32) (harg12 : arg12.IsWhole)
    (arg13 : Memref sig .tc .vmem S64x2048 .f32) (harg13 : arg13.IsWhole)
    (arg14 : Memref sig .tc .vmem S32x10240 .f32) (harg14 : arg14.IsWhole)
    (arg15 : Memref sig .tc .vmem S32x16384 .f32) (harg15 : arg15.IsWhole)
    (arg16 : Memref sig .tc .vmem S64x2048 .f32) (harg16 : arg16.IsWhole)
    (arg17 : Memref sig .tc .vmem S64x2048 .f32) (harg17 : arg17.IsWhole)
    (arg18 : Memref sig .tc .vmem S32x10240 .bf16) (harg18 : arg18.IsWhole)
    (arg19 : Memref sig .tc .vmem S32x16384 .bf16) (harg19 : arg19.IsWhole)
    (arg20 : Memref sig .tc .vmem S2x8x256x256 .f32) (harg20 : arg20.IsWhole) (hc0 : cond0_0 i)
    (x0 : Vec F S64x2048 .f32) (x1 : Vec F S64x2048 .f32) (x2 : Vec F S64x2048 .f32) (x3 : Vec F S64x2048 .f32)
    (x4 : Vec F S64x2048 .f32) (x5 : Vec F S64x2048 .f32) (x6 : Vec F S64x2048 .f32) (x7 : Vec F S64x2048 .f32)
    (x8 : Vec F S64x2048 .f32) (x9 : Vec F S64x2048 .f32) (x10 : Vec F S64x2048 .f32) (x11 : Vec F S64x2048 .f32)
    (x12 : Vec F S32x10240 .f32) (x13 : Vec F S32x16384 .f32) :
    (kernelRun0_A
      c i arg2 harg2 arg3 harg3 arg4 harg4 arg5 harg5 arg6 harg6 arg7 harg7 arg8 harg8 arg9 harg9 arg10 harg10 arg11
      harg11 arg12 harg12 arg13 harg13 arg14 harg14 arg15 harg15 arg16 harg16 arg17 harg17 arg18 harg18 arg19 harg19
      arg20 harg20 hc0 x0 x1 x2 x3 x4 x5 x6 x7 x8 x9 x10 x11 x12 x13).2.2.2.1
    = [⟨Rect.unit (s := S32x16384) ![0, 0] S32x16384.size inb_S32x16384_S32x16384_0_0,
        k0_pay581 (View.readAt (Elt F) arg15.view (Rect.unit (s := S32x16384) ![0, 0] S32x16384.size inb_S32x16384_S32x16384_0_0).toLoadRect
          (harg15.unread x13))⟩] := by
  sl_kernel_rfl

/-- The store of a later point into the buffer of cast rows, window 16. -/
theorem runB_c16
    (c : Dev nD) (i : grid0.Coords) (arg2 : Memref sig .tc .vmem S64x2048 .f32) (harg2 : arg2.IsWhole)
    (arg3 : Memref sig .tc .vmem S64x2048 .f32) (harg3 : arg3.IsWhole) (arg4 : Memref sig .tc .vmem S64x2048 .f32)
    (harg4 : arg4.IsWhole) (arg5 : Memref sig .tc .vmem S64x2048 .f32) (harg5 : arg5.IsWhole)
    (arg6 : Memref sig .tc .vmem S64x2048 .f32) (harg6 : arg6.IsWhole) (arg7 : Memref sig .tc .vmem S64x2048 .f32)
    (harg7 : arg7.IsWhole) (arg8 : Memref sig .tc .vmem S64x2048 .f32) (harg8 : arg8.IsWhole)
    (arg9 : Memref sig .tc .vmem S64x2048 .f32) (harg9 : arg9.IsWhole) (arg10 : Memref sig .tc .vmem S64x2048 .f32)
    (harg10 : arg10.IsWhole) (arg11 : Memref sig .tc .vmem S64x2048 .f32) (harg11 : arg11.IsWhole)
    (arg12 : Memref sig .tc .vmem S64x2048 .f32) (harg12 : arg12.IsWhole)
    (arg13 : Memref sig .tc .vmem S64x2048 .f32) (harg13 : arg13.IsWhole)
    (arg14 : Memref sig .tc .vmem S32x10240 .f32) (harg14 : arg14.IsWhole)
    (arg15 : Memref sig .tc .vmem S32x16384 .f32) (harg15 : arg15.IsWhole)
    (arg16 : Memref sig .tc .vmem S64x2048 .f32) (harg16 : arg16.IsWhole)
    (arg17 : Memref sig .tc .vmem S64x2048 .f32) (harg17 : arg17.IsWhole)
    (arg18 : Memref sig .tc .vmem S32x10240 .bf16) (harg18 : arg18.IsWhole)
    (arg19 : Memref sig .tc .vmem S32x16384 .bf16) (harg19 : arg19.IsWhole)
    (arg20 : Memref sig .tc .vmem S2x8x256x256 .f32) (harg20 : arg20.IsWhole) (hc0 : ¬cond0_0 i)
    (x0 : Vec F S64x2048 .f32) (x1 : Vec F S64x2048 .f32) (x2 : Vec F S64x2048 .f32) (x3 : Vec F S64x2048 .f32)
    (x4 : Vec F S64x2048 .f32) (x5 : Vec F S64x2048 .f32) (x6 : Vec F S64x2048 .f32) (x7 : Vec F S64x2048 .f32)
    (x8 : Vec F S64x2048 .f32) (x9 : Vec F S64x2048 .f32) (x10 : Vec F S64x2048 .f32) (x11 : Vec F S64x2048 .f32)
    (x12 : Vec F S32x10240 .f32) (x13 : Vec F S32x16384 .f32) (xs0 : Vec F S2x8x256x256 .f32) :
    (kernelRun0_B
      c i arg2 harg2 arg3 harg3 arg4 harg4 arg5 harg5 arg6 harg6 arg7 harg7 arg8 harg8 arg9 harg9 arg10 harg10 arg11
      harg11 arg12 harg12 arg13 harg13 arg14 harg14 arg15 harg15 arg16 harg16 arg17 harg17 arg18 harg18 arg19 harg19
      arg20 harg20 hc0 x0 x1 x2 x3 x4 x5 x6 x7 x8 x9 x10 x11 x12 x13 xs0).2.2.1
    = [⟨Rect.unit (s := S32x10240) ![0, 0] S32x10240.size inb_S32x10240_S32x10240_0_0,
        k0_pay580 (View.readAt (Elt F) arg14.view (Rect.unit (s := S32x10240) ![0, 0] S32x10240.size inb_S32x10240_S32x10240_0_0).toLoadRect
          (harg14.unread x12))⟩] := by
  sl_kernel_rfl

/-- The store of a later point into the buffer of cast rows, window 17. -/
theorem runB_c17
    (c : Dev nD) (i : grid0.Coords) (arg2 : Memref sig .tc .vmem S64x2048 .f32) (harg2 : arg2.IsWhole)
    (arg3 : Memref sig .tc .vmem S64x2048 .f32) (harg3 : arg3.IsWhole) (arg4 : Memref sig .tc .vmem S64x2048 .f32)
    (harg4 : arg4.IsWhole) (arg5 : Memref sig .tc .vmem S64x2048 .f32) (harg5 : arg5.IsWhole)
    (arg6 : Memref sig .tc .vmem S64x2048 .f32) (harg6 : arg6.IsWhole) (arg7 : Memref sig .tc .vmem S64x2048 .f32)
    (harg7 : arg7.IsWhole) (arg8 : Memref sig .tc .vmem S64x2048 .f32) (harg8 : arg8.IsWhole)
    (arg9 : Memref sig .tc .vmem S64x2048 .f32) (harg9 : arg9.IsWhole) (arg10 : Memref sig .tc .vmem S64x2048 .f32)
    (harg10 : arg10.IsWhole) (arg11 : Memref sig .tc .vmem S64x2048 .f32) (harg11 : arg11.IsWhole)
    (arg12 : Memref sig .tc .vmem S64x2048 .f32) (harg12 : arg12.IsWhole)
    (arg13 : Memref sig .tc .vmem S64x2048 .f32) (harg13 : arg13.IsWhole)
    (arg14 : Memref sig .tc .vmem S32x10240 .f32) (harg14 : arg14.IsWhole)
    (arg15 : Memref sig .tc .vmem S32x16384 .f32) (harg15 : arg15.IsWhole)
    (arg16 : Memref sig .tc .vmem S64x2048 .f32) (harg16 : arg16.IsWhole)
    (arg17 : Memref sig .tc .vmem S64x2048 .f32) (harg17 : arg17.IsWhole)
    (arg18 : Memref sig .tc .vmem S32x10240 .bf16) (harg18 : arg18.IsWhole)
    (arg19 : Memref sig .tc .vmem S32x16384 .bf16) (harg19 : arg19.IsWhole)
    (arg20 : Memref sig .tc .vmem S2x8x256x256 .f32) (harg20 : arg20.IsWhole) (hc0 : ¬cond0_0 i)
    (x0 : Vec F S64x2048 .f32) (x1 : Vec F S64x2048 .f32) (x2 : Vec F S64x2048 .f32) (x3 : Vec F S64x2048 .f32)
    (x4 : Vec F S64x2048 .f32) (x5 : Vec F S64x2048 .f32) (x6 : Vec F S64x2048 .f32) (x7 : Vec F S64x2048 .f32)
    (x8 : Vec F S64x2048 .f32) (x9 : Vec F S64x2048 .f32) (x10 : Vec F S64x2048 .f32) (x11 : Vec F S64x2048 .f32)
    (x12 : Vec F S32x10240 .f32) (x13 : Vec F S32x16384 .f32) (xs0 : Vec F S2x8x256x256 .f32) :
    (kernelRun0_B
      c i arg2 harg2 arg3 harg3 arg4 harg4 arg5 harg5 arg6 harg6 arg7 harg7 arg8 harg8 arg9 harg9 arg10 harg10 arg11
      harg11 arg12 harg12 arg13 harg13 arg14 harg14 arg15 harg15 arg16 harg16 arg17 harg17 arg18 harg18 arg19 harg19
      arg20 harg20 hc0 x0 x1 x2 x3 x4 x5 x6 x7 x8 x9 x10 x11 x12 x13 xs0).2.2.2.1
    = [⟨Rect.unit (s := S32x16384) ![0, 0] S32x16384.size inb_S32x16384_S32x16384_0_0,
        k0_pay581 (View.readAt (Elt F) arg15.view (Rect.unit (s := S32x16384) ![0, 0] S32x16384.size inb_S32x16384_S32x16384_0_0).toLoadRect
          (harg15.unread x13))⟩] := by
  sl_kernel_rfl

end Pieces

end Cert.KernelIdeal.Chunk
-- ==== Proof.KVal.lean ====
module

public import proofs.«01_k».proof.Proof.KRun
public import Idealize.ShloMosaic.Lib.Pipeline.ReadBack

/-!
# The values one grid point leaves, on blocks of reals

With every input block the packing of 32 heads' chunks and the scratch the packing of the 64 states, the result buffers
hold the packed outputs of `Spec.lean`'s chunk and the scratch the packed states after it.
-/

@[expose] public section

set_option maxRecDepth 16384

noncomputable section

open Idealize.ShloMosaic Idealize.ShloMosaic.TcCoe Idealize.SL.Sem

namespace Cert.KernelIdeal.Chunk

open Cert.Rwkv Cert.KernelIdeal Cert.KernelIdeal.Gen

/-- The head of a lane of the whole width. -/
def hdW (c : Fin 2048) : Fin 32 := ⟨c.val / 64, by omega⟩

/-- A lane's place in its head. -/
def lnW (c : Fin 2048) : Fin 64 := ⟨c.val % 64, by omega⟩

/-- The head that is number `h` of group `q`. -/
def hq (q : Fin 8) (h : Fin 4) : Fin 32 := ⟨4 * q.val + h.val, by omega⟩

/-- A block of 64 rows of all heads. -/
def pkR (X : Fin 32 → M) : S64x2048.Idx → EReal := fun i => ((X (hdW (i 1)) (i 0) (lnW (i 1)) : ℝ) : EReal)

/-- The states of both directions and all heads. -/
def pkT (S : Fin 2 → Fin 32 → M) : S2x8x256x256.Idx → EReal :=
  fun i => pkS (fun h => S (i 0) (hq (i 1) h)) (ix2 (i 2) (i 3))

theorem pkR_emb (X : Fin 32 → M) (q : Fin 8) (x : S64x256.Idx) :
    pkR X ((rectR q).emb x) = pk (fun h => X (hq q h)) x := by
  have h0 : ((rectR q).emb x) 0 = x 0 := Fin.ext (by show 0 + 1 * (x 0).val = (x 0).val; omega)
  have h1 : (((rectR q).emb x) 1).val = 256 * q.val + (x 1).val := by
    show 256 * q.val + 1 * (x 1).val = _
    omega
  have hx : (x 1).val < 256 := (x 1).isLt
  have e1 : hdW (((rectR q).emb x) 1) = hq q (hd (x 1)) := Fin.ext (by
    show (((rectR q).emb x) 1).val / 64 = 4 * q.val + (x 1).val / 64
    rw [h1]; omega)
  have e2 : lnW (((rectR q).emb x) 1) = ln (x 1) := Fin.ext (by
    show (((rectR q).emb x) 1).val % 64 = (x 1).val % 64
    rw [h1]; omega)
  unfold pkR pk
  rw [e1, e2, h0]

theorem ldR_pk (A : Memref sig .tc .vmem S64x2048 .f32) (h : A.IsWhole) (X : Fin 32 → M) (q : Fin 8) :
    ldR (F := Ideal) A h (pkR X) q = pk (fun h => X (hq q h)) := by
  unfold ldR
  rw [View.readAt_eq_ld, h.read_unread]
  exact funext fun x => pkR_emb X q x

theorem pkT_emb (S : Fin 2 → Fin 32 → M) (d : Fin 2) (q : Fin 8) (x : S1x1x256x256.Idx) :
    pkT S ((rectS d q).emb x) = pkS (fun h => S d (hq q h)) (ix2 (x 2) (x 3)) := by
  have b0 : (x 0).val < 1 := (x 0).isLt
  have b1 : (x 1).val < 1 := (x 1).isLt
  have h0 : ((rectS d q).emb x) 0 = d := Fin.ext (by show d.val + 1 * (x 0).val = d.val; omega)
  have h1 : ((rectS d q).emb x) 1 = q := Fin.ext (by show q.val + 1 * (x 1).val = q.val; omega)
  have h2 : ((rectS d q).emb x) 2 = x 2 := Fin.ext (by show 0 + 1 * (x 2).val = (x 2).val; omega)
  have h3 : ((rectS d q).emb x) 3 = x 3 := Fin.ext (by show 0 + 1 * (x 3).val = (x 3).val; omega)
  unfold pkT
  rw [h0, h1, h2, h3]

theorem shapeCast_up (X : S256x256.Idx → EReal) (x : S1x1x256x256.Idx) :
    shapeCast S1x1x256x256 X shapeCasts_S256x256_S1x1x256x256 x = X (ix2 (x 2) (x 3)) := by
  have b0 : (x 0).val < 1 := (x 0).isLt
  have b1 : (x 1).val < 1 := (x 1).isLt
  refine shapeCast_apply X shapeCasts_S256x256_S1x1x256x256 x (ix2 (x 2) (x 3)) ?_
  rw [Shape.rowMajor_val_two, Shape.rowMajor_val_four]
  show (x 2).val * 256 + (x 3).val = (((x 0).val * 1 + (x 1).val) * 256 + (x 2).val) * 256 + (x 3).val
  rw [show (x 0).val = 0 by omega, show (x 1).val = 0 by omega]
  omega

theorem shapeCast_down (X : S1x1x256x256.Idx → EReal) (t c : Fin 256) :
    shapeCast S256x256 X shapeCasts_S1x1x256x256_S256x256 (ix2 t c)
      = X (ix4 (0 : Fin 1) (0 : Fin 1) t c) := by
  refine shapeCast_apply X shapeCasts_S1x1x256x256_S256x256 (ix2 t c) (ix4 (0 : Fin 1) (0 : Fin 1) t c) ?_
  rw [Shape.rowMajor_val_two, Shape.rowMajor_val_four]
  show ((0 * 1 + 0) * 256 + t.val) * 256 + c.val = t.val * 256 + c.val
  omega

theorem ldS_pk (A : Memref sig .tc .vmem S2x8x256x256 .f32) (h : A.IsWhole) (S : Fin 2 → Fin 32 → M) (d : Fin 2) (q : Fin 8) :
    ldS (F := Ideal) A h (pkT S) d q = pkS (fun h => S d (hq q h)) := by
  unfold ldS
  rw [View.readAt_eq_ld, h.read_unread]
  refine ext2 fun t c => ?_
  rw [shapeCast_down]
  exact pkT_emb S d q _

theorem ldZ_pk (A : Memref sig .tc .vmem S2x8x256x256 .f32) (d : Fin 2) (q : Fin 8) :
    ldZ (F := Ideal) A d q = pkS (fun _ => 0) := by
  unfold ldZ
  rw [View.readCov_fill A.view _ _ _ _ (by intro a; fin_cases a <;> rfl)]
  refine ext2 fun t c => ?_
  rw [shapeCast_down, pkS_row]
  show (Scalar.ofBits .f32 0x00000000#32 : Ideal .f32) = if hd t = hd c then (((0 : M) (ln t) (ln c) : ℝ) : EReal) else 0
  trans (0 : EReal)
  · exact Ideal.ofBits_zero_f32
  · split <;> simp

theorem read_pcsY (v : View sig .tc .vmem S64x2048 .f32) (f : v.ty.Contents (Elt Ideal)) (Y : Fin 8 → FVec Ideal S64x256 .f32)
    (X : Fin 32 → M) (hY : ∀ q, Y q = pk (fun h => X (hq q h))) :
    v.read (Elt Ideal) (v.writes (Elt Ideal) f (pcsY Y)) = pkR X := by
  funext y
  refine View.read_writes_apply_of_pieces v f (pkR X) _ ?_ y
    (View.cover_of_tiledL (pcsY Y) S64x256.size (by sl_kernel_rfl) y)
  intro p hp x
  obtain ⟨q, rfl⟩ : ∃ q, p = pcY Y q := by
    simp only [pcsY, List.mem_cons, List.not_mem_nil, or_false] at hp
    rcases hp with h | h | h | h | h | h | h | h <;> exact ⟨_, h⟩
  exact (congrFun (hY q) x).trans (pkR_emb X q x).symm

theorem read_pcsS (v : View sig .tc .vmem S2x8x256x256 .f32) (f : v.ty.Contents (Elt Ideal))
    (Z : Fin 2 → Fin 8 → FVec Ideal S256x256 .f32) (L : List (View.Piece (Elt Ideal) S2x8x256x256 .f32))
    (S : Fin 2 → Fin 32 → M) (hZ : ∀ d q, Z d q = pkS (fun h => S d (hq q h))) :
    v.read (Elt Ideal) (v.writes (Elt Ideal) f (pcsS Z L)) = pkT S := by
  funext y
  have hpc : ∀ p ∈ pcsS Z [], ∀ x : p.1.shape.Idx, p.2 x = pkT S (p.1.emb x) := by
    intro p hp x
    obtain ⟨d, q, rfl⟩ : ∃ d q, p = pcS Z d q := by
      simp only [pcsS, List.mem_cons, List.not_mem_nil, or_false] at hp
      rcases hp with h | h | h | h | h | h | h | h | h | h | h | h | h | h | h | h <;> exact ⟨_, _, h⟩
    refine (shapeCast_up (Z d q) x).trans ?_
    rw [hZ]
    exact (pkT_emb S d q x).symm
  have hcov := View.cover_of_tiledL (pcsS Z []) S1x1x256x256.size (by sl_kernel_rfl) y
  show v.read (Elt Ideal) (v.writes (Elt Ideal) (v.writes (Elt Ideal) f L) (pcsS Z [])) y = _
  exact View.read_writes_apply_of_pieces v _ (pkT S) _ hpc y hcov

/-- The first point leaves the forward outputs. -/
theorem valA_y0
    (c : Dev nD) (i : grid0.Coords) (arg2 : Memref sig .tc .vmem S64x2048 .f32) (harg2 : arg2.IsWhole)
    (arg3 : Memref sig .tc .vmem S64x2048 .f32) (harg3 : arg3.IsWhole) (arg4 : Memref sig .tc .vmem S64x2048 .f32)
    (harg4 : arg4.IsWhole) (arg5 : Memref sig .tc .vmem S64x2048 .f32) (harg5 : arg5.IsWhole)
    (arg6 : Memref sig .tc .vmem S64x2048 .f32) (harg6 : arg6.IsWhole) (arg7 : Memref sig .tc .vmem S64x2048 .f32)
    (harg7 : arg7.IsWhole) (arg8 : Memref sig .tc .vmem S64x2048 .f32) (harg8 : arg8.IsWhole)
    (arg9 : Memref sig .tc .vmem S64x2048 .f32) (harg9 : arg9.IsWhole) (arg10 : Memref sig .tc .vmem S64x2048 .f32)
    (harg10 : arg10.IsWhole) (arg11 : Memref sig .tc .vmem S64x2048 .f32) (harg11 : arg11.IsWhole)
    (arg12 : Memref sig .tc .vmem S64x2048 .f32) (harg12 : arg12.IsWhole)
    (arg13 : Memref sig .tc .vmem S64x2048 .f32) (harg13 : arg13.IsWhole)
    (arg14 : Memref sig .tc .vmem S32x10240 .f32) (harg14 : arg14.IsWhole)
    (arg15 : Memref sig .tc .vmem S32x16384 .f32) (harg15 : arg15.IsWhole)
    (arg16 : Memref sig .tc .vmem S64x2048 .f32) (harg16 : arg16.IsWhole)
    (arg17 : Memref sig .tc .vmem S64x2048 .f32) (harg17 : arg17.IsWhole)
    (arg18 : Memref sig .tc .vmem S32x10240 .bf16) (harg18 : arg18.IsWhole)
    (arg19 : Memref sig .tc .vmem S32x16384 .bf16) (harg19 : arg19.IsWhole)
    (arg20 : Memref sig .tc .vmem S2x8x256x256 .f32) (harg20 : arg20.IsWhole) (hc0 : cond0_0 i)
    (x12 : Vec Ideal S32x10240 .f32) (x13 : Vec Ideal S32x16384 .f32)
    (X0 X1 X2 X3 X4 X5 X6 X7 X8 X9 X10 X11 : Fin 32 → M) :
    out0_A_14 (F := Ideal)
      c i arg2 harg2 arg3 harg3 arg4 harg4 arg5 harg5 arg6 harg6 arg7 harg7 arg8 harg8 arg9 harg9 arg10 harg10 arg11
      harg11 arg12 harg12 arg13 harg13 arg14 harg14 arg15 harg15 arg16 harg16 arg17 harg17 arg18 harg18 arg19 harg19
      arg20 harg20 hc0 (pkR X0) (pkR X1) (pkR X2) (pkR X3) (pkR X4) (pkR X5) (pkR X6) (pkR X7) (pkR X8) (pkR X9)
      (pkR X10) (pkR X11) x12 x13
    = pkR fun H => yOf (Equiv.refl _) (X0 H) (X1 H) (X2 H) (X3 H) (X4 H) (X5 H) 0 := by
  unfold out0_A_14
  rw [runA_y0]
  refine read_pcsY _ _ _ _ fun q => ?_
  simp only [ldR_pk, ldZ_pk]
  exact chunkY_pk reads_fwd _ _ _ _ _ _ _

/-- The first point leaves the reverse outputs. -/
theorem valA_y1
    (c : Dev nD) (i : grid0.Coords) (arg2 : Memref sig .tc .vmem S64x2048 .f32) (harg2 : arg2.IsWhole)
    (arg3 : Memref sig .tc .vmem S64x2048 .f32) (harg3 : arg3.IsWhole) (arg4 : Memref sig .tc .vmem S64x2048 .f32)
    (harg4 : arg4.IsWhole) (arg5 : Memref sig .tc .vmem S64x2048 .f32) (harg5 : arg5.IsWhole)
    (arg6 : Memref sig .tc .vmem S64x2048 .f32) (harg6 : arg6.IsWhole) (arg7 : Memref sig .tc .vmem S64x2048 .f32)
    (harg7 : arg7.IsWhole) (arg8 : Memref sig .tc .vmem S64x2048 .f32) (harg8 : arg8.IsWhole)
    (arg9 : Memref sig .tc .vmem S64x2048 .f32) (harg9 : arg9.IsWhole) (arg10 : Memref sig .tc .vmem S64x2048 .f32)
    (harg10 : arg10.IsWhole) (arg11 : Memref sig .tc .vmem S64x2048 .f32) (harg11 : arg11.IsWhole)
    (arg12 : Memref sig .tc .vmem S64x2048 .f32) (harg12 : arg12.IsWhole)
    (arg13 : Memref sig .tc .vmem S64x2048 .f32) (harg13 : arg13.IsWhole)
    (arg14 : Memref sig .tc .vmem S32x10240 .f32) (harg14 : arg14.IsWhole)
    (arg15 : Memref sig .tc .vmem S32x16384 .f32) (harg15 : arg15.IsWhole)
    (arg16 : Memref sig .tc .vmem S64x2048 .f32) (harg16 : arg16.IsWhole)
    (arg17 : Memref sig .tc .vmem S64x2048 .f32) (harg17 : arg17.IsWhole)
    (arg18 : Memref sig .tc .vmem S32x10240 .bf16) (harg18 : arg18.IsWhole)
    (arg19 : Memref sig .tc .vmem S32x16384 .bf16) (harg19 : arg19.IsWhole)
    (arg20 : Memref sig .tc .vmem S2x8x256x256 .f32) (harg20 : arg20.IsWhole) (hc0 : cond0_0 i)
    (x12 : Vec Ideal S32x10240 .f32) (x13 : Vec Ideal S32x16384 .f32)
    (X0 X1 X2 X3 X4 X5 X6 X7 X8 X9 X10 X11 : Fin 32 → M) :
    out0_A_15 (F := Ideal)
      c i arg2 harg2 arg3 harg3 arg4 harg4 arg5 harg5 arg6 harg6 arg7 harg7 arg8 harg8 arg9 harg9 arg10 harg10 arg11
      harg11 arg12 harg12 arg13 harg13 arg14 harg14 arg15 harg15 arg16 harg16 arg17 harg17 arg18 harg18 arg19 harg19
      arg20 harg20 hc0 (pkR X0) (pkR X1) (pkR X2) (pkR X3) (pkR X4) (pkR X5) (pkR X6) (pkR X7) (pkR X8) (pkR X9)
      (pkR X10) (pkR X11) x12 x13
    = pkR fun H => yOf Fin.revPerm (X6 H) (X7 H) (X8 H) (X9 H) (X10 H) (X11 H) 0 := by
  unfold out0_A_15
  rw [runA_y1]
  refine read_pcsY _ _ _ _ fun q => ?_
  simp only [ldR_pk, ldZ_pk]
  exact chunkY_pk reads_rev _ _ _ _ _ _ _

/-- The first point leaves the new states. -/
theorem valA_s
    (c : Dev nD) (i : grid0.Coords) (arg2 : Memref sig .tc .vmem S64x2048 .f32) (harg2 : arg2.IsWhole)
    (arg3 : Memref sig .tc .vmem S64x2048 .f32) (harg3 : arg3.IsWhole) (arg4 : Memref sig .tc .vmem S64x2048 .f32)
    (harg4 : arg4.IsWhole) (arg5 : Memref sig .tc .vmem S64x2048 .f32) (harg5 : arg5.IsWhole)
    (arg6 : Memref sig .tc .vmem S64x2048 .f32) (harg6 : arg6.IsWhole) (arg7 : Memref sig .tc .vmem S64x2048 .f32)
    (harg7 : arg7.IsWhole) (arg8 : Memref sig .tc .vmem S64x2048 .f32) (harg8 : arg8.IsWhole)
    (arg9 : Memref sig .tc .vmem S64x2048 .f32) (harg9 : arg9.IsWhole) (arg10 : Memref sig .tc .vmem S64x2048 .f32)
    (harg10 : arg10.IsWhole) (arg11 : Memref sig .tc .vmem S64x2048 .f32) (harg11 : arg11.IsWhole)
    (arg12 : Memref sig .tc .vmem S64x2048 .f32) (harg12 : arg12.IsWhole)
    (arg13 : Memref sig .tc .vmem S64x2048 .f32) (harg13 : arg13.IsWhole)
    (arg14 : Memref sig .tc .vmem S32x10240 .f32) (harg14 : arg14.IsWhole)
    (arg15 : Memref sig .tc .vmem S32x16384 .f32) (harg15 : arg15.IsWhole)
    (arg16 : Memref sig .tc .vmem S64x2048 .f32) (harg16 : arg16.IsWhole)
    (arg17 : Memref sig .tc .vmem S64x2048 .f32) (harg17 : arg17.IsWhole)
    (arg18 : Memref sig .tc .vmem S32x10240 .bf16) (harg18 : arg18.IsWhole)
    (arg19 : Memref sig .tc .vmem S32x16384 .bf16) (harg19 : arg19.IsWhole)
    (arg20 : Memref sig .tc .vmem S2x8x256x256 .f32) (harg20 : arg20.IsWhole) (hc0 : cond0_0 i)
    (x12 : Vec Ideal S32x10240 .f32) (x13 : Vec Ideal S32x16384 .f32)
    (X0 X1 X2 X3 X4 X5 X6 X7 X8 X9 X10 X11 : Fin 32 → M) :
    sout0_A_0 (F := Ideal)
      c i arg2 harg2 arg3 harg3 arg4 harg4 arg5 harg5 arg6 harg6 arg7 harg7 arg8 harg8 arg9 harg9 arg10 harg10 arg11
      harg11 arg12 harg12 arg13 harg13 arg14 harg14 arg15 harg15 arg16 harg16 arg17 harg17 arg18 harg18 arg19 harg19
      arg20 harg20 hc0 (pkR X0) (pkR X1) (pkR X2) (pkR X3) (pkR X4) (pkR X5) (pkR X6) (pkR X7) (pkR X8) (pkR X9)
      (pkR X10) (pkR X11) x12 x13
    = pkT fun d H => if d = 0 then sOf (Equiv.refl _) (X1 H) (X2 H) (X3 H) (X4 H) (X5 H) 0
      else sOf Fin.revPerm (X7 H) (X8 H) (X9 H) (X10 H) (X11 H) 0 := by
  unfold sout0_A_0
  rw [runA_s]
  refine read_pcsS _ _ _ _ _ fun d q => ?_
  simp only [ldR_pk, ldZ_pk]
  by_cases hd : d = 0
  · simp only [hd, if_true]
    exact chunkS_pk reads_fwd _ _ _ _ _ _ _
  · simp only [hd, if_false]
    exact chunkS_pk reads_rev _ _ _ _ _ _ _

/-- A later point leaves the forward outputs. -/
theorem valB_y0
    (c : Dev nD) (i : grid0.Coords) (arg2 : Memref sig .tc .vmem S64x2048 .f32) (harg2 : arg2.IsWhole)
    (arg3 : Memref sig .tc .vmem S64x2048 .f32) (harg3 : arg3.IsWhole) (arg4 : Memref sig .tc .vmem S64x2048 .f32)
    (harg4 : arg4.IsWhole) (arg5 : Memref sig .tc .vmem S64x2048 .f32) (harg5 : arg5.IsWhole)
    (arg6 : Memref sig .tc .vmem S64x2048 .f32) (harg6 : arg6.IsWhole) (arg7 : Memref sig .tc .vmem S64x2048 .f32)
    (harg7 : arg7.IsWhole) (arg8 : Memref sig .tc .vmem S64x2048 .f32) (harg8 : arg8.IsWhole)
    (arg9 : Memref sig .tc .vmem S64x2048 .f32) (harg9 : arg9.IsWhole) (arg10 : Memref sig .tc .vmem S64x2048 .f32)
    (harg10 : arg10.IsWhole) (arg11 : Memref sig .tc .vmem S64x2048 .f32) (harg11 : arg11.IsWhole)
    (arg12 : Memref sig .tc .vmem S64x2048 .f32) (harg12 : arg12.IsWhole)
    (arg13 : Memref sig .tc .vmem S64x2048 .f32) (harg13 : arg13.IsWhole)
    (arg14 : Memref sig .tc .vmem S32x10240 .f32) (harg14 : arg14.IsWhole)
    (arg15 : Memref sig .tc .vmem S32x16384 .f32) (harg15 : arg15.IsWhole)
    (arg16 : Memref sig .tc .vmem S64x2048 .f32) (harg16 : arg16.IsWhole)
    (arg17 : Memref sig .tc .vmem S64x2048 .f32) (harg17 : arg17.IsWhole)
    (arg18 : Memref sig .tc .vmem S32x10240 .bf16) (harg18 : arg18.IsWhole)
    (arg19 : Memref sig .tc .vmem S32x16384 .bf16) (harg19 : arg19.IsWhole)
    (arg20 : Memref sig .tc .vmem S2x8x256x256 .f32) (harg20 : arg20.IsWhole) (hc0 : ¬cond0_0 i)
    (x12 : Vec Ideal S32x10240 .f32) (x13 : Vec Ideal S32x16384 .f32)
    (X0 X1 X2 X3 X4 X5 X6 X7 X8 X9 X10 X11 : Fin 32 → M) (S : Fin 2 → Fin 32 → M) :
    out0_B_14 (F := Ideal)
      c i arg2 harg2 arg3 harg3 arg4 harg4 arg5 harg5 arg6 harg6 arg7 harg7 arg8 harg8 arg9 harg9 arg10 harg10 arg11
      harg11 arg12 harg12 arg13 harg13 arg14 harg14 arg15 harg15 arg16 harg16 arg17 harg17 arg18 harg18 arg19 harg19
      arg20 harg20 hc0 (pkR X0) (pkR X1) (pkR X2) (pkR X3) (pkR X4) (pkR X5) (pkR X6) (pkR X7) (pkR X8) (pkR X9)
      (pkR X10) (pkR X11) x12 x13 (pkT S)
    = pkR fun H => yOf (Equiv.refl _) (X0 H) (X1 H) (X2 H) (X3 H) (X4 H) (X5 H) (S 0 H) := by
  unfold out0_B_14
  rw [runB_y0]
  refine read_pcsY _ _ _ _ fun q => ?_
  simp only [ldR_pk, ldS_pk]
  exact chunkY_pk reads_fwd _ _ _ _ _ _ _

/-- A later point leaves the reverse outputs. -/
theorem valB_y1
    (c : Dev nD) (i : grid0.Coords) (arg2 : Memref sig .tc .vmem S64x2048 .f32) (harg2 : arg2.IsWhole)
    (arg3 : Memref sig .tc .vmem S64x2048 .f32) (harg3 : arg3.IsWhole) (arg4 : Memref sig .tc .vmem S64x2048 .f32)
    (harg4 : arg4.IsWhole) (arg5 : Memref sig .tc .vmem S64x2048 .f32) (harg5 : arg5.IsWhole)
    (arg6 : Memref sig .tc .vmem S64x2048 .f32) (harg6 : arg6.IsWhole) (arg7 : Memref sig .tc .vmem S64x2048 .f32)
    (harg7 : arg7.IsWhole) (arg8 : Memref sig .tc .vmem S64x2048 .f32) (harg8 : arg8.IsWhole)
    (arg9 : Memref sig .tc .vmem S64x2048 .f32) (harg9 : arg9.IsWhole) (arg10 : Memref sig .tc .vmem S64x2048 .f32)
    (harg10 : arg10.IsWhole) (arg11 : Memref sig .tc .vmem S64x2048 .f32) (harg11 : arg11.IsWhole)
    (arg12 : Memref sig .tc .vmem S64x2048 .f32) (harg12 : arg12.IsWhole)
    (arg13 : Memref sig .tc .vmem S64x2048 .f32) (harg13 : arg13.IsWhole)
    (arg14 : Memref sig .tc .vmem S32x10240 .f32) (harg14 : arg14.IsWhole)
    (arg15 : Memref sig .tc .vmem S32x16384 .f32) (harg15 : arg15.IsWhole)
    (arg16 : Memref sig .tc .vmem S64x2048 .f32) (harg16 : arg16.IsWhole)
    (arg17 : Memref sig .tc .vmem S64x2048 .f32) (harg17 : arg17.IsWhole)
    (arg18 : Memref sig .tc .vmem S32x10240 .bf16) (harg18 : arg18.IsWhole)
    (arg19 : Memref sig .tc .vmem S32x16384 .bf16) (harg19 : arg19.IsWhole)
    (arg20 : Memref sig .tc .vmem S2x8x256x256 .f32) (harg20 : arg20.IsWhole) (hc0 : ¬cond0_0 i)
    (x12 : Vec Ideal S32x10240 .f32) (x13 : Vec Ideal S32x16384 .f32)
    (X0 X1 X2 X3 X4 X5 X6 X7 X8 X9 X10 X11 : Fin 32 → M) (S : Fin 2 → Fin 32 → M) :
    out0_B_15 (F := Ideal)
      c i arg2 harg2 arg3 harg3 arg4 harg4 arg5 harg5 arg6 harg6 arg7 harg7 arg8 harg8 arg9 harg9 arg10 harg10 arg11
      harg11 arg12 harg12 arg13 harg13 arg14 harg14 arg15 harg15 arg16 harg16 arg17 harg17 arg18 harg18 arg19 harg19
      arg20 harg20 hc0 (pkR X0) (pkR X1) (pkR X2) (pkR X3) (pkR X4) (pkR X5) (pkR X6) (pkR X7) (pkR X8) (pkR X9)
      (pkR X10) (pkR X11) x12 x13 (pkT S)
    = pkR fun H => yOf Fin.revPerm (X6 H) (X7 H) (X8 H) (X9 H) (X10 H) (X11 H) (S 1 H) := by
  unfold out0_B_15
  rw [runB_y1]
  refine read_pcsY _ _ _ _ fun q => ?_
  simp only [ldR_pk, ldS_pk]
  exact chunkY_pk reads_rev _ _ _ _ _ _ _

/-- A later point leaves the new states. -/
theorem valB_s
    (c : Dev nD) (i : grid0.Coords) (arg2 : Memref sig .tc .vmem S64x2048 .f32) (harg2 : arg2.IsWhole)
    (arg3 : Memref sig .tc .vmem S64x2048 .f32) (harg3 : arg3.IsWhole) (arg4 : Memref sig .tc .vmem S64x2048 .f32)
    (harg4 : arg4.IsWhole) (arg5 : Memref sig .tc .vmem S64x2048 .f32) (harg5 : arg5.IsWhole)
    (arg6 : Memref sig .tc .vmem S64x2048 .f32) (harg6 : arg6.IsWhole) (arg7 : Memref sig .tc .vmem S64x2048 .f32)
    (harg7 : arg7.IsWhole) (arg8 : Memref sig .tc .vmem S64x2048 .f32) (harg8 : arg8.IsWhole)
    (arg9 : Memref sig .tc .vmem S64x2048 .f32) (harg9 : arg9.IsWhole) (arg10 : Memref sig .tc .vmem S64x2048 .f32)
    (harg10 : arg10.IsWhole) (arg11 : Memref sig .tc .vmem S64x2048 .f32) (harg11 : arg11.IsWhole)
    (arg12 : Memref sig .tc .vmem S64x2048 .f32) (harg12 : arg12.IsWhole)
    (arg13 : Memref sig .tc .vmem S64x2048 .f32) (harg13 : arg13.IsWhole)
    (arg14 : Memref sig .tc .vmem S32x10240 .f32) (harg14 : arg14.IsWhole)
    (arg15 : Memref sig .tc .vmem S32x16384 .f32) (harg15 : arg15.IsWhole)
    (arg16 : Memref sig .tc .vmem S64x2048 .f32) (harg16 : arg16.IsWhole)
    (arg17 : Memref sig .tc .vmem S64x2048 .f32) (harg17 : arg17.IsWhole)
    (arg18 : Memref sig .tc .vmem S32x10240 .bf16) (harg18 : arg18.IsWhole)
    (arg19 : Memref sig .tc .vmem S32x16384 .bf16) (harg19 : arg19.IsWhole)
    (arg20 : Memref sig .tc .vmem S2x8x256x256 .f32) (harg20 : arg20.IsWhole) (hc0 : ¬cond0_0 i)
    (x12 : Vec Ideal S32x10240 .f32) (x13 : Vec Ideal S32x16384 .f32)
    (X0 X1 X2 X3 X4 X5 X6 X7 X8 X9 X10 X11 : Fin 32 → M) (S : Fin 2 → Fin 32 → M) :
    sout0_B_0 (F := Ideal)
      c i arg2 harg2 arg3 harg3 arg4 harg4 arg5 harg5 arg6 harg6 arg7 harg7 arg8 harg8 arg9 harg9 arg10 harg10 arg11
      harg11 arg12 harg12 arg13 harg13 arg14 harg14 arg15 harg15 arg16 harg16 arg17 harg17 arg18 harg18 arg19 harg19
      arg20 harg20 hc0 (pkR X0) (pkR X1) (pkR X2) (pkR X3) (pkR X4) (pkR X5) (pkR X6) (pkR X7) (pkR X8) (pkR X9)
      (pkR X10) (pkR X11) x12 x13 (pkT S)
    = pkT fun d H => if d = 0 then sOf (Equiv.refl _) (X1 H) (X2 H) (X3 H) (X4 H) (X5 H) (S 0 H)
      else sOf Fin.revPerm (X7 H) (X8 H) (X9 H) (X10 H) (X11 H) (S 1 H) := by
  unfold sout0_B_0
  rw [runB_s]
  refine read_pcsS _ _ _ _ _ fun d q => ?_
  simp only [ldR_pk, ldS_pk]
  by_cases hd : d = 0
  · simp only [hd, if_true]
    exact chunkS_pk reads_fwd _ _ _ _ _ _ _
  · simp only [hd, if_false]
    exact chunkS_pk reads_rev _ _ _ _ _ _ _

theorem zero2 : (![0, 0] : Fin 2 → ℕ) = fun _ => 0 := by
  funext a
  fin_cases a <;> rfl

/-- The first point leaves the block of rows, cast, window 16. -/
theorem valA_c16
    (c : Dev nD) (i : grid0.Coords) (arg2 : Memref sig .tc .vmem S64x2048 .f32) (harg2 : arg2.IsWhole)
    (arg3 : Memref sig .tc .vmem S64x2048 .f32) (harg3 : arg3.IsWhole) (arg4 : Memref sig .tc .vmem S64x2048 .f32)
    (harg4 : arg4.IsWhole) (arg5 : Memref sig .tc .vmem S64x2048 .f32) (harg5 : arg5.IsWhole)
    (arg6 : Memref sig .tc .vmem S64x2048 .f32) (harg6 : arg6.IsWhole) (arg7 : Memref sig .tc .vmem S64x2048 .f32)
    (harg7 : arg7.IsWhole) (arg8 : Memref sig .tc .vmem S64x2048 .f32) (harg8 : arg8.IsWhole)
    (arg9 : Memref sig .tc .vmem S64x2048 .f32) (harg9 : arg9.IsWhole) (arg10 : Memref sig .tc .vmem S64x2048 .f32)
    (harg10 : arg10.IsWhole) (arg11 : Memref sig .tc .vmem S64x2048 .f32) (harg11 : arg11.IsWhole)
    (arg12 : Memref sig .tc .vmem S64x2048 .f32) (harg12 : arg12.IsWhole)
    (arg13 : Memref sig .tc .vmem S64x2048 .f32) (harg13 : arg13.IsWhole)
    (arg14 : Memref sig .tc .vmem S32x10240 .f32) (harg14 : arg14.IsWhole)
    (arg15 : Memref sig .tc .vmem S32x16384 .f32) (harg15 : arg15.IsWhole)
    (arg16 : Memref sig .tc .vmem S64x2048 .f32) (harg16 : arg16.IsWhole)
    (arg17 : Memref sig .tc .vmem S64x2048 .f32) (harg17 : arg17.IsWhole)
    (arg18 : Memref sig .tc .vmem S32x10240 .bf16) (harg18 : arg18.IsWhole)
    (arg19 : Memref sig .tc .vmem S32x16384 .bf16) (harg19 : arg19.IsWhole)
    (arg20 : Memref sig .tc .vmem S2x8x256x256 .f32) (harg20 : arg20.IsWhole) (hc0 : cond0_0 i)
    (x0 : Vec Ideal S64x2048 .f32) (x1 : Vec Ideal S64x2048 .f32) (x2 : Vec Ideal S64x2048 .f32)
    (x3 : Vec Ideal S64x2048 .f32) (x4 : Vec Ideal S64x2048 .f32) (x5 : Vec Ideal S64x2048 .f32)
    (x6 : Vec Ideal S64x2048 .f32) (x7 : Vec Ideal S64x2048 .f32) (x8 : Vec Ideal S64x2048 .f32)
    (x9 : Vec Ideal S64x2048 .f32) (x10 : Vec Ideal S64x2048 .f32) (x11 : Vec Ideal S64x2048 .f32)
    (x12 : Vec Ideal S32x10240 .f32) (x13 : Vec Ideal S32x16384 .f32) :
    out0_A_16 (F := Ideal)
      c i arg2 harg2 arg3 harg3 arg4 harg4 arg5 harg5 arg6 harg6 arg7 harg7 arg8 harg8 arg9 harg9 arg10 harg10 arg11
      harg11 arg12 harg12 arg13 harg13 arg14 harg14 arg15 harg15 arg16 harg16 arg17 harg17 arg18 harg18 arg19 harg19
      arg20 harg20 hc0 x0 x1 x2 x3 x4 x5 x6 x7 x8 x9 x10 x11 x12 x13
    = truncf (F := Ideal) .bf16 x12 bitsLt_bf16_f32 := by
  unfold out0_A_16
  rw [runA_c16, View.read_writes_eq_canon _ _ _ (fun y => ⟨_, List.mem_singleton_self _, View.mem_set_unit_zero zero2 inb_S32x10240_S32x10240_0_0 y⟩),
    View.canon_unit_zero zero2, View.readAt_eq_ld,
    Memref.IsWhole.read_unread]
  exact congrArg (truncf (F := Ideal) .bf16 · bitsLt_bf16_f32) (View.ld_unit_zero zero2 _ x12)

/-- The first point leaves the block of rows, cast, window 17. -/
theorem valA_c17
    (c : Dev nD) (i : grid0.Coords) (arg2 : Memref sig .tc .vmem S64x2048 .f32) (harg2 : arg2.IsWhole)
    (arg3 : Memref sig .tc .vmem S64x2048 .f32) (harg3 : arg3.IsWhole) (arg4 : Memref sig .tc .vmem S64x2048 .f32)
    (harg4 : arg4.IsWhole) (arg5 : Memref sig .tc .vmem S64x2048 .f32) (harg5 : arg5.IsWhole)
    (arg6 : Memref sig .tc .vmem S64x2048 .f32) (harg6 : arg6.IsWhole) (arg7 : Memref sig .tc .vmem S64x2048 .f32)
    (harg7 : arg7.IsWhole) (arg8 : Memref sig .tc .vmem S64x2048 .f32) (harg8 : arg8.IsWhole)
    (arg9 : Memref sig .tc .vmem S64x2048 .f32) (harg9 : arg9.IsWhole) (arg10 : Memref sig .tc .vmem S64x2048 .f32)
    (harg10 : arg10.IsWhole) (arg11 : Memref sig .tc .vmem S64x2048 .f32) (harg11 : arg11.IsWhole)
    (arg12 : Memref sig .tc .vmem S64x2048 .f32) (harg12 : arg12.IsWhole)
    (arg13 : Memref sig .tc .vmem S64x2048 .f32) (harg13 : arg13.IsWhole)
    (arg14 : Memref sig .tc .vmem S32x10240 .f32) (harg14 : arg14.IsWhole)
    (arg15 : Memref sig .tc .vmem S32x16384 .f32) (harg15 : arg15.IsWhole)
    (arg16 : Memref sig .tc .vmem S64x2048 .f32) (harg16 : arg16.IsWhole)
    (arg17 : Memref sig .tc .vmem S64x2048 .f32) (harg17 : arg17.IsWhole)
    (arg18 : Memref sig .tc .vmem S32x10240 .bf16) (harg18 : arg18.IsWhole)
    (arg19 : Memref sig .tc .vmem S32x16384 .bf16) (harg19 : arg19.IsWhole)
    (arg20 : Memref sig .tc .vmem S2x8x256x256 .f32) (harg20 : arg20.IsWhole) (hc0 : cond0_0 i)
    (x0 : Vec Ideal S64x2048 .f32) (x1 : Vec Ideal S64x2048 .f32) (x2 : Vec Ideal S64x2048 .f32)
    (x3 : Vec Ideal S64x2048 .f32) (x4 : Vec Ideal S64x2048 .f32) (x5 : Vec Ideal S64x2048 .f32)
    (x6 : Vec Ideal S64x2048 .f32) (x7 : Vec Ideal S64x2048 .f32) (x8 : Vec Ideal S64x2048 .f32)
    (x9 : Vec Ideal S64x2048 .f32) (x10 : Vec Ideal S64x2048 .f32) (x11 : Vec Ideal S64x2048 .f32)
    (x12 : Vec Ideal S32x10240 .f32) (x13 : Vec Ideal S32x16384 .f32) :
    out0_A_17 (F := Ideal)
      c i arg2 harg2 arg3 harg3 arg4 harg4 arg5 harg5 arg6 harg6 arg7 harg7 arg8 harg8 arg9 harg9 arg10 harg10 arg11
      harg11 arg12 harg12 arg13 harg13 arg14 harg14 arg15 harg15 arg16 harg16 arg17 harg17 arg18 harg18 arg19 harg19
      arg20 harg20 hc0 x0 x1 x2 x3 x4 x5 x6 x7 x8 x9 x10 x11 x12 x13
    = truncf (F := Ideal) .bf16 x13 bitsLt_bf16_f32 := by
  unfold out0_A_17
  rw [runA_c17, View.read_writes_eq_canon _ _ _ (fun y => ⟨_, List.mem_singleton_self _, View.mem_set_unit_zero zero2 inb_S32x16384_S32x16384_0_0 y⟩),
    View.canon_unit_zero zero2, View.readAt_eq_ld,
    Memref.IsWhole.read_unread]
  exact congrArg (truncf (F := Ideal) .bf16 · bitsLt_bf16_f32) (View.ld_unit_zero zero2 _ x13)

/-- A later point leaves the block of rows, cast, window 16. -/
theorem valB_c16
    (c : Dev nD) (i : grid0.Coords) (arg2 : Memref sig .tc .vmem S64x2048 .f32) (harg2 : arg2.IsWhole)
    (arg3 : Memref sig .tc .vmem S64x2048 .f32) (harg3 : arg3.IsWhole) (arg4 : Memref sig .tc .vmem S64x2048 .f32)
    (harg4 : arg4.IsWhole) (arg5 : Memref sig .tc .vmem S64x2048 .f32) (harg5 : arg5.IsWhole)
    (arg6 : Memref sig .tc .vmem S64x2048 .f32) (harg6 : arg6.IsWhole) (arg7 : Memref sig .tc .vmem S64x2048 .f32)
    (harg7 : arg7.IsWhole) (arg8 : Memref sig .tc .vmem S64x2048 .f32) (harg8 : arg8.IsWhole)
    (arg9 : Memref sig .tc .vmem S64x2048 .f32) (harg9 : arg9.IsWhole) (arg10 : Memref sig .tc .vmem S64x2048 .f32)
    (harg10 : arg10.IsWhole) (arg11 : Memref sig .tc .vmem S64x2048 .f32) (harg11 : arg11.IsWhole)
    (arg12 : Memref sig .tc .vmem S64x2048 .f32) (harg12 : arg12.IsWhole)
    (arg13 : Memref sig .tc .vmem S64x2048 .f32) (harg13 : arg13.IsWhole)
    (arg14 : Memref sig .tc .vmem S32x10240 .f32) (harg14 : arg14.IsWhole)
    (arg15 : Memref sig .tc .vmem S32x16384 .f32) (harg15 : arg15.IsWhole)
    (arg16 : Memref sig .tc .vmem S64x2048 .f32) (harg16 : arg16.IsWhole)
    (arg17 : Memref sig .tc .vmem S64x2048 .f32) (harg17 : arg17.IsWhole)
    (arg18 : Memref sig .tc .vmem S32x10240 .bf16) (harg18 : arg18.IsWhole)
    (arg19 : Memref sig .tc .vmem S32x16384 .bf16) (harg19 : arg19.IsWhole)
    (arg20 : Memref sig .tc .vmem S2x8x256x256 .f32) (harg20 : arg20.IsWhole) (hc0 : ¬cond0_0 i)
    (x0 : Vec Ideal S64x2048 .f32) (x1 : Vec Ideal S64x2048 .f32) (x2 : Vec Ideal S64x2048 .f32)
    (x3 : Vec Ideal S64x2048 .f32) (x4 : Vec Ideal S64x2048 .f32) (x5 : Vec Ideal S64x2048 .f32)
    (x6 : Vec Ideal S64x2048 .f32) (x7 : Vec Ideal S64x2048 .f32) (x8 : Vec Ideal S64x2048 .f32)
    (x9 : Vec Ideal S64x2048 .f32) (x10 : Vec Ideal S64x2048 .f32) (x11 : Vec Ideal S64x2048 .f32)
    (x12 : Vec Ideal S32x10240 .f32) (x13 : Vec Ideal S32x16384 .f32) (xs0 : Vec Ideal S2x8x256x256 .f32) :
    out0_B_16 (F := Ideal)
      c i arg2 harg2 arg3 harg3 arg4 harg4 arg5 harg5 arg6 harg6 arg7 harg7 arg8 harg8 arg9 harg9 arg10 harg10 arg11
      harg11 arg12 harg12 arg13 harg13 arg14 harg14 arg15 harg15 arg16 harg16 arg17 harg17 arg18 harg18 arg19 harg19
      arg20 harg20 hc0 x0 x1 x2 x3 x4 x5 x6 x7 x8 x9 x10 x11 x12 x13 xs0
    = truncf (F := Ideal) .bf16 x12 bitsLt_bf16_f32 := by
  unfold out0_B_16
  rw [runB_c16, View.read_writes_eq_canon _ _ _ (fun y => ⟨_, List.mem_singleton_self _, View.mem_set_unit_zero zero2 inb_S32x10240_S32x10240_0_0 y⟩),
    View.canon_unit_zero zero2, View.readAt_eq_ld,
    Memref.IsWhole.read_unread]
  exact congrArg (truncf (F := Ideal) .bf16 · bitsLt_bf16_f32) (View.ld_unit_zero zero2 _ x12)

/-- A later point leaves the block of rows, cast, window 17. -/
theorem valB_c17
    (c : Dev nD) (i : grid0.Coords) (arg2 : Memref sig .tc .vmem S64x2048 .f32) (harg2 : arg2.IsWhole)
    (arg3 : Memref sig .tc .vmem S64x2048 .f32) (harg3 : arg3.IsWhole) (arg4 : Memref sig .tc .vmem S64x2048 .f32)
    (harg4 : arg4.IsWhole) (arg5 : Memref sig .tc .vmem S64x2048 .f32) (harg5 : arg5.IsWhole)
    (arg6 : Memref sig .tc .vmem S64x2048 .f32) (harg6 : arg6.IsWhole) (arg7 : Memref sig .tc .vmem S64x2048 .f32)
    (harg7 : arg7.IsWhole) (arg8 : Memref sig .tc .vmem S64x2048 .f32) (harg8 : arg8.IsWhole)
    (arg9 : Memref sig .tc .vmem S64x2048 .f32) (harg9 : arg9.IsWhole) (arg10 : Memref sig .tc .vmem S64x2048 .f32)
    (harg10 : arg10.IsWhole) (arg11 : Memref sig .tc .vmem S64x2048 .f32) (harg11 : arg11.IsWhole)
    (arg12 : Memref sig .tc .vmem S64x2048 .f32) (harg12 : arg12.IsWhole)
    (arg13 : Memref sig .tc .vmem S64x2048 .f32) (harg13 : arg13.IsWhole)
    (arg14 : Memref sig .tc .vmem S32x10240 .f32) (harg14 : arg14.IsWhole)
    (arg15 : Memref sig .tc .vmem S32x16384 .f32) (harg15 : arg15.IsWhole)
    (arg16 : Memref sig .tc .vmem S64x2048 .f32) (harg16 : arg16.IsWhole)
    (arg17 : Memref sig .tc .vmem S64x2048 .f32) (harg17 : arg17.IsWhole)
    (arg18 : Memref sig .tc .vmem S32x10240 .bf16) (harg18 : arg18.IsWhole)
    (arg19 : Memref sig .tc .vmem S32x16384 .bf16) (harg19 : arg19.IsWhole)
    (arg20 : Memref sig .tc .vmem S2x8x256x256 .f32) (harg20 : arg20.IsWhole) (hc0 : ¬cond0_0 i)
    (x0 : Vec Ideal S64x2048 .f32) (x1 : Vec Ideal S64x2048 .f32) (x2 : Vec Ideal S64x2048 .f32)
    (x3 : Vec Ideal S64x2048 .f32) (x4 : Vec Ideal S64x2048 .f32) (x5 : Vec Ideal S64x2048 .f32)
    (x6 : Vec Ideal S64x2048 .f32) (x7 : Vec Ideal S64x2048 .f32) (x8 : Vec Ideal S64x2048 .f32)
    (x9 : Vec Ideal S64x2048 .f32) (x10 : Vec Ideal S64x2048 .f32) (x11 : Vec Ideal S64x2048 .f32)
    (x12 : Vec Ideal S32x10240 .f32) (x13 : Vec Ideal S32x16384 .f32) (xs0 : Vec Ideal S2x8x256x256 .f32) :
    out0_B_17 (F := Ideal)
      c i arg2 harg2 arg3 harg3 arg4 harg4 arg5 harg5 arg6 harg6 arg7 harg7 arg8 harg8 arg9 harg9 arg10 harg10 arg11
      harg11 arg12 harg12 arg13 harg13 arg14 harg14 arg15 harg15 arg16 harg16 arg17 harg17 arg18 harg18 arg19 harg19
      arg20 harg20 hc0 x0 x1 x2 x3 x4 x5 x6 x7 x8 x9 x10 x11 x12 x13 xs0
    = truncf (F := Ideal) .bf16 x13 bitsLt_bf16_f32 := by
  unfold out0_B_17
  rw [runB_c17, View.read_writes_eq_canon _ _ _ (fun y => ⟨_, List.mem_singleton_self _, View.mem_set_unit_zero zero2 inb_S32x16384_S32x16384_0_0 y⟩),
    View.canon_unit_zero zero2, View.readAt_eq_ld,
    Memref.IsWhole.read_unread]
  exact congrArg (truncf (F := Ideal) .bf16 · bitsLt_bf16_f32) (View.ld_unit_zero zero2 _ x13)

end Cert.KernelIdeal.Chunk
-- ==== Proof.KScan.lean ====
module

public import proofs.«01_k».proof.Proof.KVal
public import Idealize.ShloMosaic.Lib.Pipeline.ValueKit.Geometry

/-!
# The kernel's result arrays

The scratch holds, after each grid point, the states of the recurrence after that point's rows, in both directions; so the
two result arrays hold the recurrence's outputs, and the two cast arrays the cast weights.
-/

@[expose] public section

set_option maxRecDepth 16384

noncomputable section

open Idealize.ShloMosaic Idealize.ShloMosaic.TcCoe Idealize.SL.Sem

namespace Cert.KernelIdeal.Chunk

open Cert.Rwkv Cert.KernelIdeal Cert.KernelIdeal.Gen

/-- An array of rows of all heads. -/
def pkA (X : ℕ → Fin 32 → Fin 64 → ℝ) : S8448x2048.Idx → EReal :=
  fun i => ((X (i 0).val (hdW (i 1)) (lnW (i 1)) : ℝ) : EReal)

/-- The row of the reverse direction's time `n`: the first 256 rows backwards, then the rest backwards. -/
def rv (n : ℕ) : ℕ := if n < 256 then 255 - n else 8703 - n

/-- The row block of the reverse direction's chunk `p`. -/
def rc (p : ℕ) : ℕ := if p < 4 then 3 - p else 135 - p

/-- One head's sequence, forward in time. -/
def sqF (X : ℕ → Fin 32 → Fin 64 → ℝ) (H : Fin 32) : ℕ → Fin 64 → ℝ := fun n => X n H

/-- One head's sequence, backward in time. -/
def sqB (X : ℕ → Fin 32 → Fin 64 → ℝ) (H : Fin 32) : ℕ → Fin 64 → ℝ := fun n => X (rv n) H

/-- Rows `64 p …` of all heads. -/
def blkX (X : ℕ → Fin 32 → Fin 64 → ℝ) (p : ℕ) : Fin 32 → M := fun H t => X (64 * p + t.val) H

theorem rows_F (X : ℕ → Fin 32 → Fin 64 → ℝ) (p : ℕ) (H : Fin 32) :
    Rows (Equiv.refl _) (64 * p) (sqF X H) (blkX X p H) := fun _ => rfl

theorem rows_B (X : ℕ → Fin 32 → Fin 64 → ℝ) (p : ℕ) (hp : p < 132) (H : Fin 32) :
    Rows Fin.revPerm (64 * p) (sqB X H) (blkX X (rc p) H) := by
  intro t
  show X (64 * rc p + t.val) H = X (rv (64 * p + (Fin.rev t).val)) H
  congr 1
  have := t.isLt
  rw [Fin.val_rev]
  unfold rc rv
  split <;> split <;> omega

theorem rv_block (p : ℕ) (hp : p < 132) (t : Fin 64) : rv (rc p * 64 + t.val) = 64 * p + (Fin.rev t).val := by
  have := t.isLt
  rw [Fin.val_rev]
  unfold rc rv
  split <;> split <;> omega

section Scan

variable (r v a lw0 lw1 k0 k1 b0 b1 : ℕ → Fin 32 → Fin 64 → ℝ)

/-- The states of both directions and all heads at time `n`. -/
def states (n : ℕ) (d : Fin 2) (H : Fin 32) : M :=
  if d = 0 then stAt (sqF lw0 H) (sqF a H) (sqF b0 H) (sqF k0 H) (sqF v H) n
  else stAt (sqB lw1 H) (sqB a H) (sqB b1 H) (sqB k1 H) (sqB v H) n

/-- The forward outputs of chunk `p`. -/
def youtF (p : ℕ) (H : Fin 32) : M := fun t =>
  yAt (sqF r H) (sqF lw0 H) (sqF a H) (sqF b0 H) (sqF k0 H) (sqF v H) (64 * p + t.val)

/-- The reverse outputs of chunk `p`, by its rows. -/
def youtB (p : ℕ) (H : Fin 32) : M := fun t =>
  yAt (sqB r H) (sqB lw1 H) (sqB a H) (sqB b1 H) (sqB k1 H) (sqB v H) (64 * p + (Fin.rev t).val)

theorem chunk_yF (p : ℕ) (H : Fin 32) :
    yOf (Equiv.refl _) (blkX r p H) (blkX lw0 p H) (blkX k0 p H) (blkX v p H) (blkX a p H) (blkX b0 p H)
      (states v a lw0 lw1 k0 k1 b0 b1 (64 * p) 0 H) = youtF r v a lw0 k0 b0 p H := by
  funext t i
  exact yOf_eq (Equiv.refl _) (sqF r H) (sqF lw0 H) (sqF a H) (sqF b0 H) (sqF k0 H) (sqF v H) (64 * p) _ _ _ _ _ _
    (rows_F r p H) (rows_F lw0 p H) (rows_F a p H) (rows_F b0 p H) (rows_F k0 p H) (rows_F v p H) t i

theorem chunk_yB (p : ℕ) (hp : p < 132) (H : Fin 32) :
    yOf Fin.revPerm (blkX r (rc p) H) (blkX lw1 (rc p) H) (blkX k1 (rc p) H) (blkX v (rc p) H) (blkX a (rc p) H)
      (blkX b1 (rc p) H) (states v a lw0 lw1 k0 k1 b0 b1 (64 * p) 1 H) = youtB r v a lw1 k1 b1 p H := by
  funext t i
  exact yOf_eq Fin.revPerm (sqB r H) (sqB lw1 H) (sqB a H) (sqB b1 H) (sqB k1 H) (sqB v H) (64 * p) _ _ _ _ _ _
    (rows_B r p hp H) (rows_B lw1 p hp H) (rows_B a p hp H) (rows_B b1 p hp H) (rows_B k1 p hp H) (rows_B v p hp H) t i

theorem chunk_s (p : ℕ) (hp : p < 132) (d : Fin 2) (H : Fin 32) :
    (if d = 0 then sOf (Equiv.refl _) (blkX lw0 p H) (blkX k0 p H) (blkX v p H) (blkX a p H) (blkX b0 p H)
        (states v a lw0 lw1 k0 k1 b0 b1 (64 * p) 0 H)
      else sOf Fin.revPerm (blkX lw1 (rc p) H) (blkX k1 (rc p) H) (blkX v (rc p) H) (blkX a (rc p) H) (blkX b1 (rc p) H)
        (states v a lw0 lw1 k0 k1 b0 b1 (64 * p) 1 H))
      = states v a lw0 lw1 k0 k1 b0 b1 (64 * (p + 1)) d H := by
  by_cases hd : d = 0
  · subst hd
    exact sOf_eq (Equiv.refl _) (sqF lw0 H) (sqF a H) (sqF b0 H) (sqF k0 H) (sqF v H) (64 * p) _ _ _ _ _
      (rows_F lw0 p H) (rows_F a p H) (rows_F b0 p H) (rows_F k0 p H) (rows_F v p H)
  · obtain rfl : d = 1 := by omega
    exact sOf_eq Fin.revPerm (sqB lw1 H) (sqB a H) (sqB b1 H) (sqB k1 H) (sqB v H) (64 * p) _ _ _ _ _
      (rows_B lw1 p hp H) (rows_B a p hp H) (rows_B b1 p hp H) (rows_B k1 p hp H) (rows_B v p hp H)

end Scan

/-! ## The windows' blocks -/

variable (m : (ℓ : Loc nD τ sig) → Buf (Elt Ideal) ℓ) (c : Dev nD)

theorem blk_pk (A : S8448x2048.Idx → EReal) (X : ℕ → Fin 32 → Fin 64 → ℝ) (hA : A = pkA X) (p : ℕ)
    (e : S64x2048.Idx → S8448x2048.Idx) (h0 : ∀ j, (e j 0).val = p * 64 + 1 * (j 0).val)
    (h1 : ∀ j, (e j 1).val = 0 * 2048 + 1 * (j 1).val) : (fun j => A (e j)) = pkR (blkX X p) := by
  subst hA
  funext j
  have e1 : e j 1 = j 1 := Fin.ext (by rw [h1]; omega)
  show ((X (e j 0).val (hdW (e j 1)) (lnW (e j 1)) : ℝ) : EReal) = ((X (64 * p + (j 0).val) (hdW (j 1)) (lnW (j 1)) : ℝ) : EReal)
  rw [e1, h0, show p * 64 + 1 * (j 0).val = 64 * p + (j 0).val by omega]

theorem idxF : ∀ t : Fin cfg0.N, win0_0.index t 0 = t.val ∧ win0_0.index t 1 = 0 :=
  (by decide +kernel : ∀ t : Fin grid0.N, win0_0.index t 0 = t.val ∧ win0_0.index t 1 = 0)

theorem idxB : ∀ t : Fin cfg0.N, win0_6.index t 0 = rc t.val ∧ win0_6.index t 1 = 0 :=
  (by decide +kernel : ∀ t : Fin grid0.N, win0_6.index t 0 = rc t.val ∧ win0_6.index t 1 = 0)

theorem idx12 : ∀ t : Fin cfg0.N, win0_12.index t 0 = win0_16.index t 0 * 32 ∧ win0_12.index t 1 = 6784 ∧ win0_16.index t 1 = 0 :=
  (by decide +kernel : ∀ t : Fin grid0.N, win0_12.index t 0 = win0_16.index t 0 * 32 ∧ win0_12.index t 1 = 6784 ∧ win0_16.index t 1 = 0)

theorem idx13 : ∀ t : Fin cfg0.N, win0_13.index t 0 = win0_17.index t 0 * 32 ∧ win0_13.index t 1 = 0 ∧ win0_17.index t 1 = 0 :=
  (by decide +kernel : ∀ t : Fin grid0.N, win0_13.index t 0 = win0_17.index t 0 * 32 ∧ win0_13.index t 1 = 0 ∧ win0_17.index t 1 = 0)

theorem iblk_0 (X : ℕ → Fin 32 → Fin 64 → ℝ) (h : m ((c : Thread nD τ).loc main_arg0) = pkA X) (t : Fin cfg0.N) :
    (iblk m c 0 t : Vec Ideal S64x2048 .f32) = pkR (blkX X t.val) :=
  blk_pk _ X h t.val (((cfg0.win 0).blk t).view.emb ·) (fun j => congrArg (· * 64 + 1 * (j 0).val) (idxF t).1)
    (fun j => congrArg (· * 2048 + 1 * (j 1).val) (idxF t).2)

theorem iblk_1 (X : ℕ → Fin 32 → Fin 64 → ℝ) (h : m ((c : Thread nD τ).loc main_arg3) = pkA X) (t : Fin cfg0.N) :
    (iblk m c 1 t : Vec Ideal S64x2048 .f32) = pkR (blkX X t.val) :=
  blk_pk _ X h t.val (((cfg0.win 1).blk t).view.emb ·) (fun j => congrArg (· * 64 + 1 * (j 0).val) (idxF t).1)
    (fun j => congrArg (· * 2048 + 1 * (j 1).val) (idxF t).2)

theorem iblk_2 (X : ℕ → Fin 32 → Fin 64 → ℝ) (h : m ((c : Thread nD τ).loc main_arg5) = pkA X) (t : Fin cfg0.N) :
    (iblk m c 2 t : Vec Ideal S64x2048 .f32) = pkR (blkX X t.val) :=
  blk_pk _ X h t.val (((cfg0.win 2).blk t).view.emb ·) (fun j => congrArg (· * 64 + 1 * (j 0).val) (idxF t).1)
    (fun j => congrArg (· * 2048 + 1 * (j 1).val) (idxF t).2)

theorem iblk_3 (X : ℕ → Fin 32 → Fin 64 → ℝ) (h : m ((c : Thread nD τ).loc main_arg1) = pkA X) (t : Fin cfg0.N) :
    (iblk m c 3 t : Vec Ideal S64x2048 .f32) = pkR (blkX X t.val) :=
  blk_pk _ X h t.val (((cfg0.win 3).blk t).view.emb ·) (fun j => congrArg (· * 64 + 1 * (j 0).val) (idxF t).1)
    (fun j => congrArg (· * 2048 + 1 * (j 1).val) (idxF t).2)

theorem iblk_4 (X : ℕ → Fin 32 → Fin 64 → ℝ) (h : m ((c : Thread nD τ).loc main_arg2) = pkA X) (t : Fin cfg0.N) :
    (iblk m c 4 t : Vec Ideal S64x2048 .f32) = pkR (blkX X t.val) :=
  blk_pk _ X h t.val (((cfg0.win 4).blk t).view.emb ·) (fun j => congrArg (· * 64 + 1 * (j 0).val) (idxF t).1)
    (fun j => congrArg (· * 2048 + 1 * (j 1).val) (idxF t).2)

theorem iblk_5 (X : ℕ → Fin 32 → Fin 64 → ℝ) (h : m ((c : Thread nD τ).loc main_arg7) = pkA X) (t : Fin cfg0.N) :
    (iblk m c 5 t : Vec Ideal S64x2048 .f32) = pkR (blkX X t.val) :=
  blk_pk _ X h t.val (((cfg0.win 5).blk t).view.emb ·) (fun j => congrArg (· * 64 + 1 * (j 0).val) (idxF t).1)
    (fun j => congrArg (· * 2048 + 1 * (j 1).val) (idxF t).2)

theorem iblk_6 (X : ℕ → Fin 32 → Fin 64 → ℝ) (h : m ((c : Thread nD τ).loc main_arg0) = pkA X) (t : Fin cfg0.N) :
    (iblk m c 6 t : Vec Ideal S64x2048 .f32) = pkR (blkX X (rc t.val)) :=
  blk_pk _ X h (rc t.val) (((cfg0.win 6).blk t).view.emb ·) (fun j => congrArg (· * 64 + 1 * (j 0).val) (idxB t).1)
    (fun j => congrArg (· * 2048 + 1 * (j 1).val) (idxB t).2)

theorem iblk_7 (X : ℕ → Fin 32 → Fin 64 → ℝ) (h : m ((c : Thread nD τ).loc main_arg4) = pkA X) (t : Fin cfg0.N) :
    (iblk m c 7 t : Vec Ideal S64x2048 .f32) = pkR (blkX X (rc t.val)) :=
  blk_pk _ X h (rc t.val) (((cfg0.win 7).blk t).view.emb ·) (fun j => congrArg (· * 64 + 1 * (j 0).val) (idxB t).1)
    (fun j => congrArg (· * 2048 + 1 * (j 1).val) (idxB t).2)

theorem iblk_8 (X : ℕ → Fin 32 → Fin 64 → ℝ) (h : m ((c : Thread nD τ).loc main_arg6) = pkA X) (t : Fin cfg0.N) :
    (iblk m c 8 t : Vec Ideal S64x2048 .f32) = pkR (blkX X (rc t.val)) :=
  blk_pk _ X h (rc t.val) (((cfg0.win 8).blk t).view.emb ·) (fun j => congrArg (· * 64 + 1 * (j 0).val) (idxB t).1)
    (fun j => congrArg (· * 2048 + 1 * (j 1).val) (idxB t).2)

theorem iblk_9 (X : ℕ → Fin 32 → Fin 64 → ℝ) (h : m ((c : Thread nD τ).loc main_arg1) = pkA X) (t : Fin cfg0.N) :
    (iblk m c 9 t : Vec Ideal S64x2048 .f32) = pkR (blkX X (rc t.val)) :=
  blk_pk _ X h (rc t.val) (((cfg0.win 9).blk t).view.emb ·) (fun j => congrArg (· * 64 + 1 * (j 0).val) (idxB t).1)
    (fun j => congrArg (· * 2048 + 1 * (j 1).val) (idxB t).2)

theorem iblk_10 (X : ℕ → Fin 32 → Fin 64 → ℝ) (h : m ((c : Thread nD τ).loc main_arg2) = pkA X) (t : Fin cfg0.N) :
    (iblk m c 10 t : Vec Ideal S64x2048 .f32) = pkR (blkX X (rc t.val)) :=
  blk_pk _ X h (rc t.val) (((cfg0.win 10).blk t).view.emb ·) (fun j => congrArg (· * 64 + 1 * (j 0).val) (idxB t).1)
    (fun j => congrArg (· * 2048 + 1 * (j 1).val) (idxB t).2)

theorem iblk_11 (X : ℕ → Fin 32 → Fin 64 → ℝ) (h : m ((c : Thread nD τ).loc main_arg8) = pkA X) (t : Fin cfg0.N) :
    (iblk m c 11 t : Vec Ideal S64x2048 .f32) = pkR (blkX X (rc t.val)) :=
  blk_pk _ X h (rc t.val) (((cfg0.win 11).blk t).view.emb ·) (fun j => congrArg (· * 64 + 1 * (j 0).val) (idxB t).1)
    (fun j => congrArg (· * 2048 + 1 * (j 1).val) (idxB t).2)

/-- What the body leaves at point `t`: the chunk's outputs, the cast weight rows, and the states after the chunk. -/
abbrev atPoint (r v a lw0 lw1 k0 k1 b0 b1 : ℕ → Fin 32 → Fin 64 → ℝ) (t : Fin cfg0.N) : Vec Ideal S64x2048 .f32 × Vec Ideal S64x2048 .f32
    × Vec Ideal S32x10240 .bf16 × Vec Ideal S32x16384 .bf16 × Vec Ideal S2x8x256x256 .f32 :=
  (pkR (youtF r v a lw0 k0 b0 t.val), pkR (youtB r v a lw1 k1 b1 t.val),
    truncf (F := Ideal) .bf16 (iblk m c 12 t : Vec Ideal S32x10240 .f32) bitsLt_bf16_f32,
    truncf (F := Ideal) .bf16 (iblk m c 13 t : Vec Ideal S32x16384 .f32) bitsLt_bf16_f32,
    pkT (states v a lw0 lw1 k0 k1 b0 b1 (64 * (t.val + 1))))

section Run

variable (r v a lw0 lw1 k0 k1 b0 b1 : ℕ → Fin 32 → Fin 64 → ℝ)
  (hr : m ((c : Thread nD τ).loc main_arg0) = pkA r)
  (hv : m ((c : Thread nD τ).loc main_arg1) = pkA v)
  (ha : m ((c : Thread nD τ).loc main_arg2) = pkA a)
  (hlw0 : m ((c : Thread nD τ).loc main_arg3) = pkA lw0)
  (hlw1 : m ((c : Thread nD τ).loc main_arg4) = pkA lw1)
  (hk0 : m ((c : Thread nD τ).loc main_arg5) = pkA k0)
  (hk1 : m ((c : Thread nD τ).loc main_arg6) = pkA k1)
  (hb0 : m ((c : Thread nD τ).loc main_arg7) = pkA b0)
  (hb1 : m ((c : Thread nD τ).loc main_arg8) = pkA b1)

include hr hv ha hlw0 hlw1 hk0 hk1 hb0 hb1

theorem outsAt_eq : ∀ (n : ℕ) (hn : n < cfg0.N), outsAt0 m c n hn = atPoint m c r v a lw0 lw1 k0 k1 b0 b1 ⟨n, hn⟩
  | 0, hn => by
    refine (outsAt0_A m c ⟨0, hn⟩ rfl).trans ?_
    rw [iblk_0 m c r hr, iblk_1 m c lw0 hlw0, iblk_2 m c k0 hk0, iblk_3 m c v hv, iblk_4 m c a ha, iblk_5 m c b0 hb0, iblk_6 m c r hr, iblk_7 m c lw1 hlw1, iblk_8 m c k1 hk1, iblk_9 m c v hv, iblk_10 m c a ha, iblk_11 m c b1 hb1]
    rw [valA_y0, valA_y1, valA_s, valA_c16, valA_c17]
    refine Prod.ext ?_ (Prod.ext ?_ (Prod.ext rfl (Prod.ext rfl ?_)))
    · exact congrArg pkR (funext fun H => chunk_yF r v a lw0 lw1 k0 k1 b0 b1 0 H)
    · exact congrArg pkR (funext fun H => chunk_yB r v a lw0 lw1 k0 k1 b0 b1 0 (by omega) H)
    · exact congrArg pkT (funext fun d => funext fun H => chunk_s v a lw0 lw1 k0 k1 b0 b1 0 (by omega) d H)
  | n + 1, hn => by
    have hN : cfg0.N = 132 := N_0
    have hB : ¬(⟨n + 1, hn⟩ : Fin cfg0.N).val % 132 = 0 := by dsimp only; omega
    refine (outsAt0_B m c ⟨n + 1, hn⟩ hB).trans ?_
    have hp := congrArg (·.2.2.2.2) (outsAt_eq n (by omega))
    dsimp only at hp
    simp only [Nat.add_sub_cancel]
    rw [hp, iblk_0 m c r hr, iblk_1 m c lw0 hlw0, iblk_2 m c k0 hk0, iblk_3 m c v hv, iblk_4 m c a ha, iblk_5 m c b0 hb0, iblk_6 m c r hr, iblk_7 m c lw1 hlw1, iblk_8 m c k1 hk1, iblk_9 m c v hv, iblk_10 m c a ha, iblk_11 m c b1 hb1]
    rw [valB_y0, valB_y1, valB_s, valB_c16, valB_c17]
    refine Prod.ext ?_ (Prod.ext ?_ (Prod.ext rfl (Prod.ext rfl ?_)))
    · exact congrArg pkR (funext fun H => chunk_yF r v a lw0 lw1 k0 k1 b0 b1 (n + 1) H)
    · exact congrArg pkR (funext fun H => chunk_yB r v a lw0 lw1 k0 k1 b0 b1 (n + 1) (by omega) H)
    · exact congrArg pkT (funext fun d => funext fun H => chunk_s v a lw0 lw1 k0 k1 b0 b1 (n + 1) (by omega) d H)

/-! ## The arrays -/

/-- The forward results: the recurrence's outputs in the rows' order. -/
theorem final_F : (dats m 0 c).arrAt 14 cfg0.N
    = pkA (fun n H => yAt (sqF r H) (sqF lw0 H) (sqF a H) (sqF b0 H) (sqF k0 H) (sqF v H) n) := by
  refine (dats m 0 c).arrAt_eq_of_covers 14 _ (by decide +kernel) fun t hf y => ?_
  rw [after0_14, outsAt_eq m c r v a lw0 lw1 k0 k1 b0 b1 hr hv ha hlw0 hlw1 hk0 hk1 hb0 hb1]
  have e0 : ((((cfg0.win 14).blk t).view.emb y) 0).val = t.val * 64 + 1 * (y 0).val :=
    congrArg (· * 64 + 1 * (y 0).val) (idxF t).1
  have e1 : ((((cfg0.win 14).blk t).view.emb y) 1) = y 1 := Fin.ext
    ((congrArg (· * 2048 + 1 * (y 1).val) (idxF t).2).trans (by omega))
  show ((youtF r v a lw0 k0 b0 t.val (hdW (y 1)) (y 0) (lnW (y 1)) : ℝ) : EReal) = _
  unfold pkA youtF
  rw [e0, e1, show t.val * 64 + 1 * (y 0).val = 64 * t.val + (y 0).val by omega]

/-- The reverse results: the recurrence's outputs, each at the row of its time. -/
theorem final_B : (dats m 0 c).arrAt 15 cfg0.N
    = pkA (fun n H => yAt (sqB r H) (sqB lw1 H) (sqB a H) (sqB b1 H) (sqB k1 H) (sqB v H) (rv n)) := by
  refine (dats m 0 c).arrAt_eq_of_covers 15 _ (by decide +kernel) fun t hf y => ?_
  rw [after0_15, outsAt_eq m c r v a lw0 lw1 k0 k1 b0 b1 hr hv ha hlw0 hlw1 hk0 hk1 hb0 hb1]
  have e0 : ((((cfg0.win 15).blk t).view.emb y) 0).val = rc t.val * 64 + 1 * (y 0).val :=
    congrArg (· * 64 + 1 * (y 0).val) (idxB t).1
  have e1 : ((((cfg0.win 15).blk t).view.emb y) 1) = y 1 := Fin.ext
    ((congrArg (· * 2048 + 1 * (y 1).val) (idxB t).2).trans (by omega))
  have ht : t.val < 132 := lt_of_lt_of_eq t.isLt N_0
  have hrv := rv_block t.val ht (y 0)
  show ((youtB r v a lw1 k1 b1 t.val (hdW (y 1)) (y 0) (lnW (y 1)) : ℝ) : EReal) = _
  unfold pkA youtB
  beta_reduce
  rw [e0, e1, one_mul, hrv]

/-- The cast columns of the input projection's weights. -/
theorem final_C (sl : S4096x17024.Slices ![0, 6784] S4096x10240) : (dats m 0 c).arrAt 16 cfg0.N
    = truncf (F := Ideal) .bf16 (extractStridedSlice S4096x10240 ![0, 6784]
        (m ((c : Thread nD τ).loc main_arg9) : Vec Ideal S4096x17024 .f32) sl) bitsLt_bf16_f32 := by
  refine (dats m 0 c).arrAt_eq_of_covers 16 _ (by decide +kernel) fun t hf y => ?_
  rw [after0_16, outsAt_eq m c r v a lw0 lw1 k0 k1 b0 b1 hr hv ha hlw0 hlw1 hk0 hk1 hb0 hb1]
  show (m ((c : Thread nD τ).loc main_arg9) : Vec Ideal S4096x17024 .f32) (((cfg0.win 12).blk t).view.emb y)
    = (m ((c : Thread nD τ).loc main_arg9) : Vec Ideal S4096x17024 .f32) _
  congr 1
  funext x
  apply Fin.ext
  match x with
  | ⟨0, _⟩ =>
    show win0_12.index t 0 + 1 * (y 0).val = 0 + (win0_16.index t 0 * 32 + 1 * (y 0).val)
    rw [(idx12 t).1]; omega
  | ⟨1, _⟩ =>
    show win0_12.index t 1 + 1 * (y 1).val = 6784 + (win0_16.index t 1 * 10240 + 1 * (y 1).val)
    rw [(idx12 t).2.1, (idx12 t).2.2]; omega

/-- The cast weights of the first feed-forward layer. -/
theorem final_D : (dats m 0 c).arrAt 17 cfg0.N
    = truncf (F := Ideal) .bf16 (m ((c : Thread nD τ).loc main_arg10) : Vec Ideal S4096x16384 .f32) bitsLt_bf16_f32 := by
  refine (dats m 0 c).arrAt_eq_of_covers 17 _ (by decide +kernel) fun t hf y => ?_
  rw [after0_17, outsAt_eq m c r v a lw0 lw1 k0 k1 b0 b1 hr hv ha hlw0 hlw1 hk0 hk1 hb0 hb1]
  show (m ((c : Thread nD τ).loc main_arg10) : Vec Ideal S4096x16384 .f32) (((cfg0.win 13).blk t).view.emb y)
    = (m ((c : Thread nD τ).loc main_arg10) : Vec Ideal S4096x16384 .f32) _
  congr 1
  funext x
  apply Fin.ext
  match x with
  | ⟨0, _⟩ =>
    show win0_13.index t 0 + 1 * (y 0).val = win0_17.index t 0 * 32 + 1 * (y 0).val
    rw [(idx13 t).1]
  | ⟨1, _⟩ =>
    show win0_13.index t 1 + 1 * (y 1).val = win0_17.index t 1 * 16384 + 1 * (y 1).val
    rw [(idx13 t).2.1, (idx13 t).2.2]

end Run

end Cert.KernelIdeal.Chunk
-- ==== Proof.RefEntry.lean ====
module

public import proofs.«01_k».proof.Proof.KScan
public import proofs.«01_k».proof.Proof.Gen.ReferenceIdeal.Run

@[expose] public section
set_option maxRecDepth 16384
noncomputable section
open Idealize.ShloMosaic Idealize.ShloMosaic.TcCoe Idealize.SL.Sem Idealize.ShloMosaic.StableHlo
namespace Cert.ReferenceIdeal.Scan
open Cert.Rwkv Cert.ReferenceIdeal Cert.ReferenceIdeal.Gen Cert.ReferenceIdeal.Value
variable (m : (ℓ : Loc nD τ sig) → Buf (Elt Idealize.ShloMosaic.Ideal) ℓ) (c : Dev nD)

open Cert.KernelIdeal.Chunk (pkA hdW lnW rv sqF sqB)

/-- Two arrays laid end to end, piece by piece. -/
theorem cat2 {s1 s2 t : Shape} {α : Type} {a : Fin t.rank} {x x' : s1.Idx → α} {y y' : s2.Idx → α}
    {h : Shape.Concatenates [s1, s2] t a} (hx : x = x') (hy : y = y') :
    concatenate t a [⟨s1, x⟩, ⟨s2, y⟩] h = concatenate t a [⟨s1, x'⟩, ⟨s2, y'⟩] h := by
  subst hx hy; rfl

/-- The rows in the reverse direction's order of time. -/
def back (x : Vec Ideal S8448x2048 .f32) : Vec Ideal S8448x2048 .f32 :=
  concatenate S8448x2048 0
    [⟨S256x2048, Host.reverse [0] (extractStridedSlice S256x2048 ![0, 0] x slices_S8448x2048_S256x2048_0_0)⟩,
     ⟨S8192x2048, Host.reverse [0] (extractStridedSlice S8192x2048 ![256, 0] x slices_S8448x2048_S8192x2048_256_0)⟩]
    concatenates_S256x2048_S8192x2048_S8448x2048_d0

/-- Both directions, split into heads. -/
def dirs (x y : Vec Ideal S8448x2048 .f32) : Vec Ideal S2x8448x32x64 .f32 :=
  shapeCast S2x8448x32x64 (concatenate S2x8448x2048 0
    [⟨S1x8448x2048, broadcastInDim S1x8448x2048 ![1, 2] bcast_S8448x2048_S1x8448x2048_1_2 x⟩,
     ⟨S1x8448x2048, broadcastInDim S1x8448x2048 ![1, 2] bcast_S8448x2048_S1x8448x2048_1_2 (back y)⟩]
    concatenates_S1x8448x2048_S1x8448x2048_S2x8448x2048_d0) shapeCasts_S2x8448x2048_S2x8448x32x64

/-- Time first. -/
def tm (x : Vec Ideal S2x8448x32x64 .f32) : Vec Ideal S8448x2x32x64 .f32 :=
  transpose S8448x2x32x64 [1, 0, 2, 3] x transposes_S2x8448x32x64_S8448x2x32x64_1_0_2_3

theorem back_pk (X : ℕ → Fin 32 → Fin 64 → ℝ) : back (pkA X) = pkA (fun n => X (rv n)) := by
  funext i
  obtain ⟨n, l, rfl⟩ : ∃ n l, i = ix2 n l := ⟨i 0, i 1, (eq_ix2 i)⟩
  unfold back
  pointwise
  have h1 : (1 : Fin 2) ∉ ([0] : List (Fin 2)) := by decide
  have h0 : (0 : Fin 2) ∈ ([0] : List (Fin 2)) := by decide
  simp only [h0, h1, if_true, if_false]
  split
  · next h =>
    refine congrArg (fun x : ℕ => ((X x (hdW l) (lnW l) : ℝ) : EReal)) ?_
    show (Fin.rev (⟨n.val, h⟩ : Fin 256)).val = rv n.val
    rw [Fin.val_rev]
    unfold rv
    rw [if_pos h]
    show 256 - (n.val + 1) = _
    omega
  · next h =>
    refine congrArg (fun x : ℕ => ((X x (hdW l) (lnW l) : ℝ) : EReal)) ?_
    show 256 + (Fin.rev (⟨n.val - 256, by omega⟩ : Fin 8192)).val = rv n.val
    rw [Fin.val_rev]
    unfold rv
    rw [if_neg h]
    show 256 + (8192 - (n.val - 256 + 1)) = _
    omega

theorem dirs_pk (X Y : ℕ → Fin 32 → Fin 64 → ℝ) (d : Fin 2) (n : Fin 8448) (H : Fin 32) (j : Fin 64) :
    dirs (pkA X) (pkA Y) (ix4 d n H j) = (((if d = 0 then X n.val H j else Y (rv n.val) H j) : ℝ) : EReal) := by
  unfold dirs
  rw [back_pk]
  rw [shapeCast_apply _ _ (ix4 d n H j) (ix3 d n (⟨64 * H.val + j.val, by omega⟩ : Fin 2048)) (by
    rw [Shape.rowMajor_val_three, Shape.rowMajor_val_four]
    show (d.val * 8448 + n.val) * 2048 + (64 * H.val + j.val) = ((d.val * 8448 + n.val) * 32 + H.val) * 64 + j.val
    omega)]
  pointwise
  have hh : hdW (⟨64 * H.val + j.val, by omega⟩ : Fin 2048) = H := Fin.ext (by show (64 * H.val + j.val) / 64 = _; omega)
  have hl : lnW (⟨64 * H.val + j.val, by omega⟩ : Fin 2048) = j := Fin.ext (by show (64 * H.val + j.val) % 64 = _; omega)
  have hr (Z : ℕ → Fin 32 → Fin 64 → ℝ) : pkA Z (ix2 n (⟨64 * H.val + j.val, by omega⟩ : Fin 2048)) = ((Z n.val H j : ℝ) : EReal) := by
    show ((Z n.val (hdW (⟨64 * H.val + j.val, by omega⟩ : Fin 2048)) (lnW (⟨64 * H.val + j.val, by omega⟩ : Fin 2048)) : ℝ) : EReal) = _
    rw [hh, hl]
  split
  · next h =>
    have hd : d = 0 := Fin.ext (by show d.val = 0; exact Nat.lt_one_iff.mp h)
    exact (hr X).trans (by rw [if_pos hd])
  · next h =>
    have hd : d ≠ 0 := fun e => h (by subst e; exact Nat.one_pos)
    exact (hr _).trans (by rw [if_neg hd])

set_option maxHeartbeats 4000000 in
theorem entry_r : entryContents preI m c (Proc.devRef .tc main_v63_0) = tm (dirs (m ((c : Thread nD τ).loc main_arg0)) (m ((c : Thread nD τ).loc main_arg0))) := by
  simp only [entryContents, afterL_cons, afterL_nil]; after_reads_simp
  unfold tm dirs back
  refine congrArg (fun z => transpose S8448x2x32x64 [1, 0, 2, 3] z transposes_S2x8448x32x64_S8448x2x32x64_1_0_2_3) ?_

  refine congrArg (fun z => shapeCast S2x8448x32x64 z shapeCasts_S2x8448x2048_S2x8448x32x64) (cat2 ?_ ?_)
  · after_reads_simp
  · after_reads_simp
    refine congrArg (fun z : Vec Ideal S8448x2048 .f32 => broadcastInDim S1x8448x2048 ![1, 2] bcast_S8448x2048_S1x8448x2048_1_2 z) (cat2 ?_ ?_)
    · after_reads_simp; rfl
    · after_reads_simp; rfl

set_option maxHeartbeats 4000000 in
theorem entry_w : entryContents preI m c (Proc.devRef .tc main_v63_1) = tm (Host.exp (F := Ideal) (φ := .f32) (dirs (m ((c : Thread nD τ).loc main_arg3)) (m ((c : Thread nD τ).loc main_arg4)))) := by
  simp only [entryContents, afterL_cons, afterL_nil]; after_reads_simp
  unfold tm dirs back
  refine congrArg (fun z => transpose S8448x2x32x64 [1, 0, 2, 3] z transposes_S2x8448x32x64_S8448x2x32x64_1_0_2_3) ?_
  refine congrArg (Host.exp (F := Ideal) (φ := .f32)) ?_
  refine congrArg (fun z => shapeCast S2x8448x32x64 z shapeCasts_S2x8448x2048_S2x8448x32x64) (cat2 ?_ ?_)
  · after_reads_simp
  · after_reads_simp
    refine congrArg (fun z : Vec Ideal S8448x2048 .f32 => broadcastInDim S1x8448x2048 ![1, 2] bcast_S8448x2048_S1x8448x2048_1_2 z) (cat2 ?_ ?_)
    · after_reads_simp; rfl
    · after_reads_simp; rfl

set_option maxHeartbeats 4000000 in
theorem entry_k : entryContents preI m c (Proc.devRef .tc main_v63_2) = tm (dirs (m ((c : Thread nD τ).loc main_arg5)) (m ((c : Thread nD τ).loc main_arg6))) := by
  simp only [entryContents, afterL_cons, afterL_nil]; after_reads_simp
  unfold tm dirs back
  refine congrArg (fun z => transpose S8448x2x32x64 [1, 0, 2, 3] z transposes_S2x8448x32x64_S8448x2x32x64_1_0_2_3) ?_

  refine congrArg (fun z => shapeCast S2x8448x32x64 z shapeCasts_S2x8448x2048_S2x8448x32x64) (cat2 ?_ ?_)
  · after_reads_simp
  · after_reads_simp
    refine congrArg (fun z : Vec Ideal S8448x2048 .f32 => broadcastInDim S1x8448x2048 ![1, 2] bcast_S8448x2048_S1x8448x2048_1_2 z) (cat2 ?_ ?_)
    · after_reads_simp; rfl
    · after_reads_simp; rfl

set_option maxHeartbeats 4000000 in
theorem entry_v : entryContents preI m c (Proc.devRef .tc main_v63_3) = tm (dirs (m ((c : Thread nD τ).loc main_arg1)) (m ((c : Thread nD τ).loc main_arg1))) := by
  simp only [entryContents, afterL_cons, afterL_nil]; after_reads_simp
  unfold tm dirs back
  refine congrArg (fun z => transpose S8448x2x32x64 [1, 0, 2, 3] z transposes_S2x8448x32x64_S8448x2x32x64_1_0_2_3) ?_

  refine congrArg (fun z => shapeCast S2x8448x32x64 z shapeCasts_S2x8448x2048_S2x8448x32x64) (cat2 ?_ ?_)
  · after_reads_simp
  · after_reads_simp
    refine congrArg (fun z : Vec Ideal S8448x2048 .f32 => broadcastInDim S1x8448x2048 ![1, 2] bcast_S8448x2048_S1x8448x2048_1_2 z) (cat2 ?_ ?_)
    · after_reads_simp; rfl
    · after_reads_simp; rfl

set_option maxHeartbeats 4000000 in
theorem entry_a : entryContents preI m c (Proc.devRef .tc main_v63_4) = tm (dirs (m ((c : Thread nD τ).loc main_arg2)) (m ((c : Thread nD τ).loc main_arg2))) := by
  simp only [entryContents, afterL_cons, afterL_nil]; after_reads_simp
  unfold tm dirs back
  refine congrArg (fun z => transpose S8448x2x32x64 [1, 0, 2, 3] z transposes_S2x8448x32x64_S8448x2x32x64_1_0_2_3) ?_

  refine congrArg (fun z => shapeCast S2x8448x32x64 z shapeCasts_S2x8448x2048_S2x8448x32x64) (cat2 ?_ ?_)
  · after_reads_simp
  · after_reads_simp
    refine congrArg (fun z : Vec Ideal S8448x2048 .f32 => broadcastInDim S1x8448x2048 ![1, 2] bcast_S8448x2048_S1x8448x2048_1_2 z) (cat2 ?_ ?_)
    · after_reads_simp; rfl
    · after_reads_simp; rfl

set_option maxHeartbeats 4000000 in
theorem entry_b : entryContents preI m c (Proc.devRef .tc main_v63_5) = tm (dirs (m ((c : Thread nD τ).loc main_arg7)) (m ((c : Thread nD τ).loc main_arg8))) := by
  simp only [entryContents, afterL_cons, afterL_nil]; after_reads_simp
  unfold tm dirs back
  refine congrArg (fun z => transpose S8448x2x32x64 [1, 0, 2, 3] z transposes_S2x8448x32x64_S8448x2x32x64_1_0_2_3) ?_

  refine congrArg (fun z => shapeCast S2x8448x32x64 z shapeCasts_S2x8448x2048_S2x8448x32x64) (cat2 ?_ ?_)
  · after_reads_simp
  · after_reads_simp
    refine congrArg (fun z : Vec Ideal S8448x2048 .f32 => broadcastInDim S1x8448x2048 ![1, 2] bcast_S8448x2048_S1x8448x2048_1_2 z) (cat2 ?_ ?_)
    · after_reads_simp; rfl
    · after_reads_simp; rfl

set_option maxHeartbeats 4000000 in
theorem entry_s : entryContents preI m c (Proc.devRef .tc main_v63_7)
    = broadcastInDim S2x32x64x64 ![] bcast_S_S2x32x64x64 (constant (F := Ideal) S_ .f32 0x00000000#32) := by
  simp only [entryContents, afterL_cons, afterL_nil]; after_reads_simp
  rfl

end Cert.ReferenceIdeal.Scan
-- ==== Proof.RefScan.lean ====
module

public import proofs.«01_k».proof.Proof.RefEntry
public import Idealize.ShloMosaic.Lib.DynamicIndex

@[expose] public section
set_option maxRecDepth 16384
noncomputable section
open Idealize.ShloMosaic Idealize.ShloMosaic.TcCoe Idealize.SL.Sem Idealize.ShloMosaic.StableHlo
namespace Cert.ReferenceIdeal.Scan
open Cert.Rwkv Cert.ReferenceIdeal Cert.ReferenceIdeal.Gen Cert.ReferenceIdeal.Value
open Cert.KernelIdeal.Chunk (pkA hdW lnW rv sqF sqB)

variable (m : (ℓ : Loc nD τ sig) → Buf (Elt Idealize.ShloMosaic.Ideal) ℓ) (c : Dev nD)

/-! ## One row -/

/-- The counter's buffer's type. -/
abbrev Ctr := (⟨S_, .i32⟩ : BufTy).Contents (Elt Ideal)

/-- The loop's places: row `ct` of an array of rows. -/
abbrev at4 (ct : Ctr) : Fin 4 → Int := fun k => (((![ct, constantI S_ 32 0#32, constantI S_ 32 0#32, constantI S_ 32 0#32] : Fin 4 → (⟨S_, .i32⟩ : BufTy).Contents (Elt Ideal))) k (Shape.Idx.first h_S_)).toInt

/-- Row `ct`. -/
def rowAt (x : Vec Ideal S8448x2x32x64 .f32) (ct : Ctr) : Vec Ideal S2x32x64 .f32 :=
  shapeCast S2x32x64 (Host.dynamicSlice S1x2x32x64 x (at4 ct) sliceFits_S8448x2x32x64_S1x2x32x64) shapeCasts_S1x2x32x64_S2x32x64

/-- The counter before trip `k`. -/
def ctr (k : ℕ) : Ctr := fun _ => Scf.iv 0#32 1#32 k

theorem at4_ctr (k : ℕ) (hk : k < 8448) (a : Fin 4) : at4 (ctr k) a = (((![k, 0, 0, 0] : Fin 4 → ℕ) a : ℕ) : Int) := by
  match a with
  | ⟨0, _⟩ =>
    show (Scf.iv 0#32 1#32 k).toInt = (k : Int)
    have e : (Scf.iv 0#32 1#32 k).toNat = k := by
      simp only [Scf.iv, BitVec.zero_add, BitVec.mul_one, BitVec.one_mul, BitVec.toNat_ofNat]
      omega
    rw [BitVec.toInt_eq_toNat_of_lt (by rw [e]; omega), e]
  | ⟨1, _⟩ => rfl
  | ⟨2, _⟩ => rfl
  | ⟨3, _⟩ => rfl

theorem rowAt_apply (x : Vec Ideal S8448x2x32x64 .f32) (k : ℕ) (hk : k < 8448) (d : Fin 2) (H : Fin 32) (j : Fin 64) :
    rowAt x (ctr k) (ix3 d H j) = x (ix4 ⟨k, hk⟩ d H j) := by
  unfold rowAt
  rw [Host.dynamicSlice_eq_extractStridedSlice S1x2x32x64 x _ ![k, 0, 0, 0] _ ⟨rfl, fun a => by
      match a with
      | ⟨0, _⟩ => exact hk
      | ⟨1, _⟩ => exact (by decide : 0 + 2 ≤ 2)
      | ⟨2, _⟩ => exact (by decide : 0 + 32 ≤ 32)
      | ⟨3, _⟩ => exact (by decide : 0 + 64 ≤ 64)⟩ (at4_ctr k hk)]
  rw [shapeCast_apply _ _ (ix3 d H j) (ix4 (0 : Fin 1) d H j) (by
    rw [Shape.rowMajor_val_three, Shape.rowMajor_val_four]
    show ((0 * 2 + d.val) * 32 + H.val) * 64 + j.val = (d.val * 32 + H.val) * 64 + j.val
    omega)]
  pointwise

/-- A row written. -/
def setRow (y : Vec Ideal S8448x2x32x64 .f32) (ct : Ctr) (o : Vec Ideal S2x32x64 .f32) : Vec Ideal S8448x2x32x64 .f32 :=
  Host.dynamicUpdateSlice y (broadcastInDim S1x2x32x64 ![1, 2, 3] bcast_S2x32x64_S1x2x32x64_1_2_3 o) (at4 ct) updateFits_S8448x2x32x64_S1x2x32x64

theorem setRow_apply (y : Vec Ideal S8448x2x32x64 .f32) (k : ℕ) (hk : k < 8448) (o : Vec Ideal S2x32x64 .f32)
    (n : Fin 8448) (d : Fin 2) (H : Fin 32) (j : Fin 64) :
    setRow y (ctr k) o (ix4 n d H j) = if n.val = k then o (ix3 d H j) else y (ix4 n d H j) := by
  unfold setRow
  have hc (a : Fin 4) : Host.clampedStart S8448x2x32x64 S1x2x32x64 rfl (at4 (ctr k)) a = (![k, 0, 0, 0] : Fin 4 → ℕ) a :=
    Host.clampedStart_of_le (s := S8448x2x32x64) (t := S1x2x32x64) rfl (at4 (ctr k)) a ((![k, 0, 0, 0] : Fin 4 → ℕ) a) (at4_ctr k hk a) (by
      match a with
      | ⟨0, _⟩ => exact hk
      | ⟨1, _⟩ => exact (by decide : 0 + 2 ≤ 2)
      | ⟨2, _⟩ => exact (by decide : 0 + 32 ≤ 32)
      | ⟨3, _⟩ => exact (by decide : 0 + 64 ≤ 64))
  rw [Host.dynamicUpdateSlice_apply]
  by_cases h : n.val = k
  · rw [dif_pos, if_pos h]
    · pointwise
      simp only [hc]
      rfl
    · intro a
      rw [hc a]
      match a with
      | ⟨0, _⟩ => exact ⟨le_of_eq h.symm, by show n.val < k + 1; omega⟩
      | ⟨1, _⟩ => exact ⟨Nat.zero_le _, by show d.val < 0 + 2; omega⟩
      | ⟨2, _⟩ => exact ⟨Nat.zero_le _, by show H.val < 0 + 32; omega⟩
      | ⟨3, _⟩ => exact ⟨Nat.zero_le _, by show j.val < 0 + 64; omega⟩
  · rw [dif_neg, if_neg h]
    intro hh
    have := hh 0
    rw [hc 0] at this
    have h1 : k ≤ n.val := this.1
    have h2 : n.val < k + 1 := this.2
    omega

/-- A row spread along the states' rows. -/
def alongJ (x : Vec Ideal S2x32x64 .f32) : Vec Ideal S2x32x64x64 .f32 :=
  broadcastInDim S2x32x64x64 ![0, 1, 2, 3] bcast_S2x32x1x64_S2x32x64x64_0_1_2_3 (broadcastInDim S2x32x1x64 ![0, 1, 3] bcast_S2x32x64_S2x32x1x64_0_1_3 x)

/-- A row spread along the states' columns. -/
def alongI (x : Vec Ideal S2x32x64 .f32) : Vec Ideal S2x32x64x64 .f32 :=
  broadcastInDim S2x32x64x64 ![0, 1, 2, 3] bcast_S2x32x64x1_S2x32x64x64_0_1_2_3 (broadcastInDim S2x32x64x1 ![0, 1, 2] bcast_S2x32x64_S2x32x64x1_0_1_2 x)

/-- Every state times its row. -/
def outs (S : Vec Ideal S2x32x64x64 .f32) (x : Vec Ideal S2x32x64 .f32) : Vec Ideal S2x32x64 .f32 :=
  Host.dotGeneral (F := Ideal) (φ₁ := .f32) (φ₂ := .f32) dot_S2x32x64x64_S2x32x64_S2x32x64_3_2_2_n_01_01 none S x

/-- One step of all states. -/
def stepA (S : Vec Ideal S2x32x64x64 .f32) (w a b k v : Vec Ideal S2x32x64 .f32) : Vec Ideal S2x32x64x64 .f32 :=
  addf (F := Ideal) (φ := .f32) (addf (mulf S (alongJ w)) (mulf (alongI (outs S a)) (alongJ b))) (mulf (alongI v) (alongJ k))

theorem alongJ_apply (x) (d : Fin 2) (H : Fin 32) (i j : Fin 64) : alongJ x (ix4 d H i j) = x (ix3 d H j) := by
  unfold alongJ; pointwise
theorem alongI_apply (x) (d : Fin 2) (H : Fin 32) (i j : Fin 64) : alongI x (ix4 d H i j) = x (ix3 d H i) := by
  unfold alongI; pointwise
theorem outs_apply (S x) (d : Fin 2) (H : Fin 32) (i : Fin 64) :
    outs S x (ix3 d H i) = ∑ j : Fin 64, S (ix4 d H i j) * x (ix3 d H j) := by
  unfold outs; pointwise

/-- An array of rows holds the numbers `X`. -/
def Holds3 (x : Vec Ideal S2x32x64 .f32) (X : Fin 2 → Fin 32 → Fin 64 → ℝ) : Prop := ∀ d H j, x (ix3 d H j) = ((X d H j : ℝ) : EReal)
/-- The states hold the numbers `X`. -/
def Holds4 (S : Vec Ideal S2x32x64x64 .f32) (X : Fin 2 → Fin 32 → M) : Prop := ∀ d H i j, S (ix4 d H i j) = ((X d H i j : ℝ) : EReal)

theorem outs_holds {S x X Y} (hS : Holds4 S X) (hx : Holds3 x Y) : Holds3 (outs S x) (fun d H => outY (X d H) (Y d H)) := fun d H i => by
  rw [outs_apply]
  show _ = ((∑ j, X d H i j * Y d H j : ℝ) : EReal)
  rw [Cert.KernelIdeal.Chunk.coe_sum]
  exact Finset.sum_congr rfl fun j _ => by rw [hS, hx, EReal.coe_mul]

theorem stepA_holds {S w a b k v X} {W A B K V : Fin 2 → Fin 32 → Fin 64 → ℝ} (hS : Holds4 S X) (hw : Holds3 w (fun d H j => Real.exp (W d H j))) (ha : Holds3 a A)
    (hb : Holds3 b B) (hk : Holds3 k K) (hv : Holds3 v V) :
    Holds4 (stepA S w a b k v) (fun d H => stepS (X d H) (W d H) (A d H) (B d H) (K d H) (V d H)) := fun d H i j => by
  have e : stepA S w a b k v (ix4 d H i j) = S (ix4 d H i j) * alongJ w (ix4 d H i j)
      + alongI (outs S a) (ix4 d H i j) * alongJ b (ix4 d H i j) + alongI v (ix4 d H i j) * alongJ k (ix4 d H i j) := by unfold stepA; pointwise
  rw [e]
  simp only [alongJ_apply, alongI_apply]
  rw [hS, hw, outs_holds hS ha, hb, hv, hk]
  simp only [← EReal.coe_mul, ← EReal.coe_add]
  rfl

/-! ## The loop -/

/-- A whole carried array holds the sequences `X`. -/
def HoldsAll (x : Vec Ideal S8448x2x32x64 .f32) (X : Fin 2 → Fin 32 → ℕ → Fin 64 → ℝ) : Prop :=
  ∀ (n : Fin 8448) d H j, x (ix4 n d H j) = ((X d H n.val j : ℝ) : EReal)

theorem HoldsAll.row {x X} (h : HoldsAll x X) (k : ℕ) (hk : k < 8448) : Holds3 (rowAt x (ctr k)) (fun d H => X d H k) :=
  fun d H j => by rw [rowAt_apply x k hk]; exact h _ d H j

variable (R W A B K V : Fin 2 → Fin 32 → ℕ → Fin 64 → ℝ)

/-- What holds before trip `k`. -/
structure Inv (C : Valuation τ sig (Elt Idealize.ShloMosaic.Ideal)) (k : ℕ) : Prop where
  hr : HoldsAll (C (Proc.devRef .tc main_v63_0)) R
  hw : HoldsAll (C (Proc.devRef .tc main_v63_1)) (fun d H n j => Real.exp (W d H n j))
  hk : HoldsAll (C (Proc.devRef .tc main_v63_2)) K
  hv : HoldsAll (C (Proc.devRef .tc main_v63_3)) V
  ha : HoldsAll (C (Proc.devRef .tc main_v63_4)) A
  hb : HoldsAll (C (Proc.devRef .tc main_v63_5)) B
  hc : C (Proc.devRef .tc main_v63_6) = ctr k
  hs : Holds4 (C (Proc.devRef .tc main_v63_7)) (fun d H => stAt (W d H) (A d H) (B d H) (K d H) (V d H) k)
  hy : ∀ (n : Fin 8448) d H j, n.val < k → (C (Proc.devRef .tc main_v63_8) : Vec Ideal S8448x2x32x64 .f32) (ix4 n d H j)
    = ((yAt (R d H) (W d H) (A d H) (B d H) (K d H) (V d H) n.val j : ℝ) : EReal)

theorem state_eq (C : Valuation τ sig (Elt Idealize.ShloMosaic.Ideal)) : res_main_while0b_v99 C = stepA (C (Proc.devRef .tc main_v63_7))
    (rowAt (C (Proc.devRef .tc main_v63_1)) (C (Proc.devRef .tc main_v63_6))) (rowAt (C (Proc.devRef .tc main_v63_4)) (C (Proc.devRef .tc main_v63_6)))
    (rowAt (C (Proc.devRef .tc main_v63_5)) (C (Proc.devRef .tc main_v63_6))) (rowAt (C (Proc.devRef .tc main_v63_2)) (C (Proc.devRef .tc main_v63_6)))
    (rowAt (C (Proc.devRef .tc main_v63_3)) (C (Proc.devRef .tc main_v63_6))) := by
  unfold res_main_while0b_v99 stepA alongJ alongI outs rowAt at4
  rfl

theorem out_eq (C : Valuation τ sig (Elt Idealize.ShloMosaic.Ideal)) : step_main_v63_8 C = setRow (C (Proc.devRef .tc main_v63_8))
    (C (Proc.devRef .tc main_v63_6)) (outs (res_main_while0b_v99 C) (rowAt (C (Proc.devRef .tc main_v63_0)) (C (Proc.devRef .tc main_v63_6)))) := by
  unfold step_main_v63_8 setRow outs rowAt at4
  rw [id_eq]
  rfl

theorem Inv.step {C : Valuation τ sig (Elt Idealize.ShloMosaic.Ideal)} {k : ℕ} (h : Inv R W A B K V C k) (hk : k < 8448) : Inv R W A B K V (STEP C) (k + 1) := by
  have hs : Holds4 (res_main_while0b_v99 C) (fun d H => stAt (W d H) (A d H) (B d H) (K d H) (V d H) (k + 1)) := by
    rw [state_eq, h.hc]
    exact stepA_holds h.hs (h.hw.row k hk) (h.ha.row k hk) (h.hb.row k hk) (h.hk.row k hk) (h.hv.row k hk)
  refine ⟨?_, ?_, ?_, ?_, ?_, ?_, ?_, ?_, ?_⟩
  · rw [STEP_main_v63_0]; exact h.hr
  · rw [STEP_main_v63_1]; exact h.hw
  · rw [STEP_main_v63_2]; exact h.hk
  · rw [STEP_main_v63_3]; exact h.hv
  · rw [STEP_main_v63_4]; exact h.ha
  · rw [STEP_main_v63_5]; exact h.hb
  · rw [STEP_main_v63_6]
    show addi (C (Proc.devRef .tc main_v63_6)) (constantI S_ 32 1#32) = ctr (k + 1)
    rw [h.hc]
    unfold ctr
    rw [Scf.iv_succ]
    rfl
  · rw [STEP_main_v63_7]; exact hs
  · intro n d H j hn
    rw [STEP_main_v63_8, out_eq, h.hc, setRow_apply _ k hk]
    split
    · next e => rw [e]; exact outs_holds hs (h.hr.row k hk) d H j
    · next e => exact h.hy n d H j (by omega)

theorem Inv.iter {C : Valuation τ sig (Elt Idealize.ShloMosaic.Ideal)} (h : Inv R W A B K V C 0) : ∀ k, k ≤ 8448 → Inv R W A B K V (STEP^[k] C) k
  | 0, _ => h
  | k + 1, hk => by
    rw [Function.iterate_succ_apply']
    exact (Inv.iter h k (by omega)).step R W A B K V (by omega)

/-! ## Entry and results -/

/-- One direction's sequence of one head. -/
def sq (X Y : ℕ → Fin 32 → Fin 64 → ℝ) (d : Fin 2) (H : Fin 32) : ℕ → Fin 64 → ℝ := if d = 0 then sqF X H else sqB Y H

theorem tm_apply (x : Vec Ideal S2x8448x32x64 .f32) (n : Fin 8448) (d : Fin 2) (H : Fin 32) (j : Fin 64) :
    tm x (ix4 n d H j) = x (ix4 d n H j) := by
  unfold tm; pointwise

theorem hexp_apply (x : Vec Ideal S2x8448x32x64 .f32) (n : Fin 8448) (d : Fin 2) (H : Fin 32) (j : Fin 64) :
    Host.exp (F := Ideal) (φ := .f32) x (ix4 d n H j) = Ideal.exp (x (ix4 d n H j)) := by
  pointwise

theorem dirs_sq (X Y : ℕ → Fin 32 → Fin 64 → ℝ) (d : Fin 2) (n : Fin 8448) (H : Fin 32) (j : Fin 64) :
    dirs (pkA X) (pkA Y) (ix4 d n H j) = ((sq X Y d H n.val j : ℝ) : EReal) := by
  refine (dirs_pk X Y d n H j).trans (congrArg (fun z : ℝ => (z : EReal)) ?_)
  unfold sq sqF sqB
  split
  · rfl
  · rfl

theorem tm_dirs (X Y : ℕ → Fin 32 → Fin 64 → ℝ) : HoldsAll (tm (dirs (pkA X) (pkA Y))) (sq X Y) :=
  fun n d H j => (tm_apply _ n d H j).trans (dirs_sq X Y d n H j)

theorem tm_exp (X Y : ℕ → Fin 32 → Fin 64 → ℝ) : HoldsAll (tm (Host.exp (F := Ideal) (φ := .f32) (dirs (pkA X) (pkA Y))))
    (fun d H n j => Real.exp (sq X Y d H n j)) :=
  fun n d H j => (tm_apply _ n d H j).trans ((hexp_apply _ n d H j).trans
    ((congrArg Ideal.exp (dirs_sq X Y d n H j)).trans (Ideal.exp_coe _)))

/-- A direction's results, rows again. -/
def dirOut (y : Vec Ideal S8448x2x32x64 .f32) : Vec Ideal S2x8448x2048 .f32 :=
  shapeCast S2x8448x2048 (transpose S2x8448x32x64 [1, 0, 2, 3] y transposes_S8448x2x32x64_S2x8448x32x64_1_0_2_3) shapeCasts_S2x8448x32x64_S2x8448x2048

theorem dirOut_apply (y) (d : Fin 2) (n : Fin 8448) (l : Fin 2048) : dirOut y (ix3 d n l) = y (ix4 n d (hdW l) (lnW l)) := by
  unfold dirOut
  rw [shapeCast_apply _ _ (ix3 d n l) (ix4 d n (hdW l) (lnW l)) (by
    rw [Shape.rowMajor_val_three, Shape.rowMajor_val_four]
    show ((d.val * 8448 + n.val) * 32 + l.val / 64) * 64 + l.val % 64 = (d.val * 8448 + n.val) * 2048 + l.val
    omega)]
  pointwise

theorem drop_unit (x : Vec Ideal S1x8448x2048 .f32) (h) (n : Fin 8448) (l : Fin 2048) :
    shapeCast S8448x2048 x h (ix2 n l) = x (ix3 (0 : Fin 1) n l) :=
  shapeCast_apply _ _ (ix2 n l) (ix3 (0 : Fin 1) n l) (by
    rw [Shape.rowMajor_val_three, Shape.rowMajor_val_two]
    show (0 * 8448 + n.val) * 2048 + l.val = n.val * 2048 + l.val
    omega)

section Results
variable {R W A B K V}

/-- What the array of results of direction `d` holds. -/
def yD (R W A B K V : Fin 2 → Fin 32 → ℕ → Fin 64 → ℝ) (d : Fin 2) : ℕ → Fin 32 → Fin 64 → ℝ :=
  fun n H => yAt (R d H) (W d H) (A d H) (B d H) (K d H) (V d H) n

theorem res_fwd {C : Valuation τ sig (Elt Idealize.ShloMosaic.Ideal)} (h : Inv R W A B K V C 8448) : out_main_v67 C = pkA (yD R W A B K V 0) := by
  funext i
  obtain ⟨n, l, rfl⟩ : ∃ n l, i = ix2 n l := ⟨i 0, i 1, (eq_ix2 i)⟩
  refine (drop_unit _ _ n l).trans ?_
  have e : extractStridedSlice S1x8448x2048 ![0, 0, 0] (dirOut (C (Proc.devRef .tc main_v63_8))) slices_S2x8448x2048_S1x8448x2048_0_0_0 (ix3 (0 : Fin 1) n l)
      = dirOut (C (Proc.devRef .tc main_v63_8)) (ix3 (0 : Fin 2) n l) := by pointwise
  refine e.trans ?_
  rw [dirOut_apply]
  exact h.hy n 0 (hdW l) (lnW l) n.isLt

theorem res_bwd {C : Valuation τ sig (Elt Idealize.ShloMosaic.Ideal)} (h : Inv R W A B K V C 8448) :
    out_main_v74 C = pkA (fun n => yD R W A B K V 1 (rv n)) := by
  have e1 : shapeCast S8448x2048 (extractStridedSlice S1x8448x2048 ![1, 0, 0] (dirOut (C (Proc.devRef .tc main_v63_8))) slices_S2x8448x2048_S1x8448x2048_1_0_0)
      shapeCasts_S1x8448x2048_S8448x2048 = pkA (yD R W A B K V 1) := by
    funext i
    obtain ⟨n, l, rfl⟩ : ∃ n l, i = ix2 n l := ⟨i 0, i 1, (eq_ix2 i)⟩
    refine (drop_unit _ _ n l).trans ?_
    have e : extractStridedSlice S1x8448x2048 ![1, 0, 0] (dirOut (C (Proc.devRef .tc main_v63_8))) slices_S2x8448x2048_S1x8448x2048_1_0_0 (ix3 (0 : Fin 1) n l)
        = dirOut (C (Proc.devRef .tc main_v63_8)) (ix3 (1 : Fin 2) n l) := by pointwise
    refine e.trans ?_
    rw [dirOut_apply]
    exact h.hy n 1 (hdW l) (lnW l) n.isLt
  rw [← back_pk, ← e1]
  rfl

end Results

section Entry
variable (r v a lw0 lw1 k0 k1 b0 b1 : ℕ → Fin 32 → Fin 64 → ℝ)

theorem entry_inv (hr : m ((c : Thread nD τ).loc main_arg0) = pkA r) (hv : m ((c : Thread nD τ).loc main_arg1) = pkA v)
    (ha : m ((c : Thread nD τ).loc main_arg2) = pkA a) (hlw0 : m ((c : Thread nD τ).loc main_arg3) = pkA lw0)
    (hlw1 : m ((c : Thread nD τ).loc main_arg4) = pkA lw1) (hk0 : m ((c : Thread nD τ).loc main_arg5) = pkA k0)
    (hk1 : m ((c : Thread nD τ).loc main_arg6) = pkA k1) (hb0 : m ((c : Thread nD τ).loc main_arg7) = pkA b0)
    (hb1 : m ((c : Thread nD τ).loc main_arg8) = pkA b1) :
    Inv (sq r r) (sq lw0 lw1) (sq a a) (sq b0 b1) (sq k0 k1) (sq v v) (entryContents preI m c) 0 where
  hr := by rw [entry_r, hr]; exact tm_dirs r r
  hw := by rw [entry_w, hlw0, hlw1]; exact tm_exp lw0 lw1
  hk := by rw [entry_k, hk0, hk1]; exact tm_dirs k0 k1
  hv := by rw [entry_v, hv]; exact tm_dirs v v
  ha := by rw [entry_a, ha]; exact tm_dirs a a
  hb := by rw [entry_b, hb0, hb1]; exact tm_dirs b0 b1
  hc := ctr_entry m c
  hs := fun d H i j => by
    rw [entry_s]
    exact Ideal.ofBits_zero_f32
  hy := fun n d H j h => absurd h (Nat.not_lt_zero _)
end Entry
end Cert.ReferenceIdeal.Scan
-- ==== Proof.ScanClaim.lean ====
module

public import proofs.«01_k».proof.Proof.RefScan
public import proofs.«01_k».proof.Proof.Gen.Pre_finite
public import proofs.«01_k».proof.Proof.Gen.Kernel.Frame
public import proofs.«01_k».proof.Proof.Gen.KernelIdeal.Frame
public import proofs.«01_k».proof.Defs
public import Idealize.ShloMosaic.Lib.ReduceAll
public import Idealize.ShloMosaic.Lib.Quiescent

/-!
# The scan's claims

A finite argument is an array of real numbers, and on real numbers the kernel's result arrays and the reference's are the
recurrence's outputs; the cast arrays are casts of the same columns.
-/

@[expose] public section

set_option maxRecDepth 16384

noncomputable section

open Idealize.ShloMosaic Idealize.ShloMosaic.TcCoe Idealize.SL.Sem Idealize.ShloMosaic.StableHlo

namespace Cert.Scan

open Cert.Rwkv Cert.KernelIdeal.Chunk Cert.ReferenceIdeal.Scan

/-- The shape of the scan's arguments. -/
abbrev S : Shape := ⟨2, ![8448, 2048]⟩

/-- The real numbers of a finite array, by row, head and lane. -/
def re (x : Vec Ideal S .f32) : ℕ → Fin 32 → Fin 64 → ℝ := fun n H j =>
  if h : n < 8448 then (x (ix2 ⟨n, h⟩ (⟨64 * H.val + j.val, by omega⟩ : Fin 2048)) : EReal).toReal else 0

theorem pkA_re (x : Vec Ideal S .f32) (hx : ∀ i, ∃ a : ℝ, x i = (a : EReal)) : x = pkA (re x) := by
  funext i
  obtain ⟨n, l, rfl⟩ : ∃ n l, i = ix2 n l := ⟨i 0, i 1, (eq_ix2 i)⟩
  have hl : (⟨64 * (hdW l).val + (lnW l).val, by omega⟩ : Fin 2048) = l := Fin.ext (by
    show 64 * (l.val / 64) + l.val % 64 = l.val
    omega)
  have e : pkA (re x) (ix2 n l) = (((x (ix2 n l) : EReal).toReal : ℝ) : EReal) := by
    show ((re x n.val (hdW l) (lnW l) : ℝ) : EReal) = _
    unfold re
    rw [dif_pos n.isLt, hl]
  rw [e]
  obtain ⟨a, ha⟩ := hx (ix2 n l)
  rw [ha, EReal.toReal_coe]

/-! ## The precondition -/

open Cert.Pre_finite Cert.Pre_finite.Facts in
/-- All entries of an array are finite, as the precondition says it. -/
def allFin (x : FVec Ideal S .f32) : IVec S_ 1 :=
  Host.reduce IntOp.andi (cmpf .olt (Host.absf x) (broadcastInDim S8448x2048 ![] bcast_S_S8448x2048 (constant S_ .f32 0x7F800000#32)))
    (constantI S_ 1 1#1) reducesTo_S8448x2048_S_d0_1 h_S_

theorem olt_inf (x : EReal) (h : Ideal.cmp .olt (max x (-x)) (Ideal.ofBits .f32 0x7F800000#32) = 1#1) : ∃ a : ℝ, x = (a : EReal) := by
  have htop : Ideal.ofBits .f32 0x7F800000#32 = ⊤ := by simp [Ideal.ofBits, Ideal.ieee]
  rw [htop] at h
  induction x using EReal.rec with
  | bot => simp [Ideal.cmp] at h
  | top => simp [Ideal.cmp] at h
  | coe a => exact ⟨a, rfl⟩

instance : Subsingleton Cert.Pre_finite.S_.Idx := ⟨fun a b => funext fun k => k.elim0⟩

theorem allFin_real (x : FVec Ideal S .f32) (j) (h : allFin x j = 1#1) (i : S.Idx) : ∃ a : ℝ, x i = (a : EReal) :=
  olt_inf (x i) (Host.reduce_andi_all _ _ _ _ j h i)

theorem andi_split {a b : IVec Cert.Pre_finite.S_ 1} {j} (h : andi a b j = 1#1) : a j = 1#1 ∧ b j = 1#1 := IntOp.andi_eq_one.1 h

/-- What the precondition says of the arguments. -/
theorem pre_split (x0 x1 x2 x3 x4 x5 x6 x7 x8 : FVec Ideal S .f32) (x9 x10) (h : Cert.Pre_finite.fn (F := Ideal) x0 x1 x2 x3 x4 x5 x6 x7 x8 x9 x10 = fun _ => 1#1) :
    x0 = pkA (re x0) ∧ x1 = pkA (re x1) ∧ x2 = pkA (re x2) ∧ x3 = pkA (re x3) ∧ x4 = pkA (re x4) ∧ x5 = pkA (re x5)
      ∧ x6 = pkA (re x6) ∧ x7 = pkA (re x7) ∧ x8 = pkA (re x8) := by
  have e : Cert.Pre_finite.fn (F := Ideal) x0 x1 x2 x3 x4 x5 x6 x7 x8 x9 x10 = andi (andi (andi (andi (andi (andi (andi (andi (allFin x0) (allFin x1))
      (allFin x2)) (allFin x3)) (allFin x4)) (allFin x5)) (allFin x6)) (allFin x7)) (allFin x8) := rfl
  have h := congrFun (e.symm.trans h) (Shape.Idx.first Cert.Pre_finite.Facts.h_S_)
  obtain ⟨h, h8⟩ := andi_split h
  obtain ⟨h, h7⟩ := andi_split h
  obtain ⟨h, h6⟩ := andi_split h
  obtain ⟨h, h5⟩ := andi_split h
  obtain ⟨h, h4⟩ := andi_split h
  obtain ⟨h, h3⟩ := andi_split h
  obtain ⟨h, h2⟩ := andi_split h
  obtain ⟨h0, h1⟩ := andi_split h
  exact ⟨pkA_re _ (allFin_real _ _ h0), pkA_re _ (allFin_real _ _ h1), pkA_re _ (allFin_real _ _ h2), pkA_re _ (allFin_real _ _ h3),
    pkA_re _ (allFin_real _ _ h4), pkA_re _ (allFin_real _ _ h5), pkA_re _ (allFin_real _ _ h6), pkA_re _ (allFin_real _ _ h7),
    pkA_re _ (allFin_real _ _ h8)⟩

/-! ## The claims -/

theorem frame_kernel : Cert.quiescent_Kernel := fun m ρ _ => Cert.Kernel.Gen.frame (F := Bits) m ρ
theorem frame_ideal : Cert.quiescent_KernelIdeal := fun m ρ _ => Cert.KernelIdeal.Gen.frame (F := Ideal) m ρ
theorem frame_ideal_pre : Cert.quiescent_KernelIdeal_pre_finite := fun m ρ _ => Cert.KernelIdeal.Gen.frame (F := Ideal) m ρ
theorem frame_ref : Cert.quiescent_ReferenceIdeal := fun m ρ _ =>
  (θ_run Cert.ReferenceIdeal.defs _ _).mono (fun r h => ⟨fun c => (h c).2.2.2.2, sem_eq_zero_of_no_sems (by decide) r.2⟩)
    (Cert.ReferenceIdeal.Value.run (F := Ideal) m ρ)
theorem frame_ref_pre : Cert.quiescent_ReferenceIdeal_pre_finite := fun m ρ _ => frame_ref m ρ trivial

theorem same : Cert.algebraic_KernelIdeal_ReferenceIdeal_pre_finite := by
  intro m g m' g' hpre hag
  refine ⟨_, _, _, _, Cert.KernelIdeal.Value.run_blocks (F := Ideal) m g, (θ_run Cert.ReferenceIdeal.defs _ _).mono (fun r h c => ?_) (Cert.ReferenceIdeal.Value.run (F := Ideal) m' g')⟩
  obtain ⟨p0, p1, p2, p3, p4, p5, p6, p7, p8⟩ := pre_split _ _ _ _ _ _ _ _ _ _ _ (hpre c)
  obtain ⟨q0, q1, q2, q3, q4, q5, q6, q7, q8, q9, q10⟩ := hag c
  have hI := (entry_inv m' c _ _ _ _ _ _ _ _ _ (q0.trans p0) (q1.trans p1) (q2.trans p2) (q3.trans p3) (q4.trans p4)
    (q5.trans p5) (q6.trans p6) (q7.trans p7) (q8.trans p8)).iter _ _ _ _ _ _ 8448 (le_refl _)
  obtain ⟨o0, o1, o2, o3, keep⟩ := h c
  refine ⟨?_, ?_, ?_, ?_, keep⟩
  · rw [o0, res_fwd hI, Cert.KernelIdeal.Chunk.final_F m c _ _ _ _ _ _ _ _ _ p0 p1 p2 p3 p4 p5 p6 p7 p8]
    rfl
  · rw [o1, res_bwd hI, Cert.KernelIdeal.Chunk.final_B m c _ _ _ _ _ _ _ _ _ p0 p1 p2 p3 p4 p5 p6 p7 p8]
    rfl
  · rw [o2, Cert.KernelIdeal.Chunk.final_C m c _ _ _ _ _ _ _ _ _ p0 p1 p2 p3 p4 p5 p6 p7 p8 Cert.ReferenceIdeal.Gen.slices_S4096x17024_S4096x10240_0_6784]
    unfold Cert.ReferenceIdeal.Value.out_main_v76
    rw [Cert.ReferenceIdeal.Value.iter_main_arg9, q9]
  · rw [o3, Cert.KernelIdeal.Chunk.final_D m c _ _ _ _ _ _ _ _ _ p0 p1 p2 p3 p4 p5 p6 p7 p8]
    unfold Cert.ReferenceIdeal.Value.out_main_v77
    rw [Cert.ReferenceIdeal.Value.iter_main_arg10, q10]

end Cert.Scan
-- ==== Proof.Mm.lean ====
module

public import proofs.«01_k».proof.Proof.ScanClaim
public import Idealize.ShloMosaic.Lib.Pointwise
public import Idealize.ShloMosaic.Lib.ValueIdx
public import Idealize.ShloMosaic.Lib.Quiescent
public import Idealize.ShloMosaic.Lib.Pipeline.ReadBack
public import Idealize.ShloMosaic.Lib.Pipeline.ValueKit.Geometry
public import proofs.«01_k».proof.Defs
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Kernel5.Frame
public import proofs.«01_k».proof.Proof.Gen.Kernel5Ideal.Value
public import proofs.«01_k».proof.Proof.Gen.Reference5Ideal.Run

/-!
# The products of the layer

A point of each call multiplies a block of rows by a block of columns over the whole inner axis.
-/

@[expose] public section

set_option maxRecDepth 16384

noncomputable section

open Idealize.ShloMosaic Idealize.ShloMosaic.TcCoe Idealize.SL.Sem Idealize.ShloMosaic.StableHlo

namespace Cert.Mm

/-- The product of two arrays over the extended reals. -/
def prod {M K N : ℕ} (x : (⟨2, ![M, K]⟩ : Shape).Idx → EReal) (w : (⟨2, ![K, N]⟩ : Shape).Idx → EReal) (i : Fin M) (j : Fin N) : EReal :=
  ∑ k : Fin K, x (ix2 i k) * w (ix2 k j)

/-- A block of rows times a block of columns is the block of the product. -/
theorem prod_block {M K N tm tn : ℕ} (X : (⟨2, ![M, K]⟩ : Shape).Idx → EReal) (W : (⟨2, ![K, N]⟩ : Shape).Idx → EReal)
    (x : (⟨2, ![tm, K]⟩ : Shape).Idx → EReal) (w : (⟨2, ![K, tn]⟩ : Shape).Idx → EReal) (p : Fin tm) (q : Fin tn) (i : Fin M) (j : Fin N)
    (hx : ∀ k, x (ix2 p k) = X (ix2 i k)) (hw : ∀ k, w (ix2 k q) = W (ix2 k j)) :
    prod x w p q = prod X W i j :=
  Finset.sum_congr rfl fun k _ => by rw [hx, hw]

theorem at_ix2 {M N : ℕ} (X : (⟨2, ![M, N]⟩ : Shape).Idx → EReal) (y : (⟨2, ![M, N]⟩ : Shape).Idx) (i : Fin M) (j : Fin N)
    (h0 : (y 0).val = i.val) (h1 : (y 1).val = j.val) : X y = X (ix2 i j) :=
  congrArg X (funext fun a => Fin.ext (match a with
    | ⟨0, _⟩ => h0
    | ⟨1, _⟩ => h1))

/-- The square of the positive part. -/
def relu2 (x : EReal) : EReal := max x 0 * max x 0

end Cert.Mm

theorem Cert.Mm.zero2 : (![0, 0] : Fin 2 → ℕ) = fun _ => 0 := by
  funext a
  fin_cases a <;> rfl

/-! ## The up projection of the MLP, with its squared positive part -/

namespace Cert.Mm.Call2

open Cert.Mm Cert.Kernel2Ideal Cert.Kernel2Ideal.Gen

theorem pay (x : Vec Ideal S1024x4096 .bf16) (w : Vec Ideal S4096x1024 .bf16) (p : Fin 1024) (q : Fin 1024) :
    k0_pay1 (F := Ideal) x w (ix2 p q) = relu2 (prod x w p q) := by
  have h : k0_pay1 (F := Ideal) x w (ix2 p q) = relu2 (0 + prod x w p q) := by
    unfold relu2 prod
    pointwise [k0_pay1]
  rw [h, zero_add]

/-- The rows and columns that a point reads are those that it writes. -/
theorem idx : ∀ t : Fin cfg0.N, win0_0.index t 0 = win0_2.index t 0 ∧ win0_0.index t 1 = 0 ∧ win0_1.index t 0 = 0 ∧ win0_1.index t 1 = win0_2.index t 1 :=
  (by decide +kernel : ∀ t : Fin grid0.N, win0_0.index t 0 = win0_2.index t 0 ∧ win0_0.index t 1 = 0 ∧ win0_1.index t 0 = 0 ∧ win0_1.index t 1 = win0_2.index t 1)

variable (m : (ℓ : Loc nD τ sig) → Buf (Elt Ideal) ℓ) (c : Dev nD)

theorem iblk0 (t : Fin cfg0.N) (p : Fin 1024) (k : Fin 4096) (i : Fin 8192) (h : i.val = win0_2.index t 0 * 1024 + p.val) :
    (iblk m c 0 t : Vec Ideal S1024x4096 .bf16) (ix2 p k) = (m ((c : Thread nD τ).loc main_arg0) : Vec Ideal S8192x4096 .bf16) (ix2 i k) := by
  blk_simp [iblk]
  exact at_ix2 _ _ i k (Eq.trans (b := win0_0.index t 0 * 1024 + 1 * p.val) rfl (by rw [(idx t).1]; omega))
    (Eq.trans (b := win0_0.index t 1 * 4096 + 1 * k.val) rfl (by rw [(idx t).2.1]; omega))

theorem iblk1 (t : Fin cfg0.N) (k : Fin 4096) (q : Fin 1024) (j : Fin 16384) (h : j.val = win0_2.index t 1 * 1024 + q.val) :
    (iblk m c 1 t : Vec Ideal S4096x1024 .bf16) (ix2 k q) = (m ((c : Thread nD τ).loc main_arg1) : Vec Ideal S4096x16384 .bf16) (ix2 k j) := by
  blk_simp [iblk]
  exact at_ix2 _ _ k j (Eq.trans (b := win0_1.index t 0 * 4096 + 1 * k.val) rfl (by rw [(idx t).2.2.1]; omega))
    (Eq.trans (b := win0_1.index t 1 * 1024 + 1 * q.val) rfl (by rw [(idx t).2.2.2]; omega))

/-- The kernel's result is the product through the activation. -/
theorem final : (dats m 0 c).arrAt 2 cfg0.N = (fun i : S8192x16384.Idx =>
    relu2 (prod (m ((c : Thread nD τ).loc main_arg0) : Vec Ideal S8192x4096 .bf16) (m ((c : Thread nD τ).loc main_arg1) : Vec Ideal S4096x16384 .bf16) (i 0) (i 1))) := by
  refine (dats m 0 c).arrAt_eq_of_covers 2 _ (by decide +kernel) fun t hf y => ?_
  rw [after0_2]
  blk_simp
  unfold out0_2
  rw [View.canon_unit_zero zero2, View.ld_unit_zero (S := S1024x4096) zero2, View.ld_unit_zero (S := S4096x1024) zero2]
  refine (congrArg (k0_pay1 (F := Ideal) (iblk m c 0 t) (iblk m c 1 t)) (eq_ix2 y)).trans ((pay _ _ (y 0) (y 1)).trans ?_)
  refine congrArg relu2 (prod_block _ _ _ _ _ _ _ _ (fun k => iblk0 m c t _ k _ ?_) (fun k => iblk1 m c t k _ _ ?_))
  · blk_simp
  · blk_simp

theorem frame_kernel : Cert.quiescent_Kernel2 := fun m ρ _ => Cert.Kernel2.Gen.frame (F := Bits) m ρ
theorem frame_ideal : Cert.quiescent_Kernel2Ideal := fun m ρ _ => Cert.Kernel2Ideal.Gen.frame (F := Ideal) m ρ
theorem frame_ref : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem same : Cert.algebraic_Kernel2Ideal_Reference2Ideal := by
  intro m g m' g' _ hag
  refine ⟨_, Cert.Kernel2Ideal.Value.run_blocks (F := Ideal) m g, (θ_run Cert.Reference2Ideal.defs _ _).mono (fun r h c => ?_) (Cert.Reference2Ideal.Value.run (F := Ideal) m' g')⟩
  refine ⟨(h c).1.trans ?_, (h c).2⟩
  rw [(hag c).1, (hag c).2, final]
  funext i
  obtain ⟨p, q, rfl⟩ : ∃ (p : Fin 8192) (q : Fin 16384), i = ix2 p q := ⟨i 0, i 1, eq_ix2 i⟩
  show _ = relu2 (prod (m ((c : Thread nD τ).loc main_arg0) : Vec Ideal S8192x4096 .bf16) (m ((c : Thread nD τ).loc main_arg1) : Vec Ideal S4096x16384 .bf16) p q)
  generalize (m ((c : Thread nD τ).loc main_arg0) : Vec Ideal S8192x4096 .bf16) = X
  generalize (m ((c : Thread nD τ).loc main_arg1) : Vec Ideal S4096x16384 .bf16) = W
  unfold relu2 prod
  pointwise

end Cert.Mm.Call2

/-! ## The input projection of the HGRN2 heads -/

namespace Cert.Mm.Call4

open Cert.Mm Cert.Kernel4Ideal Cert.Kernel4Ideal.Gen

theorem pay (x : Vec Ideal S768x4096 .bf16) (w : Vec Ideal S4096x1024 .bf16) (p : Fin 768) (q : Fin 1024) :
    k0_pay1 (F := Ideal) x w (ix2 p q) = prod x w p q := by
  have h : k0_pay1 (F := Ideal) x w (ix2 p q) = 0 + prod x w p q := by
    unfold prod
    pointwise [k0_pay1]
  rw [h, zero_add]

/-- The rows and columns that a point reads are those that it writes. -/
theorem idx : ∀ t : Fin cfg0.N, win0_0.index t 0 = win0_2.index t 0 ∧ win0_0.index t 1 = 0 ∧ win0_1.index t 0 = 0 ∧ win0_1.index t 1 = win0_2.index t 1 :=
  (by decide +kernel : ∀ t : Fin grid0.N, win0_0.index t 0 = win0_2.index t 0 ∧ win0_0.index t 1 = 0 ∧ win0_1.index t 0 = 0 ∧ win0_1.index t 1 = win0_2.index t 1)

variable (m : (ℓ : Loc nD τ sig) → Buf (Elt Ideal) ℓ) (c : Dev nD)

theorem iblk0 (t : Fin cfg0.N) (p : Fin 768) (k : Fin 4096) (i : Fin 8448) (h : i.val = win0_2.index t 0 * 768 + p.val) :
    (iblk m c 0 t : Vec Ideal S768x4096 .bf16) (ix2 p k) = (m ((c : Thread nD τ).loc main_arg0) : Vec Ideal S8448x4096 .bf16) (ix2 i k) := by
  blk_simp [iblk]
  exact at_ix2 _ _ i k (Eq.trans (b := win0_0.index t 0 * 768 + 1 * p.val) rfl (by rw [(idx t).1]; omega))
    (Eq.trans (b := win0_0.index t 1 * 4096 + 1 * k.val) rfl (by rw [(idx t).2.1]; omega))

theorem iblk1 (t : Fin cfg0.N) (k : Fin 4096) (q : Fin 1024) (j : Fin 10240) (h : j.val = win0_2.index t 1 * 1024 + q.val) :
    (iblk m c 1 t : Vec Ideal S4096x1024 .bf16) (ix2 k q) = (m ((c : Thread nD τ).loc main_arg1) : Vec Ideal S4096x10240 .bf16) (ix2 k j) := by
  blk_simp [iblk]
  exact at_ix2 _ _ k j (Eq.trans (b := win0_1.index t 0 * 4096 + 1 * k.val) rfl (by rw [(idx t).2.2.1]; omega))
    (Eq.trans (b := win0_1.index t 1 * 1024 + 1 * q.val) rfl (by rw [(idx t).2.2.2]; omega))

/-- The kernel's result is the product. -/
theorem final : (dats m 0 c).arrAt 2 cfg0.N = (fun i : S8448x10240.Idx =>
    prod (m ((c : Thread nD τ).loc main_arg0) : Vec Ideal S8448x4096 .bf16) (m ((c : Thread nD τ).loc main_arg1) : Vec Ideal S4096x10240 .bf16) (i 0) (i 1)) := by
  refine (dats m 0 c).arrAt_eq_of_covers 2 _ (by decide +kernel) fun t hf y => ?_
  rw [after0_2]
  blk_simp
  unfold out0_2
  rw [View.canon_unit_zero zero2, View.ld_unit_zero (S := S768x4096) zero2, View.ld_unit_zero (S := S4096x1024) zero2]
  refine (congrArg (k0_pay1 (F := Ideal) (iblk m c 0 t) (iblk m c 1 t)) (eq_ix2 y)).trans ((pay _ _ (y 0) (y 1)).trans ?_)
  refine prod_block _ _ _ _ _ _ _ _ (fun k => iblk0 m c t _ k _ ?_) (fun k => iblk1 m c t k _ _ ?_)
  · blk_simp
  · blk_simp

theorem frame_kernel : Cert.quiescent_Kernel4 := fun m ρ _ => Cert.Kernel4.Gen.frame (F := Bits) m ρ
theorem frame_ideal : Cert.quiescent_Kernel4Ideal := fun m ρ _ => Cert.Kernel4Ideal.Gen.frame (F := Ideal) m ρ
theorem frame_ref : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

theorem same : Cert.algebraic_Kernel4Ideal_Reference4Ideal := by
  intro m g m' g' _ hag
  refine ⟨_, Cert.Kernel4Ideal.Value.run_blocks (F := Ideal) m g, (θ_run Cert.Reference4Ideal.defs _ _).mono (fun r h c => ?_) (Cert.Reference4Ideal.Value.run (F := Ideal) m' g')⟩
  refine ⟨(h c).1.trans ?_, (h c).2⟩
  rw [(hag c).1, (hag c).2, final]
  funext i
  obtain ⟨p, q, rfl⟩ : ∃ (p : Fin 8448) (q : Fin 10240), i = ix2 p q := ⟨i 0, i 1, eq_ix2 i⟩
  show _ = prod (m ((c : Thread nD τ).loc main_arg0) : Vec Ideal S8448x4096 .bf16) (m ((c : Thread nD τ).loc main_arg1) : Vec Ideal S4096x10240 .bf16) p q
  generalize (m ((c : Thread nD τ).loc main_arg0) : Vec Ideal S8448x4096 .bf16) = X
  generalize (m ((c : Thread nD τ).loc main_arg1) : Vec Ideal S4096x10240 .bf16) = W
  unfold prod
  pointwise

end Cert.Mm.Call4

/-! ## The output projection -/

namespace Cert.Mm.Call5

open Cert.Mm Cert.Kernel5Ideal Cert.Kernel5Ideal.Gen

theorem pay (x : Vec Ideal S1024x4096 .bf16) (w : Vec Ideal S4096x1024 .bf16) (p : Fin 1024) (q : Fin 1024) :
    k0_pay1 (F := Ideal) x w (ix2 p q) = prod x w p q := by
  have h : k0_pay1 (F := Ideal) x w (ix2 p q) = 0 + prod x w p q := by
    unfold prod
    pointwise [k0_pay1]
  rw [h, zero_add]

/-- The rows and columns that a point reads are those that it writes. -/
theorem idx : ∀ t : Fin cfg0.N, win0_0.index t 0 = win0_2.index t 0 ∧ win0_0.index t 1 = 0 ∧ win0_1.index t 0 = 0 ∧ win0_1.index t 1 = win0_2.index t 1 :=
  (by decide +kernel : ∀ t : Fin grid0.N, win0_0.index t 0 = win0_2.index t 0 ∧ win0_0.index t 1 = 0 ∧ win0_1.index t 0 = 0 ∧ win0_1.index t 1 = win0_2.index t 1)

variable (m : (ℓ : Loc nD τ sig) → Buf (Elt Ideal) ℓ) (c : Dev nD)

theorem iblk0 (t : Fin cfg0.N) (p : Fin 1024) (k : Fin 4096) (i : Fin 8192) (h : i.val = win0_2.index t 0 * 1024 + p.val) :
    (iblk m c 0 t : Vec Ideal S1024x4096 .bf16) (ix2 p k) = (m ((c : Thread nD τ).loc main_arg0) : Vec Ideal S8192x4096 .bf16) (ix2 i k) := by
  blk_simp [iblk]
  exact at_ix2 _ _ i k (Eq.trans (b := win0_0.index t 0 * 1024 + 1 * p.val) rfl (by rw [(idx t).1]; omega))
    (Eq.trans (b := win0_0.index t 1 * 4096 + 1 * k.val) rfl (by rw [(idx t).2.1]; omega))

theorem iblk1 (t : Fin cfg0.N) (k : Fin 4096) (q : Fin 1024) (j : Fin 4096) (h : j.val = win0_2.index t 1 * 1024 + q.val) :
    (iblk m c 1 t : Vec Ideal S4096x1024 .bf16) (ix2 k q) = (m ((c : Thread nD τ).loc main_arg1) : Vec Ideal S4096x4096 .bf16) (ix2 k j) := by
  blk_simp [iblk]
  exact at_ix2 _ _ k j (Eq.trans (b := win0_1.index t 0 * 4096 + 1 * k.val) rfl (by rw [(idx t).2.2.1]; omega))
    (Eq.trans (b := win0_1.index t 1 * 1024 + 1 * q.val) rfl (by rw [(idx t).2.2.2]; omega))

/-- The kernel's result is the product. -/
theorem final : (dats m 0 c).arrAt 2 cfg0.N = (fun i : S8192x4096.Idx =>
    prod (m ((c : Thread nD τ).loc main_arg0) : Vec Ideal S8192x4096 .bf16) (m ((c : Thread nD τ).loc main_arg1) : Vec Ideal S4096x4096 .bf16) (i 0) (i 1)) := by
  refine (dats m 0 c).arrAt_eq_of_covers 2 _ (by decide +kernel) fun t hf y => ?_
  rw [after0_2]
  blk_simp
  unfold out0_2
  rw [View.canon_unit_zero zero2, View.ld_unit_zero (S := S1024x4096) zero2, View.ld_unit_zero (S := S4096x1024) zero2]
  refine (congrArg (k0_pay1 (F := Ideal) (iblk m c 0 t) (iblk m c 1 t)) (eq_ix2 y)).trans ((pay _ _ (y 0) (y 1)).trans ?_)
  refine prod_block _ _ _ _ _ _ _ _ (fun k => iblk0 m c t _ k _ ?_) (fun k => iblk1 m c t k _ _ ?_)
  · blk_simp
  · blk_simp

theorem frame_kernel : Cert.quiescent_Kernel5 := fun m ρ _ => Cert.Kernel5.Gen.frame (F := Bits) m ρ
theorem frame_ideal : Cert.quiescent_Kernel5Ideal := fun m ρ _ => Cert.Kernel5Ideal.Gen.frame (F := Ideal) m ρ
theorem frame_ref : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

theorem same : Cert.algebraic_Kernel5Ideal_Reference5Ideal := by
  intro m g m' g' _ hag
  refine ⟨_, Cert.Kernel5Ideal.Value.run_blocks (F := Ideal) m g, (θ_run Cert.Reference5Ideal.defs _ _).mono (fun r h c => ?_) (Cert.Reference5Ideal.Value.run (F := Ideal) m' g')⟩
  refine ⟨(h c).1.trans ?_, (h c).2⟩
  rw [(hag c).1, (hag c).2, final]
  funext i
  obtain ⟨p, q, rfl⟩ : ∃ (p : Fin 8192) (q : Fin 4096), i = ix2 p q := ⟨i 0, i 1, eq_ix2 i⟩
  show _ = prod (m ((c : Thread nD τ).loc main_arg0) : Vec Ideal S8192x4096 .bf16) (m ((c : Thread nD τ).loc main_arg1) : Vec Ideal S4096x4096 .bf16) p q
  generalize (m ((c : Thread nD τ).loc main_arg0) : Vec Ideal S8192x4096 .bf16) = X
  generalize (m ((c : Thread nD τ).loc main_arg1) : Vec Ideal S4096x4096 .bf16) = W
  unfold prod
  pointwise

end Cert.Mm.Call5
-- ==== Proof.Rkv.lean ====
module

public import proofs.«01_k».proof.Proof.Mm
public import Idealize.ShloMosaic.Lib.Pointwise
public import Idealize.ShloMosaic.Lib.ValueIdx
public import Idealize.ShloMosaic.Lib.Quiescent
public import Idealize.ShloMosaic.Lib.Pipeline.ReadBack
public import Idealize.ShloMosaic.Lib.Pipeline.ValueKit.Geometry
public import proofs.«01_k».proof.Defs
public import proofs.«01_k».proof.Proof.Gen.Kernel6.Frame
public import proofs.«01_k».proof.Proof.Gen.Kernel6Ideal.Value
public import proofs.«01_k».proof.Proof.Gen.Reference6Ideal.Run

/-!
# The input projection of the RWKV-7 heads

The weights' columns are cast once for each run of rows.
-/

@[expose] public section

set_option maxRecDepth 16384

noncomputable section

open Idealize.ShloMosaic Idealize.ShloMosaic.TcCoe Idealize.SL.Sem Idealize.ShloMosaic.StableHlo

/-! ## The input projection of the RWKV-7 heads

The first point of a run of eleven casts its block of columns into a buffer that the other ten read. -/

namespace Cert.Mm.Call6

open Cert.Mm Cert.Kernel6Ideal Cert.Kernel6Ideal.Gen

/-- The weights' columns that the call takes: the first 6144. -/
def cols (w : (⟨2, ![4096, 17024]⟩ : Shape).Idx → EReal) : (⟨2, ![4096, 6144]⟩ : Shape).Idx → EReal :=
  fun i => w (ix2 (i 0) (⟨(i 1).val, (i 1).isLt.trans (by decide)⟩ : Fin 17024))

theorem pay2 (x : Vec Ideal S768x4096 .bf16) (w : Vec Ideal S4096x768 .bf16) (p : Fin 768) (q : Fin 768) :
    k0_pay2 (F := Ideal) x w (ix2 p q) = prod x w p q := by
  have h : k0_pay2 (F := Ideal) x w (ix2 p q) = 0 + prod x w p q := by
    unfold prod
    pointwise [k0_pay2]
  rw [h, zero_add]

theorem pay1 (x : Vec Ideal S4096x768 .f32) (i : S4096x768.Idx) : (k0_pay1 (F := Ideal) x i : EReal) = x i := by
  unfold k0_pay1
  exact congrFun (shapeCast_self _ _) i

/-- The store of a first point into the result's block. -/
theorem runA_y (c : Dev nD) (i : grid0.Coords) (arg2 : Memref sig .tc .vmem S768x4096 .bf16) (harg2 : arg2.IsWhole) (arg3 : Memref sig .tc .vmem S4096x768 .f32) (harg3 : arg3.IsWhole)
    (arg4 : Memref sig .tc .vmem S768x768 .f32) (harg4 : arg4.IsWhole) (arg5 : Memref sig .tc .vmem S4096x768 .bf16) (harg5 : arg5.IsWhole) (hc0 : cond0_0 i)
    (x0 : Vec Ideal S768x4096 .bf16) (x1 : Vec Ideal S4096x768 .f32) :
    (kernelRun0_A (F := Ideal) c i arg2 harg2 arg3 harg3 arg4 harg4 arg5 harg5 hc0 x0 x1).1
    = [⟨Rect.unit (s := S768x768) ![0, 0] S768x768.size inb_S768x768_S768x768_0_0,
        k0_pay2 (View.readAt (Elt Ideal) arg2.view (Rect.unit (s := S768x4096) ![0, 0] S768x4096.size inb_S768x4096_S768x4096_0_0).toLoadRect (harg2.unread x0))
          (arg5.view.readCov [(⟨Rect.unit (s := S4096x768) ![0, 0] S4096x768.size inb_S4096x768_S4096x768_0_0,
            k0_pay1 (View.readAt (Elt Ideal) arg3.view (Rect.unit (s := S4096x768) ![0, 0] S4096x768.size inb_S4096x768_S4096x768_0_0).toLoadRect (harg3.unread x1))⟩ :
              View.Piece (Elt Ideal) S4096x768 .bf16)]
            (Rect.unit (s := S4096x768) ![0, 0] S4096x768.size inb_S4096x768_S4096x768_0_0).toLoadRect)⟩] := by
  sl_kernel_rfl

/-- The store of a first point into the buffer of cast columns. -/
theorem runA_s (c : Dev nD) (i : grid0.Coords) (arg2 : Memref sig .tc .vmem S768x4096 .bf16) (harg2 : arg2.IsWhole) (arg3 : Memref sig .tc .vmem S4096x768 .f32) (harg3 : arg3.IsWhole)
    (arg4 : Memref sig .tc .vmem S768x768 .f32) (harg4 : arg4.IsWhole) (arg5 : Memref sig .tc .vmem S4096x768 .bf16) (harg5 : arg5.IsWhole) (hc0 : cond0_0 i)
    (x0 : Vec Ideal S768x4096 .bf16) (x1 : Vec Ideal S4096x768 .f32) :
    (kernelRun0_A (F := Ideal) c i arg2 harg2 arg3 harg3 arg4 harg4 arg5 harg5 hc0 x0 x1).2.1
    = [⟨Rect.unit (s := S4096x768) ![0, 0] S4096x768.size inb_S4096x768_S4096x768_0_0,
        k0_pay1 (View.readAt (Elt Ideal) arg3.view (Rect.unit (s := S4096x768) ![0, 0] S4096x768.size inb_S4096x768_S4096x768_0_0).toLoadRect (harg3.unread x1))⟩] := by
  sl_kernel_rfl

/-- The store of a later point into the result's block. -/
theorem runB_y (c : Dev nD) (i : grid0.Coords) (arg2 : Memref sig .tc .vmem S768x4096 .bf16) (harg2 : arg2.IsWhole) (arg3 : Memref sig .tc .vmem S4096x768 .f32) (harg3 : arg3.IsWhole)
    (arg4 : Memref sig .tc .vmem S768x768 .f32) (harg4 : arg4.IsWhole) (arg5 : Memref sig .tc .vmem S4096x768 .bf16) (harg5 : arg5.IsWhole) (hc0 : ¬cond0_0 i)
    (x0 : Vec Ideal S768x4096 .bf16) (x1 : Vec Ideal S4096x768 .f32) (xs0 : Vec Ideal S4096x768 .bf16) :
    (kernelRun0_B (F := Ideal) c i arg2 harg2 arg3 harg3 arg4 harg4 arg5 harg5 hc0 x0 x1 xs0).1
    = [⟨Rect.unit (s := S768x768) ![0, 0] S768x768.size inb_S768x768_S768x768_0_0,
        k0_pay2 (View.readAt (Elt Ideal) arg2.view (Rect.unit (s := S768x4096) ![0, 0] S768x4096.size inb_S768x4096_S768x4096_0_0).toLoadRect (harg2.unread x0))
          (View.readAt (Elt Ideal) arg5.view (Rect.unit (s := S4096x768) ![0, 0] S4096x768.size inb_S4096x768_S4096x768_0_0).toLoadRect (harg5.unread xs0))⟩] := by
  sl_kernel_rfl

theorem valA_y (c : Dev nD) (i : grid0.Coords) (arg2 : Memref sig .tc .vmem S768x4096 .bf16) (harg2 : arg2.IsWhole) (arg3 : Memref sig .tc .vmem S4096x768 .f32) (harg3 : arg3.IsWhole)
    (arg4 : Memref sig .tc .vmem S768x768 .f32) (harg4 : arg4.IsWhole) (arg5 : Memref sig .tc .vmem S4096x768 .bf16) (harg5 : arg5.IsWhole) (hc0 : cond0_0 i)
    (x0 : Vec Ideal S768x4096 .bf16) (x1 : Vec Ideal S4096x768 .f32) :
    out0_A_2 (F := Ideal) c i arg2 harg2 arg3 harg3 arg4 harg4 arg5 harg5 hc0 x0 x1 = k0_pay2 x0 (k0_pay1 x1) := by
  unfold out0_A_2
  rw [runA_y, View.read_writes_eq_canon _ _ _ (fun y => ⟨_, List.mem_singleton_self _, View.mem_set_unit_zero zero2 inb_S768x768_S768x768_0_0 y⟩),
    View.canon_unit_zero zero2, View.readCov_fill arg5.view _ _ _ _ (by intro a; fin_cases a <;> rfl), View.readAt_eq_ld, View.readAt_eq_ld,
    Memref.IsWhole.read_unread, Memref.IsWhole.read_unread,
    View.ld_unit_zero (S := S768x4096) zero2, View.ld_unit_zero (S := S4096x768) zero2, View.ld_unit_zero (S := S4096x768) zero2]

theorem valA_s (c : Dev nD) (i : grid0.Coords) (arg2 : Memref sig .tc .vmem S768x4096 .bf16) (harg2 : arg2.IsWhole) (arg3 : Memref sig .tc .vmem S4096x768 .f32) (harg3 : arg3.IsWhole)
    (arg4 : Memref sig .tc .vmem S768x768 .f32) (harg4 : arg4.IsWhole) (arg5 : Memref sig .tc .vmem S4096x768 .bf16) (harg5 : arg5.IsWhole) (hc0 : cond0_0 i)
    (x0 : Vec Ideal S768x4096 .bf16) (x1 : Vec Ideal S4096x768 .f32) :
    sout0_A_0 (F := Ideal) c i arg2 harg2 arg3 harg3 arg4 harg4 arg5 harg5 hc0 x0 x1 = k0_pay1 x1 := by
  unfold sout0_A_0
  rw [runA_s, View.read_writes_eq_canon _ _ _ (fun y => ⟨_, List.mem_singleton_self _, View.mem_set_unit_zero zero2 inb_S4096x768_S4096x768_0_0 y⟩),
    View.canon_unit_zero zero2, View.readAt_eq_ld, Memref.IsWhole.read_unread, View.ld_unit_zero (S := S4096x768) zero2]

theorem valB_y (c : Dev nD) (i : grid0.Coords) (arg2 : Memref sig .tc .vmem S768x4096 .bf16) (harg2 : arg2.IsWhole) (arg3 : Memref sig .tc .vmem S4096x768 .f32) (harg3 : arg3.IsWhole)
    (arg4 : Memref sig .tc .vmem S768x768 .f32) (harg4 : arg4.IsWhole) (arg5 : Memref sig .tc .vmem S4096x768 .bf16) (harg5 : arg5.IsWhole) (hc0 : ¬cond0_0 i)
    (x0 : Vec Ideal S768x4096 .bf16) (x1 : Vec Ideal S4096x768 .f32) (xs0 : Vec Ideal S4096x768 .bf16) :
    out0_B_2 (F := Ideal) c i arg2 harg2 arg3 harg3 arg4 harg4 arg5 harg5 hc0 x0 x1 xs0 = k0_pay2 x0 xs0 := by
  unfold out0_B_2
  rw [runB_y, View.read_writes_eq_canon _ _ _ (fun y => ⟨_, List.mem_singleton_self _, View.mem_set_unit_zero zero2 inb_S768x768_S768x768_0_0 y⟩),
    View.canon_unit_zero zero2, View.readAt_eq_ld, View.readAt_eq_ld,
    Memref.IsWhole.read_unread, Memref.IsWhole.read_unread,
    View.ld_unit_zero (S := S768x4096) zero2, View.ld_unit_zero (S := S4096x768) zero2]

/-- The rows that a point reads are those that it writes; its run's number is that of its columns. -/
theorem idx : ∀ t : Fin cfg0.N, win0_0.index t 0 = win0_2.index t 0 ∧ win0_0.index t 1 = 0 ∧ win0_1.index t 0 = 0 ∧ win0_1.index t 1 = t.val / 11 ∧ win0_2.index t 1 = t.val / 11 :=
  (by decide +kernel : ∀ t : Fin grid0.N, win0_0.index t 0 = win0_2.index t 0 ∧ win0_0.index t 1 = 0 ∧ win0_1.index t 0 = 0 ∧ win0_1.index t 1 = t.val / 11 ∧ win0_2.index t 1 = t.val / 11)

variable (m : (ℓ : Loc nD τ sig) → Buf (Elt Ideal) ℓ) (c : Dev nD)

theorem iblk0 (t : Fin cfg0.N) (p : Fin 768) (k : Fin 4096) (i : Fin 8448) (h : i.val = win0_2.index t 0 * 768 + p.val) :
    (iblk m c 0 t : Vec Ideal S768x4096 .bf16) (ix2 p k) = (m ((c : Thread nD τ).loc main_arg0) : Vec Ideal S8448x4096 .bf16) (ix2 i k) := by
  blk_simp [iblk]
  exact at_ix2 _ _ i k (Eq.trans (b := win0_0.index t 0 * 768 + 1 * p.val) rfl (by rw [(idx t).1]; omega))
    (Eq.trans (b := win0_0.index t 1 * 4096 + 1 * k.val) rfl (by rw [(idx t).2.1]; omega))

/-- The block of columns that a point is given. -/
theorem block1 (t : Fin cfg0.N) (k : Fin 4096) (q : Fin 768) (j : Fin 17024) (h : j.val = t.val / 11 * 768 + q.val) :
    (X0_1 m c t : Vec Ideal S4096x768 .f32) (ix2 k q) = (m ((c : Thread nD τ).loc main_arg1) : Vec Ideal S4096x17024 .f32) (ix2 k j) := by
  unfold X0_1 Pipeline.Window.fill
  rw [dif_pos (moved0_1 t _)]
  unfold iblk
  exact at_ix2 _ _ k j (Eq.trans (b := win0_1.index t 0 * 4096 + 1 * k.val) rfl (by rw [(idx t).2.2.1]; omega))
    (Eq.trans (b := win0_1.index t 1 * 768 + 1 * q.val) rfl (by rw [(idx t).2.2.2.1]; omega))

/-- What the buffer of cast columns holds after a point: the columns of that point's run. -/
theorem held : ∀ (n : ℕ) (hn : n < cfg0.N) (k : Fin 4096) (q : Fin 768) (j : Fin 17024), j.val = n / 11 * 768 + q.val →
    (outsAt0 m c n hn).2 (ix2 k q) = (m ((c : Thread nD τ).loc main_arg1) : Vec Ideal S4096x17024 .f32) (ix2 k j) := by
  intro n
  induction n with
  | zero =>
    intro hn k q j hj
    rw [outsAt0_A m c ⟨0, hn⟩ (Nat.zero_mod _)]
    dsimp only
    rw [valA_s, pay1]
    exact block1 m c ⟨0, hn⟩ k q j hj
  | succ n ih =>
    intro hn k q j hj
    by_cases h0 : (n + 1) % 11 = 0
    · rw [outsAt0_A m c ⟨n + 1, hn⟩ h0]
      dsimp only
      rw [valA_s, pay1]
      exact block1 m c ⟨n + 1, hn⟩ k q j hj
    · rw [outsAt0_B m c ⟨n + 1, hn⟩ h0]
      exact ih (Nat.lt_of_succ_lt hn) k q j (hj.trans (by rw [show (n + 1) / 11 = n / 11 by omega]))

/-- What a point leaves in its block: the product with the buffer. -/
theorem left (t : Fin cfg0.N) : (outsAt0 m c t.val t.isLt).1 = k0_pay2 (iblk m c 0 t) (outsAt0 m c t.val t.isLt).2 := by
  by_cases h0 : t.val % 11 = 0
  · rw [outsAt0_A m c t h0]
    dsimp only
    rw [valA_y, valA_s]
  · rw [outsAt0_B m c t h0]
    dsimp only
    rw [valB_y]
    rfl

/-- The kernel's result is the product with the columns. -/
theorem final : (dats m 0 c).arrAt 2 cfg0.N = (fun i : S8448x6144.Idx =>
    prod (m ((c : Thread nD τ).loc main_arg0) : Vec Ideal S8448x4096 .bf16) (cols (m ((c : Thread nD τ).loc main_arg1) : Vec Ideal S4096x17024 .f32)) (i 0) (i 1)) := by
  refine (dats m 0 c).arrAt_eq_of_covers 2 _ (by decide +kernel) fun t hf y => ?_
  rw [after0_2]
  blk_simp
  rw [left]
  refine (congrArg (k0_pay2 (F := Ideal) (iblk m c 0 t) (outsAt0 m c t.val t.isLt).2) (eq_ix2 y)).trans ((pay2 _ _ (y 0) (y 1)).trans ?_)
  refine prod_block _ _ _ _ _ _ _ _ (fun k => iblk0 m c t _ k _ ?_) (fun k => held m c t.val t.isLt k _ _ ?_)
  · blk_simp
  · rw [← (idx t).2.2.2.2]
    refine Eq.trans (b := (((cfg0.win 2).blk t).view.emb y 1).val) rfl ?_
    blk_simp

theorem frame_kernel : Cert.quiescent_Kernel6 := fun m ρ _ => Cert.Kernel6.Gen.frame (F := Bits) m ρ
theorem frame_ideal : Cert.quiescent_Kernel6Ideal := fun m ρ _ => Cert.Kernel6Ideal.Gen.frame (F := Ideal) m ρ
theorem frame_ref : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

theorem same : Cert.algebraic_Kernel6Ideal_Reference6Ideal := by
  intro m g m' g' _ hag
  refine ⟨_, Cert.Kernel6Ideal.Value.run_blocks (F := Ideal) m g, (θ_run Cert.Reference6Ideal.defs _ _).mono (fun r h c => ?_) (Cert.Reference6Ideal.Value.run (F := Ideal) m' g')⟩
  refine ⟨(h c).1.trans ?_, (h c).2⟩
  rw [(hag c).1, (hag c).2, final]
  funext i
  obtain ⟨p, q, rfl⟩ : ∃ (p : Fin 8448) (q : Fin 6144), i = ix2 p q := ⟨i 0, i 1, eq_ix2 i⟩
  show _ = prod (m ((c : Thread nD τ).loc main_arg0) : Vec Ideal S8448x4096 .bf16) (cols (m ((c : Thread nD τ).loc main_arg1) : Vec Ideal S4096x17024 .f32)) p q
  generalize (m ((c : Thread nD τ).loc main_arg0) : Vec Ideal S8448x4096 .bf16) = X
  generalize (m ((c : Thread nD τ).loc main_arg1) : Vec Ideal S4096x17024 .f32) = W
  unfold prod cols
  pointwise

end Cert.Mm.Call6
-- ==== Proof.DownRun.lean ====
module

public import proofs.«01_k».proof.Proof.Rkv
public import proofs.«01_k».proof.Proof.Gen.Kernel3Ideal.Frame
public import proofs.«01_k».proof.Proof.Gen.Kernel3Ideal.Skeleton
public import Idealize.ShloMosaic.Lib.Pipeline.Frame
public import Idealize.ShloMosaic.Lib.Transfers

/-! The down projection, point by point: one run of its body for each of the three kinds of point — the first
    of a row of blocks, which starts the copy of the residual rows; a middle one; and the last, which waits for them. -/

@[expose] public section

set_option maxRecDepth 16384

noncomputable section

namespace Cert.Down

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel3Ideal Cert.Kernel3Ideal.Gen

variable {F : FTy → Type} [FloatOps F]

local notation "𝕄" => MT nD τ sig Unit (Elt F) ℕ (Pipeline.UD sig nD τ) ℕ

/-- The scratch the residual rows are copied into, and the residual array itself, which stays where it is. -/
abbrev scr : Memref sig .tc .vmem S512x4096 .f32 := Memref.whole cc0_scratch0
abbrev res : Memref sig .tc .hbm S8192x4096 .f32 := Memref.whole main_arg2

/-- Contents of the residual array on a core. -/
abbrev ResBuf (c : Dev nD) : Type := Buf (Elt F) (res.view.loc (c : Thread nD τ))

/-- The residual array whole at contents `f`. -/
abbrev resPt (c : Dev nD) (f : ResBuf (F := F) c) : sProp 𝕄 := res.view.loc (c : Thread nD τ) ↦{fullShare} f

/-- The copy under way: it reads the elements `S` of the residual array and will leave `g` in the scratch `b`. The rest
    of the residual array is held beside it. -/
abbrev flyS (c : Dev nD) (b : Memref sig .tc .vmem S512x4096 .f32) (S : Finset (Idx (res.view.loc (c : Thread nD τ))))
    (f : ResBuf (F := F) c) (g : Buf (Elt F) (b.view.loc (c : Thread nD τ))) : sProp 𝕄 :=
  iprop(Transfers.Flight countersEmb (c : Thread nD τ) (SemLoc.dma 8) () 262144
      iprop((b.view.loc (c : Thread nD τ) ↦[b.view.set]{fullShare} g) ∗ (res.view.loc (c : Thread nD τ) ↦[S]{fullShare} f))
    ∗ (res.view.loc (c : Thread nD τ) ↦[Finset.univ \ S]{fullShare} f))

/-- The kernel is at the first, and at the last, column block of its row. -/
abbrev first (i : grid0.Coords) : Prop := k0_cond1 i = 1#1
abbrev last (i : grid0.Coords) : Prop := k0_cond2 i = 1#1

/-- The rows of the residual array that the block of rows at `i` takes, and what they hold. -/
abbrev rows (i : grid0.Coords) (h : first i) : Memref sig .tc .hbm S512x4096 .f32 :=
  res.slice (Rect.unit (s := S8192x4096) (k0_off1 i) S512x4096.size (k0_off1_inb i h)) (fun _ => rfl)
abbrev rowsOf (c : Dev nD) (i : grid0.Coords) (h : first i) (f : ResBuf (F := F) c) : Vec F S512x4096 .f32 :=
  ReadAs.same.apply ((rows i h).view.read (Elt F) f)

section Runs

variable (c : Dev nD) (i : grid0.Coords)
  (arg2 : Memref sig .tc .vmem S512x1024 .bf16) (harg2 : arg2.IsWhole)
  (arg3 : Memref sig .tc .vmem S1024x4096 .bf16) (harg3 : arg3.IsWhole)
  (arg5 : Memref sig .tc .vmem S8x24576 .f32) (harg5 : arg5.IsWhole)
  (arg6 : Memref sig .tc .vmem S1x4096 .f32) (harg6 : arg6.IsWhole)
  (arg7 : Memref sig .tc .vmem S512x4096 .f32) (harg7 : arg7.IsWhole)
  (arg8 : Memref sig .tc .vmem S512x4096 .f32) (harg8 : arg8.IsWhole)
  (x0 : Vec F S512x1024 .bf16) (x1 : Vec F S1024x4096 .bf16) (x2 : Vec F S8x24576 .f32) (x3 : Vec F S1x4096 .f32)
  (xo : Vec F S512x4096 .f32) (fh : ResBuf (F := F) c)

/-- The body on given staging memrefs. -/
abbrev body : Prog (TpuEff nD τ sig (Elt F) Λ₀ .tc) PUnit :=
  cc0_ffn_down i arg2 harg2 arg3 harg3 (Memref.whole main_arg2) (Memref.isWhole_whole _) arg5 harg5 arg6 harg6 arg7 harg7 arg8 harg8 cc0_scratch1

set_option maxHeartbeats 1000000 in
/-- At the first point of a row: the output block is cleared and the first partial product added, the copy started. -/
def runFirst (h0 : first i) (h1 : ¬last i) :
    { L : List (View.Piece (Elt F) S512x4096 .f32) //
      ∀ (K : PUnit → sProp 𝕄),
        iprop(owns (c : Thread nD τ) arg2 fullShare x0 ∗ owns (c : Thread nD τ) arg3 fullShare x1
            ∗ owns (c : Thread nD τ) arg5 fullShare x2 ∗ owns (c : Thread nD τ) arg6 fullShare x3
            ∗ (∃ d, owns (c : Thread nD τ) arg7 fullShare d) ∗ (∃ d, owns (c : Thread nD τ) arg8 fullShare d)
            ∗ semVal ((c : Thread nD τ), SemLoc.dma 8) 0 ∗ resPt c fh
            ∗ (iprop(owns (c : Thread nD τ) arg2 fullShare x0 ∗ owns (c : Thread nD τ) arg3 fullShare x1
                ∗ owns (c : Thread nD τ) arg5 fullShare x2 ∗ owns (c : Thread nD τ) arg6 fullShare x3
                ∗ (∃ f, arg7.view.loc (c : Thread nD τ) ↦[arg7.view.set]{fullShare} arg7.view.writes (Elt F) f L)
                ∗ (∃ f, flyS c arg8 (rows i h0).view.set fh (arg8.view.writes (Elt F) f [⟨Rect.whole S512x4096, rowsOf c i h0 fh⟩]))) -∗ K ⟨⟩))
          ⊢ wp frame (wpE (defs₀ (F := F)) Variants.none c none) Set.univ
              (body i arg2 harg2 arg3 harg3 arg5 harg5 arg6 harg6 arg7 harg7 arg8 harg8) K } := by
  refine ⟨?_, fun K => ?run⟩
  case run =>
    simp only [body, cc0_ffn_down_eq_skeleton]; unfold cc0_ffn_down_skel
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, Hq0, Hh0, Hk⟩
    obtain rfl := harg2.eq_unread hf0; obtain rfl := harg3.eq_unread hf1; obtain rfl := harg5.eq_unread hf2; obtain rfl := harg6.eq_unread hf3
    sl_exec (disch := first | sl_exact h0 | sl_exact h1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    iexists fs0
    isplitl [Hq0]; · iexact Hq0
    iexact Hh0

set_option maxHeartbeats 1000000 in
/-- At a middle point: one more partial product is added. -/
def runMid (h0 : ¬first i) (h1 : ¬last i) :
    { L : List (View.Piece (Elt F) S512x4096 .f32) //
      ∀ (K : PUnit → sProp 𝕄),
        iprop(owns (c : Thread nD τ) arg2 fullShare x0 ∗ owns (c : Thread nD τ) arg3 fullShare x1
            ∗ owns (c : Thread nD τ) arg5 fullShare x2 ∗ owns (c : Thread nD τ) arg6 fullShare x3
            ∗ owns (c : Thread nD τ) arg7 fullShare xo
            ∗ (iprop(owns (c : Thread nD τ) arg2 fullShare x0 ∗ owns (c : Thread nD τ) arg3 fullShare x1
                ∗ owns (c : Thread nD τ) arg5 fullShare x2 ∗ owns (c : Thread nD τ) arg6 fullShare x3
                ∗ (∃ f, arg7.view.loc (c : Thread nD τ) ↦[arg7.view.set]{fullShare} arg7.view.writes (Elt F) f L)) -∗ K ⟨⟩))
          ⊢ wp frame (wpE (defs₀ (F := F)) Variants.none c none) Set.univ
              (body i arg2 harg2 arg3 harg3 arg5 harg5 arg6 harg6 arg7 harg7 arg8 harg8) K } := by
  refine ⟨?_, fun K => ?run⟩
  case run =>
    simp only [body, cc0_ffn_down_eq_skeleton]; unfold cc0_ffn_down_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1; obtain rfl := harg5.eq_unread hf2; obtain rfl := harg6.eq_unread hf3; obtain rfl := harg7.eq_unread hf4
    sl_exec (disch := first | sl_exact h0 | sl_exact h1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg5.read_unread _
      iexact H2
    isplitl [H3]
    · iexists _; isplitr; · ipureintro; exact harg6.read_unread _
      iexact H3
    iexists _; iexact H4

set_option maxHeartbeats 1000000 in
/-- At the last point of a row: the last partial product is added, the copy waited for, and each chunk of rows
    normalized, scaled and added to the residual rows `xr` that the copy delivers. -/
def runLast (h0 : ¬first i) (h1 : last i) (xr : Vec F S512x4096 .f32) :
    { L : List (View.Piece (Elt F) S512x4096 .f32) //
      ∀ (S : Finset (Idx (res.view.loc (c : Thread nD τ)))) (W : Waits sig Unit) (K : PUnit → sProp 𝕄),
        iprop(owns (c : Thread nD τ) arg2 fullShare x0 ∗ owns (c : Thread nD τ) arg3 fullShare x1
            ∗ owns (c : Thread nD τ) arg5 fullShare x2 ∗ owns (c : Thread nD τ) arg6 fullShare x3
            ∗ owns (c : Thread nD τ) arg7 fullShare xo
            ∗ flyS c arg8 S fh (harg8.unread xr) ∗ owes (c : Thread nD τ) 0 W
            ∗ (iprop(owns (c : Thread nD τ) arg2 fullShare x0 ∗ owns (c : Thread nD τ) arg3 fullShare x1
                ∗ owns (c : Thread nD τ) arg5 fullShare x2 ∗ owns (c : Thread nD τ) arg6 fullShare x3
                ∗ (∃ f, arg7.view.loc (c : Thread nD τ) ↦[arg7.view.set]{fullShare} arg7.view.writes (Elt F) f L)
                ∗ (∃ d, owns (c : Thread nD τ) arg8 fullShare d)
                ∗ semVal ((c : Thread nD τ), SemLoc.dma 8) 0 ∗ resPt c fh ∗ (∃ W', owes (c : Thread nD τ) 0 W')) -∗ K ⟨⟩))
          ⊢ wp frame (wpE (defs₀ (F := F)) Variants.none c none) Set.univ
              (body i arg2 harg2 arg3 harg3 arg5 harg5 arg6 harg6 arg7 harg7 arg8 harg8) K } := by
  refine ⟨?_, fun S W K => ?run⟩
  case run =>
    simp only [body, cc0_ffn_down_eq_skeleton]; unfold cc0_ffn_down_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨Hf, Hr⟩, HW, Hk⟩
    obtain rfl := harg2.eq_unread hf0; obtain rfl := harg3.eq_unread hf1; obtain rfl := harg5.eq_unread hf2; obtain rfl := harg6.eq_unread hf3; obtain rfl := harg7.eq_unread hf4
    sl_exec (disch := first | sl_exact h0 | sl_exact h1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [Hf_dst]
    · iexists _, _; isplitr; swap; · iexact Hf_dst
      ipureintro; rfl
    isplitl [Hf]; · iexact Hf
    isplitl [Hr]; · iexact Hr
    iexists _; iexact HW

end Runs

end Cert.Down

end
-- ==== Proof.Down.lean ====
module

public import proofs.«01_k».proof.Defs
public import proofs.«01_k».proof.Proof.Gen.Kernel3Ideal.Points
public import proofs.«01_k».proof.Proof.DownRun
public import Idealize.ShloMosaic.Lib.Pipeline.FrameBody
public import Idealize.ShloMosaic.Lib.Ring
public import Idealize.ShloMosaic.Lib.Tactic
public import Idealize.ShloMosaic.Lib.WordCmp

/-! The down projection's launch. Between the first and the last point of a row of blocks a copy is under way, so what is
    known between two points depends on where they are: `Phi`. The rest follows the pipeline. -/

@[expose] public section

set_option maxRecDepth 16384

noncomputable section

namespace Cert.Down

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal Cert.Kernel3Ideal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## Where a point is -/

theorem size_lt (t : Fin cfg0.N) : t.val < 256 := lt_of_lt_of_eq t.isLt N_0

theorem first_iff (t : Fin cfg0.N) : first (grid0.coords t) ↔ t.val % 16 = 0 := by
  have ht := size_lt t
  have e1 : (grid0.coords t 1).val = t.val / 1 % 16 := Pipeline.Grid.coords_val t 1 (by decide) rfl
  simp only [first, k0_cond1, e1]
  word_cmp

theorem last_iff (t : Fin cfg0.N) : last (grid0.coords t) ↔ t.val % 16 = 15 := by
  have ht := size_lt t
  have e1 : (grid0.coords t 1).val = t.val / 1 % 16 := Pipeline.Grid.coords_val t 1 (by decide) rfl
  simp only [last, k0_cond2, e1]
  word_cmp

/-- The first point of the row of blocks that point `n` is in. -/
def start (n : ℕ) : Fin cfg0.N := ⟨n / 16 * 16 % 256, lt_of_lt_of_eq (Nat.mod_lt _ (by decide)) N_0.symm⟩

theorem start_first (n : ℕ) : first (grid0.coords (start n)) := (first_iff _).mpr (by show n / 16 * 16 % 256 % 16 = 0; omega)

theorem start_self (t : Fin cfg0.N) (h : t.val % 16 = 0) : start t.val = t :=
  Fin.ext (by have := size_lt t; show t.val / 16 * 16 % 256 = t.val; omega)

theorem start_succ (n : ℕ) (h : ¬(n + 1) % 16 = 0) : start (n + 1) = start n :=
  Fin.ext (by show (n + 1) / 16 * 16 % 256 = n / 16 * 16 % 256; omega)

/-- The residual rows of the row of blocks that point `n` is in. -/
def resAt (c : Dev nD) (n : ℕ) : Vec F S512x4096 .f32 := rowsOf c (grid0.coords (start n)) (start_first n) (V m c main_arg2)

/-! ## What the body leaves -/

/-- One staging buffer of the output, to read what is stored through. -/
abbrev V4 : View sig .tc .vmem S512x4096 .f32 := (Memref.whole cc0_stg4_0 : Memref sig .tc .vmem S512x4096 .f32).view

abbrev s0 (t : Fin cfg0.N) : Memref sig .tc .vmem S512x1024 .bf16 := win0_0.stage (cfg0.slots t 0)
abbrev h0 (t : Fin cfg0.N) : (s0 t).IsWhole := hstage0_0 ((cfg0.slots t 0).cast nbuf0_0)
abbrev s1 (t : Fin cfg0.N) : Memref sig .tc .vmem S1024x4096 .bf16 := win0_1.stage (cfg0.slots t 1)
abbrev h1 (t : Fin cfg0.N) : (s1 t).IsWhole := hstage0_1 ((cfg0.slots t 1).cast nbuf0_1)
abbrev s2 (t : Fin cfg0.N) : Memref sig .tc .vmem S8x24576 .f32 := win0_2.stage (cfg0.slots t 2)
abbrev h2 (t : Fin cfg0.N) : (s2 t).IsWhole := hstage0_2 ((cfg0.slots t 2).cast nbuf0_2)
abbrev s3 (t : Fin cfg0.N) : Memref sig .tc .vmem S1x4096 .f32 := win0_3.stage (cfg0.slots t 3)
abbrev h3 (t : Fin cfg0.N) : (s3 t).IsWhole := hstage0_3 ((cfg0.slots t 3).cast nbuf0_3)
abbrev s4 (t : Fin cfg0.N) : Memref sig .tc .vmem S512x4096 .f32 := win0_4.stage (cfg0.slots t 4)
abbrev h4 (t : Fin cfg0.N) : (s4 t).IsWhole := hstage0_4 ((cfg0.slots t 4).cast nbuf0_4)

section Outs

variable (c : Dev nD) (t : Fin cfg0.N)

/-- The three runs at point `t`, on its staging buffers and blocks. -/
abbrev atFirst (hf : t.val % 16 = 0) :=
  runFirst c (grid0.coords t) (s0 t) (h0 t) (s1 t) (h1 t) (s2 t) (h2 t) (s3 t) (h3 t) (s4 t) (h4 t) scr (Memref.isWhole_whole _)
    (iblk m c 0 t) (iblk m c 1 t) (iblk m c 2 t) (iblk m c 3 t) (V m c main_arg2)
    ((first_iff t).mpr hf) (fun h => by have := (last_iff t).mp h; omega)
abbrev atMid (hf : ¬t.val % 16 = 0) (hl : ¬t.val % 16 = 15) (xo : Vec F S512x4096 .f32) :=
  runMid c (grid0.coords t) (s0 t) (h0 t) (s1 t) (h1 t) (s2 t) (h2 t) (s3 t) (h3 t) (s4 t) (h4 t) scr (Memref.isWhole_whole _)
    (iblk m c 0 t) (iblk m c 1 t) (iblk m c 2 t) (iblk m c 3 t) xo
    (fun h => hf ((first_iff t).mp h)) (fun h => hl ((last_iff t).mp h))
abbrev atLast (hf : ¬t.val % 16 = 0) (hl : t.val % 16 = 15) (xo xr : Vec F S512x4096 .f32) :=
  runLast c (grid0.coords t) (s0 t) (h0 t) (s1 t) (h1 t) (s2 t) (h2 t) (s3 t) (h3 t) (s4 t) (h4 t) scr (Memref.isWhole_whole _)
    (iblk m c 0 t) (iblk m c 1 t) (iblk m c 2 t) (iblk m c 3 t) xo (V m c main_arg2)
    (fun h => hf ((first_iff t).mp h)) ((last_iff t).mpr hl) xr

/-- Each run's stores cover the block. -/
theorem cover_first (hf : t.val % 16 = 0) (y : S512x4096.Idx) : ∃ p ∈ (atFirst m c t hf).1, y ∈ p.1.set :=
  View.cover_of_tiledL (atFirst m c t hf).1 S512x4096.size (by sl_kernel_rfl) y
theorem cover_mid (hf : ¬t.val % 16 = 0) (hl : ¬t.val % 16 = 15) (xo : Vec F S512x4096 .f32) (y : S512x4096.Idx) :
    ∃ p ∈ (atMid m c t hf hl xo).1, y ∈ p.1.set :=
  View.cover_of_tiledL (atMid m c t hf hl xo).1 S512x4096.size (by sl_kernel_rfl) y
theorem cover_last (hf : ¬t.val % 16 = 0) (hl : t.val % 16 = 15) (xo xr : Vec F S512x4096 .f32) (y : S512x4096.Idx) :
    ∃ p ∈ (atLast m c t hf hl xo xr).1, y ∈ p.1.set :=
  View.cover_of_tiledBy (atLast m c t hf hl xo xr).1 ![128, 4096] (by sl_kernel_rfl) y

/-- What each run leaves in the output block. -/
def outFirst (hf : t.val % 16 = 0) : Vec F S512x4096 .f32 := V4.read (Elt F) (V4.writes (Elt F) V4.junk (atFirst m c t hf).1)
def outMid (hf : ¬t.val % 16 = 0) (hl : ¬t.val % 16 = 15) (xo : Vec F S512x4096 .f32) : Vec F S512x4096 .f32 :=
  V4.read (Elt F) (V4.writes (Elt F) V4.junk (atMid m c t hf hl xo).1)
def outLast (hf : ¬t.val % 16 = 0) (hl : t.val % 16 = 15) (xo xr : Vec F S512x4096 .f32) : Vec F S512x4096 .f32 :=
  V4.read (Elt F) (V4.writes (Elt F) V4.junk (atLast m c t hf hl xo xr).1)

end Outs

/-- What the output block holds after point `n`, over what the point before left. -/
def outAt (c : Dev nD) : (n : ℕ) → n < cfg0.N → Vec F S512x4096 .f32
  | 0, hn => outFirst m c ⟨0, hn⟩ rfl
  | n + 1, hn =>
    if hf : (n + 1) % 16 = 0 then outFirst m c ⟨n + 1, hn⟩ hf
    else if hl : (n + 1) % 16 = 15 then outLast m c ⟨n + 1, hn⟩ hf hl (outAt c n (Nat.lt_of_succ_lt hn)) (resAt m c (n + 1))
    else outMid m c ⟨n + 1, hn⟩ hf hl (outAt c n (Nat.lt_of_succ_lt hn))

/-- What the point before `t` left. -/
abbrev prevOut (c : Dev nD) (t : Fin cfg0.N) : Vec F S512x4096 .f32 := outAt m c (t.val - 1) (Nat.lt_of_le_of_lt (Nat.sub_le _ _) t.isLt)

theorem outAt_first (c : Dev nD) (t : Fin cfg0.N) (hf : t.val % 16 = 0) : outAt m c t.val t.isLt = outFirst m c t hf := by
  obtain ⟨n, hn⟩ := t
  cases n with
  | zero => exact rfl
  | succ n => exact dif_pos hf

theorem outAt_mid (c : Dev nD) (t : Fin cfg0.N) (hf : ¬t.val % 16 = 0) (hl : ¬t.val % 16 = 15) :
    outAt m c t.val t.isLt = outMid m c t hf hl (prevOut m c t) := by
  obtain ⟨n, hn⟩ := t
  cases n with
  | zero => exact absurd (Nat.zero_mod _) hf
  | succ n => exact (dif_neg hf).trans (dif_neg hl)

theorem outAt_last (c : Dev nD) (t : Fin cfg0.N) (hf : ¬t.val % 16 = 0) (hl : t.val % 16 = 15) :
    outAt m c t.val t.isLt = outLast m c t hf hl (prevOut m c t) (resAt m c t.val) := by
  obtain ⟨n, hn⟩ := t
  cases n with
  | zero => exact absurd (Nat.zero_mod _) hf
  | succ n => exact (dif_neg hf).trans (dif_pos hl)

/-! ## What is known between two points -/

/-- The kernel's own semaphore, and the array it copies from. -/
abbrev osem0 : Fin 1 → SemLoc sig := fun j => (![SemLoc.dma 8] : Fin 1 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 8) 0) := by
  rw [Pipeline.ownSems0_eq_of_list c osem0 [0] (by decide) (by decide)]; rfl
def H0 : Finset (Ref sig .tc) := {main_arg2}
theorem H0_sub : H0 ⊆ Pipeline.restRefs sig spec0 := by decide
theorem hbmPts0_eq (c : Dev nD) :
    (bigSep H0 (fun b => ((c : Thread nD τ).loc b) ↦{fullShare} V m c b) : sProp 𝕄) = iprop(resPt c (V m c main_arg2)) := by
  rw [BI.bigSep_eq_bigSepL_of_eq [main_arg2] (by decide) (by decide)]; rfl
theorem PhiD0_eq (c : Dev nD) :
    (Pipeline.ΦD osem0 spec0 H0 (V m) c : sProp 𝕄)
      = iprop(iprop((∃ d, owns (c : Thread nD τ) scr fullShare d)) ∗ (∃ r, prngReg c r) ∗ iprop(semVal ((c : Thread nD τ), SemLoc.dma 8) 0) ∗ iprop(resPt c (V m c main_arg2))) := by
  rw [Pipeline.ΦD_eq, scopedRest0_eq, ownSems00_eq, hbmPts0_eq]; simp only [scr, owns_whole]; try rfl

/-- Before point `n`: at the first point of a row everything is at rest; otherwise the copy of the row's residual
    rows is under way. -/
def Phi (c : Dev nD) (n : ℕ) : sProp 𝕄 :=
  if n % 16 = 0 then Pipeline.ΦD osem0 spec0 H0 (V m) c
  else iprop((∃ r, prngReg c r)
    ∗ (∃ S, flyS c scr S (V m c main_arg2) ((Memref.isWhole_whole cc0_scratch0).unread (resAt m c n))))

theorem Phi_rest (c : Dev nD) (n : ℕ) (h : n % 16 = 0) : Phi m c n = Pipeline.ΦD osem0 spec0 H0 (V m) c := if_pos h
theorem Phi_fly (c : Dev nD) (n : ℕ) (h : ¬n % 16 = 0) : Phi m c n = iprop((∃ r, prngReg c r)
    ∗ (∃ S, flyS c scr S (V m c main_arg2) ((Memref.isWhole_whole cc0_scratch0).unread (resAt m c n)))) := if_neg h

/-- The copy as it is started is the copy of the row's residual rows. -/
theorem fly_start (c : Dev nD) (t : Fin cfg0.N) (hf : t.val % 16 = 0) (f : Buf (Elt F) (scr.view.loc (c : Thread nD τ))) :
    flyS c scr (rows (grid0.coords t) ((first_iff t).mpr hf)).view.set (V m c main_arg2)
        (scr.view.writes (Elt F) f [⟨Rect.whole S512x4096, rowsOf c (grid0.coords t) ((first_iff t).mpr hf) (V m c main_arg2)⟩])
      ⊢ (iprop(∃ S, flyS c scr S (V m c main_arg2) ((Memref.isWhole_whole cc0_scratch0).unread (resAt m c (t.val + 1)))) : sProp 𝕄) := by
  have e : resAt m c (t.val + 1) = rowsOf c (grid0.coords t) ((first_iff t).mpr hf) (V m c main_arg2) := by
    have e' : start (t.val + 1) = t := (start_succ _ (by omega)).trans (start_self t hf)
    unfold resAt; congr 1 <;> simp only [e']
  rw [e, ← (Memref.isWhole_whole cc0_scratch0).eq_unread
    (f := scr.view.writes (Elt F) f [⟨Rect.whole S512x4096, rowsOf c (grid0.coords t) ((first_iff t).mpr hf) (V m c main_arg2)⟩])
    (View.read_writes_whole _ _ _)]
  iintro H
  iexists _; iexact H

/-! ## The pipeline's proof data -/

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t.val t.isLt
  Φ n := Phi m c n.val
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = outAt m c t.val t.isLt := by dsimp only [dats]

/-- An input's staging buffer holds its block at every point, whether it was fetched there or before. -/
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)

/-- Past the first point of a row the output block holds what the point before left. -/
theorem before0_4 (c : Dev nD) (t : Fin cfg0.N) (hf : ¬t.val % 16 = 0) (d) : (dats m 0 c).before 4 t d = prevOut m c t := by
  have hN := size_lt t
  rw [Dat.before_out_kept _ 4 rfl t (by omega) (Bool.eq_false_iff.mpr fun h => by have := (flush0_4 _).mp h; dsimp only at this; omega)
    (fun _ => rfl) (fun _ _ => rfl)]
  dsimp only [dats]

/-! ## The body at any point -/

def bodyPre (c : Dev nD) (t : Fin cfg0.N) : sProp 𝕄 :=
  iprop((dats m 0 c).Φ t.castSucc ∗ (dats m 0 c).owesAt () t.castSucc
    ∗ (∃ d, owns (c : Thread nD τ) (s0 t) fullShare ((dats m 0 c).before 0 t d))
    ∗ (∃ d, owns (c : Thread nD τ) (s1 t) fullShare ((dats m 0 c).before 1 t d))
    ∗ (∃ d, owns (c : Thread nD τ) (s2 t) fullShare ((dats m 0 c).before 2 t d))
    ∗ (∃ d, owns (c : Thread nD τ) (s3 t) fullShare ((dats m 0 c).before 3 t d))
    ∗ (∃ d, owns (c : Thread nD τ) (s4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (s0 t) fullShare ((dats m 0 c).after 0 t)
    ∗ owns (c : Thread nD τ) (s1 t) fullShare ((dats m 0 c).after 1 t)
    ∗ owns (c : Thread nD τ) (s2 t) fullShare ((dats m 0 c).after 2 t)
    ∗ owns (c : Thread nD τ) (s3 t) fullShare ((dats m 0 c).after 3 t)
    ∗ owns (c : Thread nD τ) (s4 t) fullShare ((dats m 0 c).after 4 t))

set_option maxHeartbeats 1200000 in
/-- The body at any point: the inputs hold their blocks, so the run of the kind of point it is applies; what was known
    before the point gives the run the copy's state, and the run gives back what is known after it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [after0_0, after0_1, after0_2, after0_3, after0_4]
  rw [show (dats m 0 c).Φ t.succ = Phi m c (t.val + 1) from rfl, show (dats m 0 c).Φ t.castSucc = Phi m c t.val from rfl]
  unfold Dat.owesAt Pipeline.owesWithin
  rw [show (dats m 0 c).owed t.castSucc = 0 from rfl, show (dats m 0 c).owed t.succ = 0 from rfl]
  have hN := size_lt t
  by_cases hf : t.val % 16 = 0
  · rw [outAt_first m c t hf, Phi_rest m c _ hf, PhiD0_eq, Phi_fly m c _ (by omega)]
    unfold outFirst
    iintro ⟨⟨HS, Hg, Hq, Hr⟩, ⟨%W, -, HW⟩, ⟨%d0, H0⟩, ⟨%d1, H1⟩, ⟨%d2, H2⟩, ⟨%d3, H3⟩, ⟨%d4, H4⟩⟩
    iapply ((atFirst m c t hf).2 _)
    isplitl [H0]; · iexact H0
    isplitl [H1]; · iexact H1
    isplitl [H2]; · iexact H2
    isplitl [H3]; · iexact H3
    isplitl [H4]; · iexists _; iexact H4
    isplitl [HS]; · iexact HS
    isplitl [Hq]; · iexact Hq
    isplitl [Hr]; · iexact Hr
    iintro ⟨H0, H1, H2, H3, ⟨%e4, H4⟩, ⟨%f, Hf⟩⟩
    isplitl [Hg Hf]
    · isplitl [Hg]; · iexact Hg
      iapply (fly_start m c t hf f)
      iexact Hf
    isplitl [HW]
    · iexists W; isplitr; · ipureintro; exact fun _ _ => Or.inl trivial
      iexact HW
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover_first m c t hf)
  · simp only [before0_4 m c t hf]
    rw [Phi_fly m c _ hf]
    by_cases hl : t.val % 16 = 15
    · rw [outAt_last m c t hf hl, Phi_rest m c (t.val + 1) (by omega), PhiD0_eq]
      unfold outLast
      iintro ⟨⟨Hg, ⟨%S, Hf⟩⟩, ⟨%W, -, HW⟩, ⟨%d0, H0⟩, ⟨%d1, H1⟩, ⟨%d2, H2⟩, ⟨%d3, H3⟩, ⟨%d4, H4⟩⟩
      iapply ((atLast m c t hf hl (prevOut m c t) (resAt m c t.val)).2 S W _)
      isplitl [H0]; · iexact H0
      isplitl [H1]; · iexact H1
      isplitl [H2]; · iexact H2
      isplitl [H3]; · iexact H3
      isplitl [H4]; · iexact H4
      isplitl [Hf]; · iexact Hf
      isplitl [HW]; · iexact HW
      iintro ⟨H0, H1, H2, H3, ⟨%e4, H4⟩, HS, Hq, Hr, ⟨%W', HW'⟩⟩
      isplitl [HS Hg Hq Hr]
      · isplitl [HS]; · iexact HS
        isplitl [Hg]; · iexact Hg
        isplitl [Hq]; · iexact Hq
        iexact Hr
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover_last m c t hf hl _ _)
    · rw [outAt_mid m c t hf hl, Phi_fly m c (t.val + 1) (by omega),
        show resAt m c (t.val + 1) = resAt m c t.val by unfold resAt; congr 1 <;> simp only [start_succ t.val (by omega)]]
      unfold outMid
      iintro ⟨HP, ⟨%W, -, HW⟩, ⟨%d0, H0⟩, ⟨%d1, H1⟩, ⟨%d2, H2⟩, ⟨%d3, H3⟩, ⟨%d4, H4⟩⟩
      iapply ((atMid m c t hf hl (prevOut m c t)).2 _)
      isplitl [H0]; · iexact H0
      isplitl [H1]; · iexact H1
      isplitl [H2]; · iexact H2
      isplitl [H3]; · iexact H3
      isplitl [H4]; · iexact H4
      iintro ⟨H0, H1, H2, H3, ⟨%e4, H4⟩⟩
      isplitl [HP]; · iexact HP
      isplitl [HW]
      · iexists W; isplitr; · ipureintro; exact fun _ _ => Or.inl trivial
        iexact HW
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover_mid m c t hf hl _)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The launch, and both frames -/

set_option maxHeartbeats 800000 in
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

set_option backward.isDefEq.respectTransparency.types false in
/-- The launch: the output array ends at what the points left, every other array as it was, every counter at zero. -/
theorem run_main : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := fun c => by rw [show (dats m 0 c).Φ 0 = Phi m c 0 from rfl, Phi_rest m c 0 rfl]; try exact .rfl)
    (hout := fun c => by
      rw [show (dats m 0 c).Φ (Fin.last _) = Phi m c cfg0.N from rfl, Phi_rest m c _ (by rw [show cfg0.N = 256 from N_0])]
      try exact .rfl)

/-- At any values the arguments end as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c =>
    ⟨((h.1 c).1 0).trans (((dats m 0 c).arrAt_in 0 rfl _).trans ((A_eq m c 0).trans (V_main_arg0 m c))),
      ((h.1 c).1 1).trans (((dats m 0 c).arrAt_in 1 rfl _).trans ((A_eq m c 1).trans (V_main_arg1 m c))),
      ((h.1 c).2 main_arg2 (Pipeline.mem_restRefs_of main_arg2 (by decide) (by decide))).trans (V_main_arg2 m c),
      ((h.1 c).1 2).trans (((dats m 0 c).arrAt_in 2 rfl _).trans ((A_eq m c 2).trans (V_main_arg3 m c))),
      ((h.1 c).2 main_arg4 (Pipeline.mem_restRefs_of main_arg4 (by decide) (by decide))).trans (V_main_arg4 m c)⟩, h.2⟩) (run_main m ρ)

end Cert.Down

end
-- ==== Proof.DownVal.lean ====
module

public import proofs.«01_k».proof.Proof.Mm
public import proofs.«01_k».proof.Proof.Down
public import Idealize.ShloMosaic.Lib.Pipeline.ReadBack
public import proofs.«01_k».proof.Proof.Gen.Kernel3
public import proofs.«01_k».proof.Proof.Gen.Reference3Ideal.Run

/-! # The value of the down projection

The partial products of a row of blocks add up to the product over the whole inner axis; the last point of the row then
scales each row by its mean square and adds the residual. -/

@[expose] public section

set_option maxRecDepth 16384

noncomputable section

open Idealize.ShloMosaic Idealize.ShloMosaic.TcCoe Idealize.SL.Sem Idealize.ShloMosaic.StableHlo

namespace Cert.Down

open Cert.Mm Cert.Kernel3Ideal Cert.Kernel3Ideal.Gen

/-- The factor of a row: the inverse root of its mean square, with the norm's epsilon. -/
def scale (z : Fin 4096 → EReal) : EReal :=
  Ideal.rsqrt (Ideal.div (∑ x, z x * z x) (Ideal.ofBits FTy.f32 0x45800000#32) + Ideal.ofBits FTy.f32 0x358637BD#32)

/-- The residual plus the gated, scaled rows. -/
def normed {n : ℕ} (g : (⟨2, ![1, 4096]⟩ : Shape).Idx → EReal) (a r : (⟨2, ![n, 4096]⟩ : Shape).Idx → EReal) :
    (⟨2, ![n, 4096]⟩ : Shape).Idx → EReal :=
  fun y => r y + g (ix2 0 (y 1)) * (a y * scale fun k => a (ix2 (y 0) k))

/-! ## What is computed from what is loaded -/

theorem pay1 (i : S512x4096.Idx) : k0_pay1 (F := Ideal) i = 0 := by
  pointwise [k0_pay1]

theorem pay2 (a : Vec Ideal S512x4096 .f32) (x : Vec Ideal S512x1024 .bf16) (w : Vec Ideal S1024x4096 .bf16) (p : Fin 512) (q : Fin 4096) :
    k0_pay2 (F := Ideal) a x w (ix2 p q) = a (ix2 p q) + prod x w p q := by
  have h : k0_pay2 (F := Ideal) a x w (ix2 p q) = a (ix2 p q) + (0 + prod x w p q) := by
    unfold prod
    pointwise [k0_pay2]
  rw [h, zero_add]

theorem pay3 (v16 v17 : Vec Ideal S1x4096 .f32) (q : Fin 4096) :
    k0_pay3 (F := Ideal) v16 v17 (ix2 0 q) = v16 (ix2 0 q) * v17 (ix2 0 q) := by
  pointwise [k0_pay3]

theorem pay4 (v16 v17 : Vec Ideal S1x4096 .f32) (a r : Vec Ideal S128x4096 .f32) :
    k0_pay4 (F := Ideal) v16 v17 a r = normed (k0_pay3 v16 v17) a r := by
  funext y
  obtain ⟨p, q, rfl⟩ : ∃ (p : Fin 128) (q : Fin 4096), y = ix2 p q := ⟨y 0, y 1, eq_ix2 y⟩
  show _ = r (ix2 p q) + k0_pay3 v16 v17 (ix2 0 q) * (a (ix2 p q) * scale fun k => a (ix2 p k))
  unfold scale
  generalize hg : k0_pay3 v16 v17 = g
  unfold k0_pay4
  rw [hg]
  pointwise

theorem pay6 (v16 v17 : Vec Ideal S1x4096 .f32) (a r : Vec Ideal S128x4096 .f32) :
    k0_pay6 (F := Ideal) r (k0_pay5 v16 v17 a) = normed (k0_pay3 v16 v17) a r := by
  funext y
  obtain ⟨p, q, rfl⟩ : ∃ (p : Fin 128) (q : Fin 4096), y = ix2 p q := ⟨y 0, y 1, eq_ix2 y⟩
  show _ = r (ix2 p q) + k0_pay3 v16 v17 (ix2 0 q) * (a (ix2 p q) * scale fun k => a (ix2 p k))
  unfold scale
  generalize hg : k0_pay3 v16 v17 = g
  unfold k0_pay6 k0_pay5
  rw [hg]
  pointwise

theorem pay7 (g : Vec Ideal S1x4096 .f32) (a r : Vec Ideal S128x4096 .f32) : k0_pay7 (F := Ideal) g a r = normed g a r := by
  funext y
  obtain ⟨p, q, rfl⟩ : ∃ (p : Fin 128) (q : Fin 4096), y = ix2 p q := ⟨y 0, y 1, eq_ix2 y⟩
  show _ = r (ix2 p q) + g (ix2 0 q) * (a (ix2 p q) * scale fun k => a (ix2 p k))
  unfold scale
  pointwise [k0_pay7]

theorem pay8 (g : Vec Ideal S1x4096 .f32) (a r : Vec Ideal S128x4096 .f32) : k0_pay8 (F := Ideal) g a r = normed g a r := by
  funext y
  obtain ⟨p, q, rfl⟩ : ∃ (p : Fin 128) (q : Fin 4096), y = ix2 p q := ⟨y 0, y 1, eq_ix2 y⟩
  show _ = r (ix2 p q) + g (ix2 0 q) * (a (ix2 p q) * scale fun k => a (ix2 p k))
  unfold scale
  pointwise [k0_pay8]

/-! ## What the stores of a last point leave: four chunks of 128 rows, each read before it is written -/

abbrev whole : Rect S512x4096 := Rect.unit (s := S512x4096) ![0, 0] S512x4096.size inb_S512x4096_S512x4096_0_0
abbrev c0 : Rect S512x4096 := Rect.unit (s := S512x4096) ![0, 0] S128x4096.size inb_S512x4096_S128x4096_0_0
abbrev c1 : Rect S512x4096 := Rect.unit (s := S512x4096) ![128, 0] S128x4096.size inb_S512x4096_S128x4096_128_0
abbrev c2 : Rect S512x4096 := Rect.unit (s := S512x4096) ![256, 0] S128x4096.size inb_S512x4096_S128x4096_256_0
abbrev c3 : Rect S512x4096 := Rect.unit (s := S512x4096) ![384, 0] S128x4096.size inb_S512x4096_S128x4096_384_0

section Chunks

variable (v : View sig .tc .vmem S512x4096 .f32) (A : Vec Ideal S512x4096 .f32) (v16 v17 : Vec Ideal S1x4096 .f32)
  (r0 r1 r2 r3 : Vec Ideal S128x4096 .f32)

def left0 : List (View.Piece (Elt Ideal) S512x4096 .f32) := [⟨whole, A⟩]
def left1 : List (View.Piece (Elt Ideal) S512x4096 .f32) :=
  ⟨c0, k0_pay4 v16 v17 (v.readCov (left0 A) c0.toLoadRect) r0⟩ :: left0 A
def left2 : List (View.Piece (Elt Ideal) S512x4096 .f32) :=
  ⟨c1, k0_pay6 r1 (k0_pay5 v16 v17 (v.readCov (left1 v A v16 v17 r0) c1.toLoadRect))⟩ :: left1 v A v16 v17 r0
def left3 : List (View.Piece (Elt Ideal) S512x4096 .f32) :=
  ⟨c2, k0_pay7 (k0_pay3 v16 v17) (v.readCov (left2 v A v16 v17 r0 r1) c2.toLoadRect) r2⟩ :: left2 v A v16 v17 r0 r1
def left4 : List (View.Piece (Elt Ideal) S512x4096 .f32) :=
  ⟨c3, k0_pay8 (k0_pay3 v16 v17) (v.readCov (left3 v A v16 v17 r0 r1 r2) c3.toLoadRect) r3⟩ :: left3 v A v16 v17 r0 r1 r2

/-- The four chunks, each computed from its own rows of the sum. -/
def chunks (g : Vec Ideal S1x4096 .f32) : List (View.Piece (Elt Ideal) S512x4096 .f32) :=
  [⟨c3, normed g (View.ld A c3) r3⟩, ⟨c2, normed g (View.ld A c2) r2⟩, ⟨c1, normed g (View.ld A c1) r1⟩, ⟨c0, normed g (View.ld A c0) r0⟩]

theorem left4_eq : left4 v A v16 v17 r0 r1 r2 r3 = chunks A r0 r1 r2 r3 (k0_pay3 v16 v17) ++ left0 A := by
  have z : ∀ a, (![0, 0] : Fin 2 → ℕ) a = 0 := by intro a; fin_cases a <;> rfl
  have e0 : v.readCov (left0 A) c0.toLoadRect = View.ld A c0 := View.readCov_fill v _ _ _ _ z
  have e1 : v.readCov (left1 v A v16 v17 r0) c1.toLoadRect = View.ld A c1 := by
    unfold left1
    rw [View.readCov_skip v _ _ _ _ (by rfl)]
    exact View.readCov_fill v _ _ _ _ z
  have e2 : v.readCov (left2 v A v16 v17 r0 r1) c2.toLoadRect = View.ld A c2 := by
    unfold left2 left1
    rw [View.readCov_skip v _ _ _ _ (by rfl), View.readCov_skip v _ _ _ _ (by rfl)]
    exact View.readCov_fill v _ _ _ _ z
  have e3 : v.readCov (left3 v A v16 v17 r0 r1 r2) c3.toLoadRect = View.ld A c3 := by
    unfold left3 left2 left1
    rw [View.readCov_skip v _ _ _ _ (by rfl), View.readCov_skip v _ _ _ _ (by rfl), View.readCov_skip v _ _ _ _ (by rfl)]
    exact View.readCov_fill v _ _ _ _ z
  unfold left4 chunks
  rw [e3, pay8]
  unfold left3
  rw [e2, pay7]
  unfold left2
  rw [e1, pay6]
  unfold left1
  rw [e0, pay4]
  rfl

end Chunks

/-- A chunk of the normed rows is the normed chunk. -/
theorem normed_ld (g : Vec Ideal S1x4096 .f32) (A R : Vec Ideal S512x4096 .f32) (o : ℕ)
    (inb : ∀ a, (![o, 0] : Fin 2 → ℕ) a + S128x4096.size a ≤ S512x4096.size a) (x : S128x4096.Idx) :
    normed (n := 128) g (View.ld A (Rect.unit (s := S512x4096) ![o, 0] S128x4096.size inb)) (View.ld R (Rect.unit (s := S512x4096) ![o, 0] S128x4096.size inb)) x
      = normed (n := 512) g A R ((Rect.unit (s := S512x4096) ![o, 0] S128x4096.size inb).emb x) := by
  have e1 : ∀ y : S128x4096.Idx, (((Rect.unit (s := S512x4096) ![o, 0] S128x4096.size inb).emb y : S512x4096.Idx) 1).val = (y 1).val :=
    fun y => Eq.trans (b := 0 + 1 * (y 1).val) rfl (by omega)
  have e0 : ∀ y : S128x4096.Idx, (((Rect.unit (s := S512x4096) ![o, 0] S128x4096.size inb).emb y : S512x4096.Idx) 0).val = o + (y 0).val :=
    fun y => Eq.trans (b := o + 1 * (y 0).val) rfl (by omega)
  unfold normed
  have hg : g (ix2 0 (x 1)) = g (ix2 0 (((Rect.unit (s := S512x4096) ![o, 0] S128x4096.size inb).emb x : S512x4096.Idx) 1)) :=
    congrArg (fun j : Fin 4096 => g (ix2 0 j)) (Fin.ext (e1 x).symm)
  have ha : ∀ k : Fin 4096, View.ld A (Rect.unit (s := S512x4096) ![o, 0] S128x4096.size inb) (ix2 (x 0) k)
      = A (ix2 (((Rect.unit (s := S512x4096) ![o, 0] S128x4096.size inb).emb x : S512x4096.Idx) 0) k) := fun k =>
    at_ix2 A _ _ k ((e0 _).trans (e0 x).symm) (e1 _)
  rw [hg]
  simp only [ha]
  rfl

/-- Reading back the chunks over anything gives the normed rows. -/
theorem read_chunks (v : View sig .tc .vmem S512x4096 .f32) (f : v.ty.Contents (Elt Ideal)) (g : Vec Ideal S1x4096 .f32)
    (A R : Vec Ideal S512x4096 .f32) (L : List (View.Piece (Elt Ideal) S512x4096 .f32)) :
    v.read (Elt Ideal) (v.writes (Elt Ideal) f (chunks A (View.ld R c0) (View.ld R c1) (View.ld R c2) (View.ld R c3) g ++ L)) = normed g A R := by
  funext y
  have hpc : ∀ p ∈ chunks A (View.ld R c0) (View.ld R c1) (View.ld R c2) (View.ld R c3) g, ∀ x : p.1.shape.Idx, p.2 x = normed (n := 512) g A R (p.1.emb x) := by
    intro p hp x
    simp only [chunks, List.mem_cons, List.not_mem_nil, or_false] at hp
    rcases hp with rfl | rfl | rfl | rfl <;> exact normed_ld g A R _ _ x
  have hcov := View.cover_of_tiledL (chunks A (View.ld R c0) (View.ld R c1) (View.ld R c2) (View.ld R c3) g) S128x4096.size (by sl_kernel_rfl) y
  show v.read (Elt Ideal) (v.writes (Elt Ideal) (v.writes (Elt Ideal) f L) (chunks A (View.ld R c0) (View.ld R c1) (View.ld R c2) (View.ld R c3) g)) y = _
  exact View.read_writes_apply_of_pieces v _ (normed (n := 512) g A R) _ hpc y hcov

section Runs

variable (c : Dev nD) (i : grid0.Coords)
  (arg2 : Memref sig .tc .vmem S512x1024 .bf16) (harg2 : arg2.IsWhole)
  (arg3 : Memref sig .tc .vmem S1024x4096 .bf16) (harg3 : arg3.IsWhole)
  (arg5 : Memref sig .tc .vmem S8x24576 .f32) (harg5 : arg5.IsWhole)
  (arg6 : Memref sig .tc .vmem S1x4096 .f32) (harg6 : arg6.IsWhole)
  (arg7 : Memref sig .tc .vmem S512x4096 .f32) (harg7 : arg7.IsWhole)
  (arg8 : Memref sig .tc .vmem S512x4096 .f32) (harg8 : arg8.IsWhole)
  (x0 : Vec Ideal S512x1024 .bf16) (x1 : Vec Ideal S1024x4096 .bf16) (x2 : Vec Ideal S8x24576 .f32) (x3 : Vec Ideal S1x4096 .f32)
  (xo : Vec Ideal S512x4096 .f32) (fh : ResBuf (F := Ideal) c)

/-- The part of the modulation that the gate is. -/
abbrev gateRect : Rect S8x24576 := Rect.unit (s := S8x24576) ![0, 20480] S1x4096.size inb_S8x24576_S1x4096_0_20480

/-- The stores of each kind of point. -/
theorem first_pieces (h0 : first i) (h1 : ¬last i) :
    (runFirst (F := Ideal) c i arg2 harg2 arg3 harg3 arg5 harg5 arg6 harg6 arg7 harg7 arg8 harg8 x0 x1 x2 x3 fh h0 h1).1
    = ⟨whole, k0_pay2 (arg7.view.readCov (left0 (k0_pay1 (F := Ideal))) whole.toLoadRect)
        (View.readAt (Elt Ideal) arg2.view (Rect.unit (s := S512x1024) ![0, 0] S512x1024.size inb_S512x1024_S512x1024_0_0).toLoadRect (harg2.unread x0))
        (View.readAt (Elt Ideal) arg3.view (Rect.unit (s := S1024x4096) ![0, 0] S1024x4096.size inb_S1024x4096_S1024x4096_0_0).toLoadRect (harg3.unread x1))⟩ :: left0 (k0_pay1 (F := Ideal)) := by
  sl_kernel_rfl

theorem mid_pieces (h0 : ¬first i) (h1 : ¬last i) :
    (runMid (F := Ideal) c i arg2 harg2 arg3 harg3 arg5 harg5 arg6 harg6 arg7 harg7 arg8 harg8 x0 x1 x2 x3 xo h0 h1).1
    = left0 (k0_pay2 (View.readAt (Elt Ideal) arg7.view whole.toLoadRect (harg7.unread xo))
        (View.readAt (Elt Ideal) arg2.view (Rect.unit (s := S512x1024) ![0, 0] S512x1024.size inb_S512x1024_S512x1024_0_0).toLoadRect (harg2.unread x0))
        (View.readAt (Elt Ideal) arg3.view (Rect.unit (s := S1024x4096) ![0, 0] S1024x4096.size inb_S1024x4096_S1024x4096_0_0).toLoadRect (harg3.unread x1))) := by
  sl_kernel_rfl

theorem last_pieces (h0 : ¬first i) (h1 : last i) (xr : Vec Ideal S512x4096 .f32) :
    (runLast (F := Ideal) c i arg2 harg2 arg3 harg3 arg5 harg5 arg6 harg6 arg7 harg7 arg8 harg8 x0 x1 x2 x3 xo fh h0 h1 xr).1
    = left4 arg7.view (k0_pay2 (View.readAt (Elt Ideal) arg7.view whole.toLoadRect (harg7.unread xo))
        (View.readAt (Elt Ideal) arg2.view (Rect.unit (s := S512x1024) ![0, 0] S512x1024.size inb_S512x1024_S512x1024_0_0).toLoadRect (harg2.unread x0))
        (View.readAt (Elt Ideal) arg3.view (Rect.unit (s := S1024x4096) ![0, 0] S1024x4096.size inb_S1024x4096_S1024x4096_0_0).toLoadRect (harg3.unread x1)))
      (View.readAt (Elt Ideal) arg5.view gateRect.toLoadRect (harg5.unread x2))
      (View.readAt (Elt Ideal) arg6.view (Rect.unit (s := S1x4096) ![0, 0] S1x4096.size inb_S1x4096_S1x4096_0_0).toLoadRect (harg6.unread x3))
      (View.readAt (Elt Ideal) arg8.view c0.toLoadRect (harg8.unread xr)) (View.readAt (Elt Ideal) arg8.view c1.toLoadRect (harg8.unread xr))
      (View.readAt (Elt Ideal) arg8.view c2.toLoadRect (harg8.unread xr)) (View.readAt (Elt Ideal) arg8.view c3.toLoadRect (harg8.unread xr)) := by
  sl_kernel_rfl

/-- The stores of a last point, in what it is given. -/
theorem last_chunks (h0 : ¬first i) (h1 : last i) (xr : Vec Ideal S512x4096 .f32) :
    (runLast (F := Ideal) c i arg2 harg2 arg3 harg3 arg5 harg5 arg6 harg6 arg7 harg7 arg8 harg8 x0 x1 x2 x3 xo fh h0 h1 xr).1
    = chunks (k0_pay2 xo x0 x1) (View.ld xr c0) (View.ld xr c1) (View.ld xr c2) (View.ld xr c3) (k0_pay3 (View.ld x2 gateRect) x3)
      ++ left0 (k0_pay2 xo x0 x1) := by
  rw [last_pieces]
  simp only [View.readAt_eq_ld, Memref.IsWhole.read_unread]
  rw [View.ld_unit_zero (S := S512x4096) zero2, View.ld_unit_zero (S := S512x1024) zero2, View.ld_unit_zero (S := S1024x4096) zero2,
    View.ld_unit_zero (S := S1x4096) zero2, left4_eq]

end Runs

section Outs

variable (m : (ℓ : Loc nD τ sig) → Buf (Elt Ideal) ℓ) (c : Dev nD) (t : Fin cfg0.N)

theorem outFirst_eq (hf : t.val % 16 = 0) : outFirst m c t hf = k0_pay2 k0_pay1 (iblk m c 0 t) (iblk m c 1 t) := by
  unfold outFirst
  rw [first_pieces, View.read_writes_eq_canon _ _ _ (fun y => ⟨_, List.mem_cons_self, View.mem_set_unit_zero zero2 inb_S512x4096_S512x4096_0_0 y⟩),
    View.canon_cons_unit_lit _ _ _ (by intro a; fin_cases a <;> rfl)]
  unfold left0
  rw [View.readCov_fill _ _ _ _ _ (by intro a; fin_cases a <;> rfl), View.readAt_eq_ld, View.readAt_eq_ld,
    Memref.IsWhole.read_unread, Memref.IsWhole.read_unread,
    View.ld_unit_zero (S := S512x4096) zero2, View.ld_unit_zero (S := S512x1024) zero2, View.ld_unit_zero (S := S1024x4096) zero2]

theorem outMid_eq (hf : ¬t.val % 16 = 0) (hl : ¬t.val % 16 = 15) (xo : Vec Ideal S512x4096 .f32) :
    outMid m c t hf hl xo = k0_pay2 xo (iblk m c 0 t) (iblk m c 1 t) := by
  unfold outMid
  rw [mid_pieces]
  unfold left0
  rw [View.read_writes_eq_canon _ _ _ (fun y => ⟨_, List.mem_cons_self, View.mem_set_unit_zero zero2 inb_S512x4096_S512x4096_0_0 y⟩),
    View.canon_unit_zero zero2, View.readAt_eq_ld, View.readAt_eq_ld, View.readAt_eq_ld,
    Memref.IsWhole.read_unread, Memref.IsWhole.read_unread, Memref.IsWhole.read_unread,
    View.ld_unit_zero (S := S512x4096) zero2, View.ld_unit_zero (S := S512x1024) zero2, View.ld_unit_zero (S := S1024x4096) zero2]

theorem outLast_eq (hf : ¬t.val % 16 = 0) (hl : t.val % 16 = 15) (xo xr : Vec Ideal S512x4096 .f32) :
    outLast m c t hf hl xo xr
      = normed (k0_pay3 (View.ld (iblk m c 2 t : Vec Ideal S8x24576 .f32) gateRect) (iblk m c 3 t)) (k0_pay2 xo (iblk m c 0 t) (iblk m c 1 t)) xr := by
  unfold outLast
  rw [last_chunks]
  exact read_chunks V4 _ _ _ xr _

end Outs

/-! ## The sum over the points of a row -/

section Sum

variable (X : (⟨2, ![8192, 16384]⟩ : Shape).Idx → EReal) (W : (⟨2, ![16384, 4096]⟩ : Shape).Idx → EReal) (i : Fin 8192) (j : Fin 4096)

/-- The summand at `k`, and the sum of the first `n`. -/
def term (k : ℕ) : EReal := if h : k < 16384 then X (ix2 i ⟨k, h⟩) * W (ix2 ⟨k, h⟩ j) else 0
def part (n : ℕ) : EReal := ∑ k ∈ Finset.range n, term X W i j k

theorem part_zero : part X W i j 0 = 0 := Finset.sum_range_zero _

theorem part_full : part X W i j 16384 = prod X W i j := by
  unfold part prod
  rw [Finset.sum_range]
  exact Finset.sum_congr rfl fun k _ => dif_pos k.isLt

/-- A block of 1024 summands extends the sum. -/
theorem part_step (r : ℕ) (hr : r < 16) (x : (⟨2, ![512, 1024]⟩ : Shape).Idx → EReal) (w : (⟨2, ![1024, 4096]⟩ : Shape).Idx → EReal) (p : Fin 512)
    (hx : ∀ (k : Fin 1024) (k' : Fin 16384), k'.val = r * 1024 + k.val → x (ix2 p k) = X (ix2 i k'))
    (hw : ∀ (k : Fin 1024) (k' : Fin 16384), k'.val = r * 1024 + k.val → w (ix2 k j) = W (ix2 k' j)) :
    part X W i j (r * 1024) + prod x w p j = part X W i j ((r + 1) * 1024) := by
  unfold part prod
  rw [Nat.succ_mul, Finset.sum_range_add, Finset.sum_range (n := 1024)]
  refine congrArg _ (Finset.sum_congr rfl fun k _ => ?_)
  have h : r * 1024 + k.val < 16384 := by have := k.isLt; omega
  rw [hx k ⟨_, h⟩ rfl, hw k ⟨_, h⟩ rfl]
  exact Eq.symm (show term X W i j (r * 1024 + k.val) = _ from dif_pos h)

end Sum

/-- The blocks of a point. -/
theorem idx : ∀ t : Fin cfg0.N, win0_0.index t 0 = t.val / 16 ∧ win0_0.index t 1 = t.val % 16 ∧ win0_1.index t 0 = t.val % 16 ∧ win0_1.index t 1 = 0
    ∧ win0_2.index t 0 = 0 ∧ win0_2.index t 1 = 0 ∧ win0_3.index t 0 = 0 ∧ win0_3.index t 1 = 0 ∧ win0_4.index t 0 = t.val / 16 ∧ win0_4.index t 1 = 0
    ∧ (grid0.coords t 0).val = t.val / 16 :=
  (by decide +kernel : ∀ t : Fin grid0.N, win0_0.index t 0 = t.val / 16 ∧ win0_0.index t 1 = t.val % 16 ∧ win0_1.index t 0 = t.val % 16 ∧ win0_1.index t 1 = 0
    ∧ win0_2.index t 0 = 0 ∧ win0_2.index t 1 = 0 ∧ win0_3.index t 0 = 0 ∧ win0_3.index t 1 = 0 ∧ win0_4.index t 0 = t.val / 16 ∧ win0_4.index t 1 = 0
    ∧ (grid0.coords t 0).val = t.val / 16)

section Value

variable (m : (ℓ : Loc nD τ sig) → Buf (Elt Ideal) ℓ) (c : Dev nD)

/-- The arrays that the call takes. -/
abbrev Xa : Vec Ideal S8192x16384 .bf16 := m ((c : Thread nD τ).loc main_arg0)
abbrev Wa : Vec Ideal S16384x4096 .bf16 := m ((c : Thread nD τ).loc main_arg1)
abbrev Ra : Vec Ideal S8192x4096 .f32 := m ((c : Thread nD τ).loc main_arg2)
abbrev Ma : Vec Ideal S8x24576 .f32 := m ((c : Thread nD τ).loc main_arg3)
abbrev Ga : Vec Ideal S4096 .f32 := m ((c : Thread nD τ).loc main_arg4)

theorem iblk0 (t : Fin cfg0.N) (p : Fin 512) (k : Fin 1024) (i : Fin 8192) (k' : Fin 16384) (h : i.val = t.val / 16 * 512 + p.val)
    (hk : k'.val = t.val % 16 * 1024 + k.val) : (iblk m c 0 t : Vec Ideal S512x1024 .bf16) (ix2 p k) = Xa m c (ix2 i k') := by
  blk_simp [iblk]
  exact at_ix2 _ _ i k' (Eq.trans (b := win0_0.index t 0 * 512 + 1 * p.val) rfl (by rw [(idx t).1]; omega))
    (Eq.trans (b := win0_0.index t 1 * 1024 + 1 * k.val) rfl (by rw [(idx t).2.1]; omega))

theorem iblk1 (t : Fin cfg0.N) (k : Fin 1024) (q : Fin 4096) (k' : Fin 16384)
    (hk : k'.val = t.val % 16 * 1024 + k.val) : (iblk m c 1 t : Vec Ideal S1024x4096 .bf16) (ix2 k q) = Wa m c (ix2 k' q) := by
  blk_simp [iblk]
  exact at_ix2 _ _ k' q (Eq.trans (b := win0_1.index t 0 * 1024 + 1 * k.val) rfl (by rw [(idx t).2.2.1]; omega))
    (Eq.trans (b := win0_1.index t 1 * 4096 + 1 * q.val) rfl (by rw [(idx t).2.2.2.1]; omega))

theorem iblk2 (t : Fin cfg0.N) (a : Fin 8) (b : Fin 24576) : (iblk m c 2 t : Vec Ideal S8x24576 .f32) (ix2 a b) = Ma m c (ix2 a b) := by
  blk_simp [iblk]
  exact at_ix2 _ _ a b (Eq.trans (b := win0_2.index t 0 * 8 + 1 * a.val) rfl (by rw [(idx t).2.2.2.2.1]; omega))
    (Eq.trans (b := win0_2.index t 1 * 24576 + 1 * b.val) rfl (by rw [(idx t).2.2.2.2.2.1]; omega))

theorem gate (t : Fin cfg0.N) (q : Fin 4096) :
    View.ld (iblk m c 2 t : Vec Ideal S8x24576 .f32) gateRect (ix2 0 q) = Ma m c (ix2 0 (⟨20480 + q.val, by have := q.isLt; omega⟩ : Fin 24576)) :=
  (at_ix2 (iblk m c 2 t : Vec Ideal S8x24576 .f32) (gateRect.emb (ix2 0 q)) 0 ⟨20480 + q.val, by have := q.isLt; omega⟩ rfl
    (Eq.trans (b := 20480 + 1 * q.val) rfl (by show _ = 20480 + q.val; omega))).trans (iblk2 m c t _ _)

theorem gain (t : Fin cfg0.N) (q : Fin 4096) : (iblk m c 3 t : Vec Ideal S1x4096 .f32) (ix2 0 q) = Ga m c (ix1 q) := by
  have e : V m c main_v0 = shapeCast S1x4096 (Ga m c) shapeCasts_S4096_S1x4096 := by
    unfold V
    after_results
    rfl
  have h : (shapeCast S1x4096 (Ga m c) shapeCasts_S4096_S1x4096 : (⟨2, ![1, 4096]⟩ : Shape).Idx → EReal) (ix2 0 q) = Ga m c (ix1 q) := by
    refine shapeCast_apply (Ga m c) shapeCasts_S4096_S1x4096 (ix2 0 q) (ix1 q) ?_
    rw [Shape.rowMajor_val_two, Shape.rowMajor_val_one]
    show q.val = 0 * 4096 + q.val
    omega
  refine Eq.trans ?_ h
  blk_simp [iblk]
  rw [e]
  exact at_ix2 _ _ 0 q (Eq.trans (b := win0_3.index t 0 * 1 + 1 * 0) rfl (by rw [(idx t).2.2.2.2.2.2.1]; rfl))
    (Eq.trans (b := win0_3.index t 1 * 4096 + 1 * q.val) rfl (by rw [(idx t).2.2.2.2.2.2.2.1]; omega))

/-- The residual rows are those of the row of blocks. -/
theorem resAt_eq (n : ℕ) (hn : n < 256) (p : Fin 512) (q : Fin 4096) (i : Fin 8192) (h : i.val = n / 16 * 512 + p.val) :
    resAt m c n (ix2 p q) = Ra m c (ix2 i q) := by
  have hs : (grid0.coords (start n) 0).val = n / 16 := (idx (start n)).2.2.2.2.2.2.2.2.2.2.trans (by show n / 16 * 16 % 256 / 16 = n / 16; omega)
  have ho := k0_off1_eq (grid0.coords (start n))
  unfold resAt
  rw [V_main_arg2]
  refine Eq.trans (b := Ra m c ((Rect.unit (s := S8192x4096) (k0_off1 (grid0.coords (start n))) S512x4096.size (k0_off1_inb _ (start_first n))).emb (ix2 p q))) rfl ?_
  exact at_ix2 _ _ i q (Eq.trans (b := k0_off1 (grid0.coords (start n)) 0 + 1 * p.val) rfl (by rw [ho, hs]; show 512 * (n / 16) + 1 * p.val = _; omega))
    (Eq.trans (b := k0_off1 (grid0.coords (start n)) 1 + 1 * q.val) rfl (by rw [ho]; show 0 + 1 * q.val = _; omega))

/-- The partial product of a point extends the sum. -/
theorem step (t : Fin cfg0.N) (p : Fin 512) (q : Fin 4096) (i : Fin 8192) (h : i.val = t.val / 16 * 512 + p.val) :
    part (Xa m c) (Wa m c) i q (t.val % 16 * 1024) + prod (iblk m c 0 t : Vec Ideal S512x1024 .bf16) (iblk m c 1 t : Vec Ideal S1024x4096 .bf16) p q
      = part (Xa m c) (Wa m c) i q ((t.val % 16 + 1) * 1024) :=
  part_step _ _ i q _ (Nat.mod_lt _ (by decide)) _ _ p (fun k k' hk => iblk0 m c t p k i k' h hk) (fun k k' hk => iblk1 m c t k q k' hk)

/-- What the output block holds after a point that is not the last of its row: the sum so far. -/
theorem held : ∀ (n : ℕ) (hn : n < cfg0.N), ¬n % 16 = 15 → ∀ (p : Fin 512) (q : Fin 4096) (i : Fin 8192), i.val = n / 16 * 512 + p.val →
    outAt m c n hn (ix2 p q) = part (Xa m c) (Wa m c) i q ((n % 16 + 1) * 1024) := by
  intro n
  induction n with
  | zero =>
    intro hn _ p q i hi
    have h0 : (⟨0, hn⟩ : Fin cfg0.N).val % 16 = 0 := Nat.zero_mod _
    rw [outAt_first m c ⟨0, hn⟩ h0, outFirst_eq, pay2, pay1]
    refine Eq.trans ?_ (step m c ⟨0, hn⟩ p q i hi)
    exact congrArg (· + _) (part_zero _ _ i q).symm
  | succ n ih =>
    intro hn hl p q i hi
    by_cases hf : (n + 1) % 16 = 0
    · rw [outAt_first m c ⟨n + 1, hn⟩ hf, outFirst_eq, pay2, pay1]
      refine Eq.trans ?_ (step m c ⟨n + 1, hn⟩ p q i hi)
      refine congrArg (· + _) ?_
      rw [show (⟨n + 1, hn⟩ : Fin cfg0.N).val % 16 = 0 from hf]
      exact (part_zero _ _ i q).symm
    · rw [outAt_mid m c ⟨n + 1, hn⟩ hf hl, outMid_eq, pay2]
      refine Eq.trans ?_ (step m c ⟨n + 1, hn⟩ p q i hi)
      refine congrArg (· + _) ?_
      refine (ih (Nat.lt_of_succ_lt hn) (by omega) p q i (by omega)).trans ?_
      rw [show n % 16 + 1 = (n + 1) % 16 by omega]

/-- Before the last point of a row adds its block, and after. -/
theorem full (t : Fin cfg0.N) (hl : t.val % 16 = 15) (p : Fin 512) (q : Fin 4096) (i : Fin 8192) (h : i.val = t.val / 16 * 512 + p.val) :
    k0_pay2 (F := Ideal) (prevOut m c t) (iblk m c 0 t) (iblk m c 1 t) (ix2 p q) = prod (Xa m c) (Wa m c) i q := by
  rw [pay2]
  refine (congrArg (· + _) (held m c (t.val - 1) _ (by omega) p q i (by omega))).trans ?_
  rw [show (t.val - 1) % 16 + 1 = t.val % 16 by omega]
  refine (step m c t p q i h).trans ?_
  rw [hl]
  exact part_full _ _ i q

/-- The call's result in closed form. -/
def spec (X : Vec Ideal S8192x16384 .bf16) (W : Vec Ideal S16384x4096 .bf16) (R : Vec Ideal S8192x4096 .f32) (M : Vec Ideal S8x24576 .f32) (G : Vec Ideal S4096 .f32) :
    Vec Ideal S8192x4096 .f32 := fun i =>
  R (ix2 (i 0) (i 1)) + M (ix2 0 (⟨20480 + (i 1).val, by have : (i 1).val < 4096 := (i 1).isLt; omega⟩ : Fin 24576)) * G (ix1 (i 1))
    * (prod X W (i 0) (i 1) * scale fun k => prod X W (i 0) k)

theorem final : (dats m 0 c).arrAt 4 cfg0.N = spec (Xa m c) (Wa m c) (Ra m c) (Ma m c) (Ga m c) := by
  refine (dats m 0 c).arrAt_eq_of_covers 4 _ (by decide +kernel) fun t hf y => ?_
  have hl : t.val % 16 = 15 := by have := (flush0_4 t).mp hf; omega
  rw [after0_4, outAt_last m c t (by omega) hl, outLast_eq]
  have hN := size_lt t
  obtain ⟨p, q, rfl⟩ : ∃ (p : Fin 512) (q : Fin 4096), y = ix2 p q := ⟨y 0, y 1, eq_ix2 y⟩
  have h0 : (((cfg0.win 4).blk t).view.emb (ix2 p q) 0).val = t.val / 16 * 512 + p.val :=
    Eq.trans (b := win0_4.index t 0 * 512 + 1 * p.val) rfl (by rw [(idx t).2.2.2.2.2.2.2.2.1]; omega)
  have h1 : (((cfg0.win 4).blk t).view.emb (ix2 p q) 1).val = q.val :=
    Eq.trans (b := win0_4.index t 1 * 4096 + 1 * q.val) rfl (by rw [(idx t).2.2.2.2.2.2.2.2.2.1]; omega)
  blk_simp
  generalize (win0_4.blk t).view.emb (ix2 p q) = i at *
  have e1 : i 1 = q := Fin.ext h1
  rw [show i = (ix2 (i 0) q : S8192x4096.Idx) from (eq_ix2 i).trans (congrArg (ix2 (i 0)) e1)]
  show resAt m c t.val (ix2 p q) + k0_pay3 (F := Ideal) (View.ld (iblk m c 2 t : Vec Ideal S8x24576 .f32) gateRect) (iblk m c 3 t) (ix2 0 q)
      * (k0_pay2 (F := Ideal) (prevOut m c t) (iblk m c 0 t) (iblk m c 1 t) (ix2 p q)
        * scale fun k => k0_pay2 (F := Ideal) (prevOut m c t) (iblk m c 0 t) (iblk m c 1 t) (ix2 p k)) = _
  rw [pay3, gate, gain, resAt_eq m c t.val hN p q (i 0) h0]
  simp only [full m c t hl p _ (i 0) h0]
  rfl

end Value

/-! ## The frames, and the claim -/

/-- The table of bodies is the same text at both: its two labels are gone through one at a time. -/
theorem bodies_eq {F : FTy → Type} [FloatOps F] : Cert.Kernel3.defs₀ (F := F) = Cert.Kernel3Ideal.defs₀ (F := F) := by
  unfold Cert.Kernel3.defs₀ Cert.Kernel3Ideal.defs₀
  refine congrArg Defs.onTc (funext fun l => funext fun x => ?_)
  match l, x with
  | 0, (_, _) => rfl
  | ⟨_ + 1, h⟩, _ => exact absurd h (Nat.not_lt.2 (Nat.le_add_left _ _))

theorem defs_eq {F : FTy → Type} [FloatOps F] : Cert.Kernel3.defs (F := F) = Cert.Kernel3Ideal.defs (F := F) := by
  unfold Cert.Kernel3.defs Cert.Kernel3Ideal.defs
  rw [bodies_eq]
  rfl

theorem frame_kernel : Cert.quiescent_Kernel3 := by
  intro m ρ _
  rw [defs_eq]
  exact frame (F := Bits) m ρ
theorem frame_ideal : Cert.quiescent_Kernel3Ideal := fun m ρ _ => frame (F := Ideal) m ρ
theorem frame_ref : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- The gain may be multiplied last. -/
theorem gain_last (r g h a s : EReal) : r + g * (a * s * h) = r + g * h * (a * s) := by rw [mul_assoc g, mul_comm h]

theorem same : Cert.algebraic_Kernel3Ideal_Reference3Ideal := by
  intro m g m' g' _ hag
  refine ⟨fun c => spec (Xa m c) (Wa m c) (Ra m c) (Ma m c) (Ga m c), (θ_run Cert.Kernel3Ideal.defs _ _).mono (fun r h c =>
    ⟨((h.1 c).1 4).trans (final m c),
      ((h.1 c).1 0).trans (((dats m 0 c).arrAt_in 0 rfl _).trans ((A_eq m c 0).trans (V_main_arg0 m c))),
      ((h.1 c).1 1).trans (((dats m 0 c).arrAt_in 1 rfl _).trans ((A_eq m c 1).trans (V_main_arg1 m c))),
      ((h.1 c).2 main_arg2 (Pipeline.mem_restRefs_of main_arg2 (by decide) (by decide))).trans (V_main_arg2 m c),
      ((h.1 c).1 2).trans (((dats m 0 c).arrAt_in 2 rfl _).trans ((A_eq m c 2).trans (V_main_arg3 m c))),
      ((h.1 c).2 main_arg4 (Pipeline.mem_restRefs_of main_arg4 (by decide) (by decide))).trans (V_main_arg4 m c)⟩) (run_main m g),
    (θ_run Cert.Reference3Ideal.defs _ _).mono (fun r h c => ?_) (Cert.Reference3Ideal.Value.run (F := Ideal) m' g')⟩
  refine ⟨(h c).1.trans ?_, (h c).2⟩
  rw [(hag c).1, (hag c).2.1, (hag c).2.2.1, (hag c).2.2.2.1, (hag c).2.2.2.2]
  show _ = spec (m ((c : Thread nD τ).loc main_arg0) : Vec Ideal S8192x16384 .bf16) (m ((c : Thread nD τ).loc main_arg1) : Vec Ideal S16384x4096 .bf16)
    (m ((c : Thread nD τ).loc main_arg2) : Vec Ideal S8192x4096 .f32) (m ((c : Thread nD τ).loc main_arg3) : Vec Ideal S8x24576 .f32)
    (m ((c : Thread nD τ).loc main_arg4) : Vec Ideal S4096 .f32)
  generalize (m ((c : Thread nD τ).loc main_arg0) : Vec Ideal S8192x16384 .bf16) = X
  generalize (m ((c : Thread nD τ).loc main_arg1) : Vec Ideal S16384x4096 .bf16) = W
  generalize (m ((c : Thread nD τ).loc main_arg2) : Vec Ideal S8192x4096 .f32) = R
  generalize (m ((c : Thread nD τ).loc main_arg3) : Vec Ideal S8x24576 .f32) = M
  generalize (m ((c : Thread nD τ).loc main_arg4) : Vec Ideal S4096 .f32) = G
  funext i
  obtain ⟨p, q, rfl⟩ : ∃ (p : Fin 8192) (q : Fin 4096), i = ix2 p q := ⟨i 0, i 1, eq_ix2 i⟩
  refine Eq.trans ?_ (gain_last (R (ix2 p q)) (M (ix2 0 (⟨20480 + q.val, by have := q.isLt; omega⟩ : Fin 24576))) (G (ix1 q))
    (prod X W p q) (scale fun k => prod X W p k))
  unfold scale prod
  pointwise

end Cert.Down

end
-- ==== Proof.lean ====
module

public import proofs.«01_k».proof.Defs
public import proofs.«01_k».proof.Proof.DownVal

@[expose] public section

noncomputable section

namespace Cert.Proof

open Cert.Mm

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts, Cert.Pre_finite.Gen.facts,
    Cert.Scan.frame_kernel, Cert.Scan.frame_ideal, Cert.Scan.frame_ideal_pre, Cert.Scan.frame_ref, Cert.Scan.frame_ref_pre,
    Call2.frame_kernel, Call2.frame_ideal, Call2.frame_ref, Cert.Down.frame_kernel, Cert.Down.frame_ideal, Cert.Down.frame_ref,
    Call4.frame_kernel, Call4.frame_ideal, Call4.frame_ref, Call5.frame_kernel, Call5.frame_ideal, Call5.frame_ref, Call6.frame_kernel, Call6.frame_ideal, Call6.frame_ref,
    trivial, Cert.Scan.same, trivial, Call2.same, trivial, Cert.Down.same, trivial, Call4.same, trivial, Call5.same, trivial, Call6.same⟩

end Cert.Proof

end
